-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40000x12 : Shape := ⟨2, ![40000, 12]⟩
abbrev S2x640000 : Shape := ⟨2, ![2, 640000]⟩
abbrev S12x96 : Shape := ⟨2, ![12, 96]⟩
abbrev S1x8x12 : Shape := ⟨3, ![1, 8, 12]⟩
abbrev S12 : Shape := ⟨1, ![12]⟩
abbrev S128x10000 : Shape := ⟨2, ![128, 10000]⟩
abbrev S128x32 : Shape := ⟨2, ![128, 32]⟩
abbrev S128 : Shape := ⟨1, ![128]⟩
abbrev S512x32 : Shape := ⟨2, ![512, 32]⟩
abbrev S512x128 : Shape := ⟨2, ![512, 128]⟩
abbrev S512 : Shape := ⟨1, ![512]⟩
abbrev S90000x128 : Shape := ⟨2, ![90000, 128]⟩
abbrev S90000 : Shape := ⟨1, ![90000]⟩
abbrev S40000 : Shape := ⟨1, ![40000]⟩
abbrev S1x40000 : Shape := ⟨2, ![1, 40000]⟩
abbrev S2x40000 : Shape := ⟨2, ![2, 40000]⟩
abbrev S2x680000 : Shape := ⟨2, ![2, 680000]⟩
abbrev S1x680000 : Shape := ⟨2, ![1, 680000]⟩
abbrev S680000 : Shape := ⟨1, ![680000]⟩
abbrev S40000x96 : Shape := ⟨2, ![40000, 96]⟩
abbrev S40000x8x12 : Shape := ⟨3, ![40000, 8, 12]⟩
abbrev S_ : Shape := ⟨0, ![]⟩
abbrev S40000x8 : Shape := ⟨2, ![40000, 8]⟩
abbrev S680000x1 : Shape := ⟨2, ![680000, 1]⟩
abbrev S680000x8 : Shape := ⟨2, ![680000, 8]⟩
abbrev S680000x8x12 : Shape := ⟨3, ![680000, 8, 12]⟩
abbrev S680000x8x1 : Shape := ⟨3, ![680000, 8, 1]⟩
abbrev S1x12 : Shape := ⟨2, ![1, 12]⟩
abbrev S4x10000x12 : Shape := ⟨3, ![4, 10000, 12]⟩
abbrev S12x4x10000 : Shape := ⟨3, ![12, 4, 10000]⟩
abbrev S4x32 : Shape := ⟨2, ![4, 32]⟩
abbrev S12x4x32 : Shape := ⟨3, ![12, 4, 32]⟩
abbrev S1x4x10000 : Shape := ⟨3, ![1, 4, 10000]⟩
abbrev S4x10000 : Shape := ⟨2, ![4, 10000]⟩
abbrev S10000x128 : Shape := ⟨2, ![10000, 128]⟩
abbrev S4x128 : Shape := ⟨2, ![4, 128]⟩
abbrev S32x128 : Shape := ⟨2, ![32, 128]⟩
abbrev S1x128 : Shape := ⟨2, ![1, 128]⟩
abbrev S1x4x32 : Shape := ⟨3, ![1, 4, 32]⟩
abbrev S12x4x128 : Shape := ⟨3, ![12, 4, 128]⟩
abbrev S32x512 : Shape := ⟨2, ![32, 512]⟩
abbrev S4x512 : Shape := ⟨2, ![4, 512]⟩
abbrev S128x512 : Shape := ⟨2, ![128, 512]⟩
abbrev S1x512 : Shape := ⟨2, ![1, 512]⟩
abbrev S1x4x128 : Shape := ⟨3, ![1, 4, 128]⟩
abbrev S4x90112 : Shape := ⟨2, ![4, 90112]⟩
abbrev S1024x128 : Shape := ⟨2, ![1024, 128]⟩
abbrev S1024 : Shape := ⟨1, ![1024]⟩
abbrev S4x1024 : Shape := ⟨2, ![4, 1024]⟩
abbrev S1x1024 : Shape := ⟨2, ![1, 1024]⟩
abbrev S4x90000 : Shape := ⟨2, ![4, 90000]⟩
abbrev S4x10000x9 : Shape := ⟨3, ![4, 10000, 9]⟩
abbrev S40000x9 : Shape := ⟨2, ![40000, 9]⟩

abbrev nBuf : Space → Nat
  | .hbm => 258
  | .vmem => 7
  | .smem => 0
  | _ => 0

abbrev hbmTy0_0 (i : Nat) : BufTy := match i % 128 with
  | 0 => ⟨S40000x12, .f32⟩
  | 1 => ⟨S2x640000, .i32⟩
  | 2 => ⟨S12x96, .f32⟩
  | 3 => ⟨S1x8x12, .f32⟩
  | 4 => ⟨S1x8x12, .f32⟩
  | 5 => ⟨S12, .f32⟩
  | 6 => ⟨S128x10000, .f32⟩
  | 7 => ⟨S128x32, .f32⟩
  | 8 => ⟨S128, .f32⟩
  | 9 => ⟨S128, .f32⟩
  | 10 => ⟨S512x32, .f32⟩
  | 11 => ⟨S512x128, .f32⟩
  | 12 => ⟨S512, .f32⟩
  | 13 => ⟨S512, .f32⟩
  | 14 => ⟨S90000x128, .f32⟩
  | 15 => ⟨S90000, .f32⟩
  | 16 => ⟨S40000, .i32⟩
  | 17 => ⟨S1x40000, .i32⟩
  | 18 => ⟨S1x40000, .i32⟩
  | 19 => ⟨S2x40000, .i32⟩
  | 20 => ⟨S2x680000, .i32⟩
  | 21 => ⟨S1x680000, .i32⟩
  | 22 => ⟨S680000, .i32⟩
  | 23 => ⟨S1x680000, .i32⟩
  | 24 => ⟨S680000, .i32⟩
  | 25 => ⟨S40000x96, .f32⟩
  | 26 => ⟨S40000x8x12, .f32⟩
  | 27 => ⟨S40000x8x12, .f32⟩
  | 28 => ⟨S40000x8x12, .f32⟩
  | 29 => ⟨S_, .f32⟩
  | 30 => ⟨S40000x8, .f32⟩
  | 31 => ⟨S40000x8x12, .f32⟩
  | 32 => ⟨S40000x8x12, .f32⟩
  | 33 => ⟨S_, .f32⟩
  | 34 => ⟨S40000x8, .f32⟩
  | 35 => ⟨S_, .i32⟩
  | 36 => ⟨S680000, .i32⟩
  | 37 => ⟨S680000, .i1⟩
  | 38 => ⟨S_, .i32⟩
  | 39 => ⟨S680000, .i32⟩
  | 40 => ⟨S680000, .i32⟩
  | 41 => ⟨S680000, .i32⟩
  | 42 => ⟨S680000x1, .i32⟩
  | 43 => ⟨S680000x8, .f32⟩
  | 44 => ⟨S_, .i32⟩
  | 45 => ⟨S680000, .i32⟩
  | 46 => ⟨S680000, .i1⟩
  | 47 => ⟨S_, .i32⟩
  | 48 => ⟨S680000, .i32⟩
  | 49 => ⟨S680000, .i32⟩
  | 50 => ⟨S680000, .i32⟩
  | 51 => ⟨S680000x1, .i32⟩
  | 52 => ⟨S680000x8, .f32⟩
  | 53 => ⟨S680000x8, .f32⟩
  | 54 => ⟨S_, .f32⟩
  | 55 => ⟨S_, .f32⟩
  | 56 => ⟨S680000x8, .f32⟩
  | 57 => ⟨S680000x8, .i1⟩
  | 58 => ⟨S_, .f32⟩
  | 59 => ⟨S680000x8, .f32⟩
  | 60 => ⟨S680000x8, .f32⟩
  | 61 => ⟨S680000x8, .f32⟩
  | 62 => ⟨S680000x8, .f32⟩
  | 63 => ⟨S_, .f32⟩
  | 64 => ⟨S40000x8, .f32⟩
  | 65 => ⟨S680000x1, .i32⟩
  | 66 => ⟨S40000x8, .f32⟩
  | 67 => ⟨S_, .i32⟩
  | 68 => ⟨S680000, .i32⟩
  | 69 => ⟨S680000, .i1⟩
  | 70 => ⟨S_, .i32⟩
  | 71 => ⟨S680000, .i32⟩
  | 72 => ⟨S680000, .i32⟩
  | 73 => ⟨S680000, .i32⟩
  | 74 => ⟨S680000x1, .i32⟩
  | 75 => ⟨S680000x8, .f32⟩
  | 76 => ⟨S_, .f32⟩
  | 77 => ⟨S680000x8, .f32⟩
  | 78 => ⟨S680000x8, .f32⟩
  | 79 => ⟨S680000x8, .f32⟩
  | 80 => ⟨S_, .i32⟩
  | 81 => ⟨S680000, .i32⟩
  | 82 => ⟨S680000, .i1⟩
  | 83 => ⟨S_, .i32⟩
  | 84 => ⟨S680000, .i32⟩
  | 85 => ⟨S680000, .i32⟩
  | 86 => ⟨S680000, .i32⟩
  | 87 => ⟨S680000x1, .i32⟩
  | 88 => ⟨S680000x8x12, .f32⟩
  | 89 => ⟨S680000x8x1, .f32⟩
  | 90 => ⟨S680000x8x12, .f32⟩
  | 91 => ⟨S680000x8x12, .f32⟩
  | 92 => ⟨S_, .f32⟩
  | 93 => ⟨S40000x8x12, .f32⟩
  | 94 => ⟨S680000x1, .i32⟩
  | 95 => ⟨S40000x8x12, .f32⟩
  | 96 => ⟨S_, .f32⟩
  | 97 => ⟨S40000x12, .f32⟩
  | 98 => ⟨S_, .f32⟩
  | 99 => ⟨S40000x12, .f32⟩
  | 100 => ⟨S40000x12, .f32⟩
  | 101 => ⟨S1x12, .f32⟩
  | 102 => ⟨S40000x12, .f32⟩
  | 103 => ⟨S40000x12, .f32⟩
  | 104 => ⟨S4x10000x12, .f32⟩
  | 105 => ⟨S12x4x10000, .f32⟩
  | 106 => ⟨S_, .f32⟩
  | 107 => ⟨S4x32, .f32⟩
  | 108 => ⟨S_, .f32⟩
  | 109 => ⟨S4x32, .f32⟩
  | 110 => ⟨S_, .f32⟩
  | 111 => ⟨S12x4x32, .f32⟩
  | 112 => ⟨S_, .i32⟩
  | 113 => ⟨S12x4x10000, .f32⟩
  | 114 => ⟨S128x10000, .f32⟩
  | 115 => ⟨S128x32, .f32⟩
  | 116 => ⟨S128, .f32⟩
  | 117 => ⟨S128, .f32⟩
  | 118 => ⟨S_, .i32⟩
  | 119 => ⟨S4x32, .f32⟩
  | 120 => ⟨S4x32, .f32⟩
  | 121 => ⟨S12x4x32, .f32⟩
  | 122 => ⟨S_, .i32⟩
  | 123 => ⟨S_, .i1⟩
  | 124 => ⟨S_, .i32⟩
  | 125 => ⟨S_, .i32⟩
  | 126 => ⟨S1x4x10000, .f32⟩
  | 127 => ⟨S4x10000, .f32⟩
  | _ => ⟨S40000x12, .f32⟩

abbrev hbmTy0_1 (i : Nat) : BufTy := match i % 128 with
  | 0 => ⟨S10000x128, .f32⟩
  | 1 => ⟨S4x128, .f32⟩
  | 2 => ⟨S32x128, .f32⟩
  | 3 => ⟨S4x128, .f32⟩
  | 4 => ⟨S4x128, .f32⟩
  | 5 => ⟨S1x128, .f32⟩
  | 6 => ⟨S4x128, .f32⟩
  | 7 => ⟨S4x128, .f32⟩
  | 8 => ⟨S1x128, .f32⟩
  | 9 => ⟨S4x128, .f32⟩
  | 10 => ⟨S4x128, .f32⟩
  | 11 => ⟨S4x32, .f32⟩
  | 12 => ⟨S4x32, .f32⟩
  | 13 => ⟨S4x32, .f32⟩
  | 14 => ⟨S4x32, .f32⟩
  | 15 => ⟨S4x32, .f32⟩
  | 16 => ⟨S4x32, .f32⟩
  | 17 => ⟨S_, .f32⟩
  | 18 => ⟨S4x32, .f32⟩
  | 19 => ⟨S4x32, .f32⟩
  | 20 => ⟨S_, .f32⟩
  | 21 => ⟨S4x32, .f32⟩
  | 22 => ⟨S4x32, .f32⟩
  | 23 => ⟨S4x32, .f32⟩
  | 24 => ⟨S4x32, .f32⟩
  | 25 => ⟨S4x32, .f32⟩
  | 26 => ⟨S_, .f32⟩
  | 27 => ⟨S4x32, .f32⟩
  | 28 => ⟨S4x32, .f32⟩
  | 29 => ⟨S_, .f32⟩
  | 30 => ⟨S4x32, .f32⟩
  | 31 => ⟨S4x32, .f32⟩
  | 32 => ⟨S4x32, .f32⟩
  | 33 => ⟨S4x32, .f32⟩
  | 34 => ⟨S4x32, .f32⟩
  | 35 => ⟨S4x32, .f32⟩
  | 36 => ⟨S4x32, .f32⟩
  | 37 => ⟨S_, .f32⟩
  | 38 => ⟨S4x32, .f32⟩
  | 39 => ⟨S4x32, .f32⟩
  | 40 => ⟨S_, .f32⟩
  | 41 => ⟨S4x32, .f32⟩
  | 42 => ⟨S4x32, .f32⟩
  | 43 => ⟨S4x32, .f32⟩
  | 44 => ⟨S4x32, .f32⟩
  | 45 => ⟨S1x4x32, .f32⟩
  | 46 => ⟨S_, .i32⟩
  | 47 => ⟨S_, .i32⟩
  | 48 => ⟨S12x4x32, .f32⟩
  | 49 => ⟨S_, .i32⟩
  | 50 => ⟨S_, .i32⟩
  | 51 => ⟨S_, .f32⟩
  | 52 => ⟨S4x128, .f32⟩
  | 53 => ⟨S_, .f32⟩
  | 54 => ⟨S4x128, .f32⟩
  | 55 => ⟨S_, .f32⟩
  | 56 => ⟨S12x4x128, .f32⟩
  | 57 => ⟨S_, .i32⟩
  | 58 => ⟨S12x4x32, .f32⟩
  | 59 => ⟨S512x32, .f32⟩
  | 60 => ⟨S512x128, .f32⟩
  | 61 => ⟨S512, .f32⟩
  | 62 => ⟨S512, .f32⟩
  | 63 => ⟨S_, .i32⟩
  | 64 => ⟨S4x128, .f32⟩
  | 65 => ⟨S4x128, .f32⟩
  | 66 => ⟨S12x4x128, .f32⟩
  | 67 => ⟨S_, .i32⟩
  | 68 => ⟨S_, .i1⟩
  | 69 => ⟨S_, .i32⟩
  | 70 => ⟨S_, .i32⟩
  | 71 => ⟨S1x4x32, .f32⟩
  | 72 => ⟨S4x32, .f32⟩
  | 73 => ⟨S32x512, .f32⟩
  | 74 => ⟨S4x512, .f32⟩
  | 75 => ⟨S128x512, .f32⟩
  | 76 => ⟨S4x512, .f32⟩
  | 77 => ⟨S4x512, .f32⟩
  | 78 => ⟨S1x512, .f32⟩
  | 79 => ⟨S4x512, .f32⟩
  | 80 => ⟨S4x512, .f32⟩
  | 81 => ⟨S1x512, .f32⟩
  | 82 => ⟨S4x512, .f32⟩
  | 83 => ⟨S4x512, .f32⟩
  | 84 => ⟨S4x128, .f32⟩
  | 85 => ⟨S4x128, .f32⟩
  | 86 => ⟨S4x128, .f32⟩
  | 87 => ⟨S4x128, .f32⟩
  | 88 => ⟨S4x128, .f32⟩
  | 89 => ⟨S4x128, .f32⟩
  | 90 => ⟨S_, .f32⟩
  | 91 => ⟨S4x128, .f32⟩
  | 92 => ⟨S4x128, .f32⟩
  | 93 => ⟨S_, .f32⟩
  | 94 => ⟨S4x128, .f32⟩
  | 95 => ⟨S4x128, .f32⟩
  | 96 => ⟨S4x128, .f32⟩
  | 97 => ⟨S4x128, .f32⟩
  | 98 => ⟨S4x128, .f32⟩
  | 99 => ⟨S_, .f32⟩
  | 100 => ⟨S4x128, .f32⟩
  | 101 => ⟨S4x128, .f32⟩
  | 102 => ⟨S_, .f32⟩
  | 103 => ⟨S4x128, .f32⟩
  | 104 => ⟨S4x128, .f32⟩
  | 105 => ⟨S4x128, .f32⟩
  | 106 => ⟨S4x128, .f32⟩
  | 107 => ⟨S4x128, .f32⟩
  | 108 => ⟨S4x128, .f32⟩
  | 109 => ⟨S4x128, .f32⟩
  | 110 => ⟨S_, .f32⟩
  | 111 => ⟨S4x128, .f32⟩
  | 112 => ⟨S4x128, .f32⟩
  | 113 => ⟨S_, .f32⟩
  | 114 => ⟨S4x128, .f32⟩
  | 115 => ⟨S4x128, .f32⟩
  | 116 => ⟨S4x128, .f32⟩
  | 117 => ⟨S4x128, .f32⟩
  | 118 => ⟨S1x4x128, .f32⟩
  | 119 => ⟨S_, .i32⟩
  | 120 => ⟨S_, .i32⟩
  | 121 => ⟨S12x4x128, .f32⟩
  | 122 => ⟨S_, .i32⟩
  | 123 => ⟨S_, .i32⟩
  | 124 => ⟨S1x4x128, .f32⟩
  | 125 => ⟨S4x128, .f32⟩
  | 126 => ⟨S4x90112, .f32⟩
  | 127 => ⟨S4x90000, .f32⟩
  | _ => ⟨S40000x12, .f32⟩

abbrev hbmTy0_2 (i : Nat) : BufTy := match i % 128 with
  | 0 => ⟨S4x10000x9, .f32⟩
  | 1 => ⟨S40000x9, .f32⟩
  | _ => ⟨S40000x12, .f32⟩

abbrev hbmTy (i : Nat) : BufTy := match i / 128 with
  | 0 => hbmTy0_0 i
  | 1 => hbmTy0_1 i
  | 2 => hbmTy0_2 i
  | _ => ⟨S40000x12, .f32⟩

abbrev bufTy : (tb : Table) → Fin (tcTables nBuf tb) → BufTy
  | .hbm, ⟨i, _⟩ => hbmTy i
  | .local _ .vmem, ⟨0, _⟩ => ⟨S4x128, .f32⟩
  | .local _ .vmem, ⟨1, _⟩ => ⟨S1024x128, .f32⟩
  | .local _ .vmem, ⟨2, _⟩ => ⟨S1024x128, .f32⟩
  | .local _ .vmem, ⟨3, _⟩ => ⟨S1024, .f32⟩
  | .local _ .vmem, ⟨4, _⟩ => ⟨S1024, .f32⟩
  | .local _ .vmem, ⟨5, _⟩ => ⟨S4x1024, .f32⟩
  | .local _ .vmem, ⟨6, _⟩ => ⟨S4x1024, .f32⟩
  | _, _ => ⟨S40000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v32 : Ref sig .tc := ⟨.hbm, 61, rfl⟩
abbrev main_v33 : Ref sig .tc := ⟨.hbm, 62, rfl⟩
abbrev main_cst_5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_9 : Ref sig .tc := ⟨.hbm, 80, rfl⟩
abbrev main_v47 : Ref sig .tc := ⟨.hbm, 81, rfl⟩
abbrev main_v48 : Ref sig .tc := ⟨.hbm, 82, rfl⟩
abbrev main_c_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_cst_13 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_cst_16 : Ref sig .tc := ⟨.hbm, 110, rfl⟩
abbrev main_v70 : Ref sig .tc := ⟨.hbm, 111, rfl⟩
abbrev main_c_17 : Ref sig .tc := ⟨.hbm, 112, rfl⟩
abbrev main_v71_0 : Ref sig .tc := ⟨.hbm, 113, rfl⟩
abbrev main_v71_1 : Ref sig .tc := ⟨.hbm, 114, rfl⟩
abbrev main_v71_2 : Ref sig .tc := ⟨.hbm, 115, rfl⟩
abbrev main_v71_3 : Ref sig .tc := ⟨.hbm, 116, rfl⟩
abbrev main_v71_4 : Ref sig .tc := ⟨.hbm, 117, rfl⟩
abbrev main_v71_5 : Ref sig .tc := ⟨.hbm, 118, rfl⟩
abbrev main_v71_6 : Ref sig .tc := ⟨.hbm, 119, rfl⟩
abbrev main_v71_7 : Ref sig .tc := ⟨.hbm, 120, rfl⟩
abbrev main_v71_8 : Ref sig .tc := ⟨.hbm, 121, rfl⟩
abbrev main_while0c_c_30 : Ref sig .tc := ⟨.hbm, 122, rfl⟩
abbrev main_while0c_v82 : Ref sig .tc := ⟨.hbm, 123, rfl⟩
abbrev main_while0b_call1_c : Ref sig .tc := ⟨.hbm, 124, rfl⟩
abbrev main_while0b_call1_c_0 : Ref sig .tc := ⟨.hbm, 125, rfl⟩
abbrev main_while0b_call1_v0 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_v99 : Ref sig .tc := ⟨.hbm, 144, rfl⟩
abbrev main_while0b_cst_30 : Ref sig .tc := ⟨.hbm, 145, rfl⟩
abbrev main_while0b_v100 : Ref sig .tc := ⟨.hbm, 146, rfl⟩
abbrev main_while0b_v101 : Ref sig .tc := ⟨.hbm, 147, rfl⟩
abbrev main_while0b_cst_31 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_cst_32 : Ref sig .tc := ⟨.hbm, 154, rfl⟩
abbrev main_while0b_v107 : Ref sig .tc := ⟨.hbm, 155, rfl⟩
abbrev main_while0b_v108 : Ref sig .tc := ⟨.hbm, 156, rfl⟩
abbrev main_while0b_cst_33 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_cst_34 : Ref sig .tc := ⟨.hbm, 165, rfl⟩
abbrev main_while0b_v116 : Ref sig .tc := ⟨.hbm, 166, rfl⟩
abbrev main_while0b_v117 : Ref sig .tc := ⟨.hbm, 167, rfl⟩
abbrev main_while0b_cst_35 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_call2_v0 : Ref sig .tc := ⟨.hbm, 173, rfl⟩
abbrev main_while0b_call2_c : Ref sig .tc := ⟨.hbm, 174, rfl⟩
abbrev main_while0b_call2_c_0 : Ref sig .tc := ⟨.hbm, 175, rfl⟩
abbrev main_while0b_v122 : Ref sig .tc := ⟨.hbm, 176, rfl⟩
abbrev main_while0b_c_36 : Ref sig .tc := ⟨.hbm, 177, rfl⟩
abbrev main_while0b_v123 : Ref sig .tc := ⟨.hbm, 178, rfl⟩
abbrev main_cst_18 : Ref sig .tc := ⟨.hbm, 179, rfl⟩
abbrev main_v72 : Ref sig .tc := ⟨.hbm, 180, rfl⟩
abbrev main_cst_19 : Ref sig .tc := ⟨.hbm, 181, rfl⟩
abbrev main_v73 : Ref sig .tc := ⟨.hbm, 182, rfl⟩
abbrev main_cst_20 : Ref sig .tc := ⟨.hbm, 183, rfl⟩
abbrev main_v74 : Ref sig .tc := ⟨.hbm, 184, rfl⟩
abbrev main_c_21 : Ref sig .tc := ⟨.hbm, 185, rfl⟩
abbrev main_v75_0 : Ref sig .tc := ⟨.hbm, 186, rfl⟩
abbrev main_v75_1 : Ref sig .tc := ⟨.hbm, 187, rfl⟩
abbrev main_v75_2 : Ref sig .tc := ⟨.hbm, 188, rfl⟩
abbrev main_v75_3 : Ref sig .tc := ⟨.hbm, 189, rfl⟩
abbrev main_v75_4 : Ref sig .tc := ⟨.hbm, 190, rfl⟩
abbrev main_v75_5 : Ref sig .tc := ⟨.hbm, 191, rfl⟩
abbrev main_v75_6 : Ref sig .tc := ⟨.hbm, 192, rfl⟩
abbrev main_v75_7 : Ref sig .tc := ⟨.hbm, 193, rfl⟩
abbrev main_v75_8 : Ref sig .tc := ⟨.hbm, 194, rfl⟩
abbrev main_while1c_c_30 : Ref sig .tc := ⟨.hbm, 195, rfl⟩
abbrev main_while1c_v82 : Ref sig .tc := ⟨.hbm, 196, rfl⟩
abbrev main_while1b_call3_c : Ref sig .tc := ⟨.hbm, 197, rfl⟩
abbrev main_while1b_call3_c_0 : Ref sig .tc := ⟨.hbm, 198, rfl⟩
abbrev main_while1b_call3_v0 : Ref sig .tc := ⟨.hbm, 199, rfl⟩
abbrev main_while1b_v82 : Ref sig .tc := ⟨.hbm, 200, rfl⟩
abbrev main_while1b_v83 : Ref sig .tc := ⟨.hbm, 201, rfl⟩
abbrev main_while1b_v84 : Ref sig .tc := ⟨.hbm, 202, rfl⟩
abbrev main_while1b_v85 : Ref sig .tc := ⟨.hbm, 203, rfl⟩
abbrev main_while1b_v86 : Ref sig .tc := ⟨.hbm, 204, rfl⟩
abbrev main_while1b_v87 : Ref sig .tc := ⟨.hbm, 205, rfl⟩
abbrev main_while1b_v88 : Ref sig .tc := ⟨.hbm, 206, rfl⟩
abbrev main_while1b_v89 : Ref sig .tc := ⟨.hbm, 207, rfl⟩
abbrev main_while1b_v90 : Ref sig .tc := ⟨.hbm, 208, rfl⟩
abbrev main_while1b_v91 : Ref sig .tc := ⟨.hbm, 209, rfl⟩
abbrev main_while1b_v92 : Ref sig .tc := ⟨.hbm, 210, rfl⟩
abbrev main_while1b_v93 : Ref sig .tc := ⟨.hbm, 211, rfl⟩
abbrev main_while1b_v94 : Ref sig .tc := ⟨.hbm, 212, rfl⟩
abbrev main_while1b_v95 : Ref sig .tc := ⟨.hbm, 213, rfl⟩
abbrev main_while1b_v96 : Ref sig .tc := ⟨.hbm, 214, rfl⟩
abbrev main_while1b_v97 : Ref sig .tc := ⟨.hbm, 215, rfl⟩
abbrev main_while1b_v98 : Ref sig .tc := ⟨.hbm, 216, rfl⟩
abbrev main_while1b_v99 : Ref sig .tc := ⟨.hbm, 217, rfl⟩
abbrev main_while1b_cst_30 : Ref sig .tc := ⟨.hbm, 218, rfl⟩
abbrev main_while1b_v100 : Ref sig .tc := ⟨.hbm, 219, rfl⟩
abbrev main_while1b_v101 : Ref sig .tc := ⟨.hbm, 220, rfl⟩
abbrev main_while1b_cst_31 : Ref sig .tc := ⟨.hbm, 221, rfl⟩
abbrev main_while1b_v102 : Ref sig .tc := ⟨.hbm, 222, rfl⟩
abbrev main_while1b_v103 : Ref sig .tc := ⟨.hbm, 223, rfl⟩
abbrev main_while1b_v104 : Ref sig .tc := ⟨.hbm, 224, rfl⟩
abbrev main_while1b_v105 : Ref sig .tc := ⟨.hbm, 225, rfl⟩
abbrev main_while1b_v106 : Ref sig .tc := ⟨.hbm, 226, rfl⟩
abbrev main_while1b_cst_32 : Ref sig .tc := ⟨.hbm, 227, rfl⟩
abbrev main_while1b_v107 : Ref sig .tc := ⟨.hbm, 228, rfl⟩
abbrev main_while1b_v108 : Ref sig .tc := ⟨.hbm, 229, rfl⟩
abbrev main_while1b_cst_33 : Ref sig .tc := ⟨.hbm, 230, rfl⟩
abbrev main_while1b_v109 : Ref sig .tc := ⟨.hbm, 231, rfl⟩
abbrev main_while1b_v110 : Ref sig .tc := ⟨.hbm, 232, rfl⟩
abbrev main_while1b_v111 : Ref sig .tc := ⟨.hbm, 233, rfl⟩
abbrev main_while1b_v112 : Ref sig .tc := ⟨.hbm, 234, rfl⟩
abbrev main_while1b_v113 : Ref sig .tc := ⟨.hbm, 235, rfl⟩
abbrev main_while1b_v114 : Ref sig .tc := ⟨.hbm, 236, rfl⟩
abbrev main_while1b_v115 : Ref sig .tc := ⟨.hbm, 237, rfl⟩
abbrev main_while1b_cst_34 : Ref sig .tc := ⟨.hbm, 238, rfl⟩
abbrev main_while1b_v116 : Ref sig .tc := ⟨.hbm, 239, rfl⟩
abbrev main_while1b_v117 : Ref sig .tc := ⟨.hbm, 240, rfl⟩
abbrev main_while1b_cst_35 : Ref sig .tc := ⟨.hbm, 241, rfl⟩
abbrev main_while1b_v118 : Ref sig .tc := ⟨.hbm, 242, rfl⟩
abbrev main_while1b_v119 : Ref sig .tc := ⟨.hbm, 243, rfl⟩
abbrev main_while1b_v120 : Ref sig .tc := ⟨.hbm, 244, rfl⟩
abbrev main_while1b_v121 : Ref sig .tc := ⟨.hbm, 245, rfl⟩
abbrev main_while1b_call4_v0 : Ref sig .tc := ⟨.hbm, 246, rfl⟩
abbrev main_while1b_call4_c : Ref sig .tc := ⟨.hbm, 247, rfl⟩
abbrev main_while1b_call4_c_0 : Ref sig .tc := ⟨.hbm, 248, rfl⟩
abbrev main_while1b_v122 : Ref sig .tc := ⟨.hbm, 249, rfl⟩
abbrev main_while1b_c_36 : Ref sig .tc := ⟨.hbm, 250, rfl⟩
abbrev main_while1b_v123 : Ref sig .tc := ⟨.hbm, 251, rfl⟩
abbrev main_v76 : Ref sig .tc := ⟨.hbm, 252, rfl⟩
abbrev main_v77 : Ref sig .tc := ⟨.hbm, 253, rfl⟩
abbrev main_v78 : Ref sig .tc := ⟨.hbm, 254, rfl⟩
abbrev main_v79 : Ref sig .tc := ⟨.hbm, 255, rfl⟩
abbrev main_v80 : Ref sig .tc := ⟨.hbm, 256, rfl⟩
abbrev main_v81 : Ref sig .tc := ⟨.hbm, 257, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev main_while0_count : Scf.Loop 32 := ⟨0#32, 12#32, 1#32⟩

abbrev main_while1_count : Scf.Loop 32 := ⟨0#32, 12#32, 1#32⟩

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S40000x12 : Shape := ⟨2, ![40000, 12]⟩
abbrev S2x640000 : Shape := ⟨2, ![2, 640000]⟩
abbrev S12x96 : Shape := ⟨2, ![12, 96]⟩
abbrev S1x8x12 : Shape := ⟨3, ![1, 8, 12]⟩
abbrev S12 : Shape := ⟨1, ![12]⟩
abbrev S128x10000 : Shape := ⟨2, ![128, 10000]⟩
abbrev S128x32 : Shape := ⟨2, ![128, 32]⟩
abbrev S128 : Shape := ⟨1, ![128]⟩
abbrev S512x32 : Shape := ⟨2, ![512, 32]⟩
abbrev S512x128 : Shape := ⟨2, ![512, 128]⟩
abbrev S512 : Shape := ⟨1, ![512]⟩
abbrev S90000x128 : Shape := ⟨2, ![90000, 128]⟩
abbrev S90000 : Shape := ⟨1, ![90000]⟩
abbrev S40000 : Shape := ⟨1, ![40000]⟩
abbrev S1x40000 : Shape := ⟨2, ![1, 40000]⟩
abbrev S2x40000 : Shape := ⟨2, ![2, 40000]⟩
abbrev S2x680000 : Shape := ⟨2, ![2, 680000]⟩
abbrev S1x680000 : Shape := ⟨2, ![1, 680000]⟩
abbrev S680000 : Shape := ⟨1, ![680000]⟩
abbrev S40000x96 : Shape := ⟨2, ![40000, 96]⟩
abbrev S40000x8x12 : Shape := ⟨3, ![40000, 8, 12]⟩
abbrev S_ : Shape := ⟨0, ![]⟩
abbrev S40000x8 : Shape := ⟨2, ![40000, 8]⟩
abbrev S680000x1 : Shape := ⟨2, ![680000, 1]⟩
abbrev S680000x8 : Shape := ⟨2, ![680000, 8]⟩
abbrev S1 : Shape := ⟨1, ![1]⟩
abbrev S1x8 : Shape := ⟨2, ![1, 8]⟩
abbrev S8 : Shape := ⟨1, ![8]⟩
abbrev S680000x8x12 : Shape := ⟨3, ![680000, 8, 12]⟩
abbrev S680000x8x1 : Shape := ⟨3, ![680000, 8, 1]⟩
abbrev S1x12 : Shape := ⟨2, ![1, 12]⟩
abbrev S4x10000x12 : Shape := ⟨3, ![4, 10000, 12]⟩
abbrev S12x4x10000 : Shape := ⟨3, ![12, 4, 10000]⟩
abbrev S4x32 : Shape := ⟨2, ![4, 32]⟩
abbrev S12x4x32 : Shape := ⟨3, ![12, 4, 32]⟩
abbrev S1x4x10000 : Shape := ⟨3, ![1, 4, 10000]⟩
abbrev S4x10000 : Shape := ⟨2, ![4, 10000]⟩
abbrev S10000x128 : Shape := ⟨2, ![10000, 128]⟩
abbrev S4x128 : Shape := ⟨2, ![4, 128]⟩
abbrev S32x128 : Shape := ⟨2, ![32, 128]⟩
abbrev S1x128 : Shape := ⟨2, ![1, 128]⟩
abbrev S1x4x32 : Shape := ⟨3, ![1, 4, 32]⟩
abbrev S12x4x128 : Shape := ⟨3, ![12, 4, 128]⟩
abbrev S32x512 : Shape := ⟨2, ![32, 512]⟩
abbrev S4x512 : Shape := ⟨2, ![4, 512]⟩
abbrev S128x512 : Shape := ⟨2, ![128, 512]⟩
abbrev S1x512 : Shape := ⟨2, ![1, 512]⟩
abbrev S1x4x128 : Shape := ⟨3, ![1, 4, 128]⟩
abbrev S128x90000 : Shape := ⟨2, ![128, 90000]⟩
abbrev S4x90000 : Shape := ⟨2, ![4, 90000]⟩
abbrev S1x90000 : Shape := ⟨2, ![1, 90000]⟩
abbrev S4x10000x9 : Shape := ⟨3, ![4, 10000, 9]⟩
abbrev S40000x9 : Shape := ⟨2, ![40000, 9]⟩

abbrev nBuf : Space → Nat
  | .hbm => 353
  | .vmem => 0
  | .smem => 0
  | _ => 0

abbrev hbmTy0_0 (i : Nat) : BufTy := match i % 128 with
  | 0 => ⟨S40000x12, .f32⟩
  | 1 => ⟨S2x640000, .i32⟩
  | 2 => ⟨S12x96, .f32⟩
  | 3 => ⟨S1x8x12, .f32⟩
  | 4 => ⟨S1x8x12, .f32⟩
  | 5 => ⟨S12, .f32⟩
  | 6 => ⟨S128x10000, .f32⟩
  | 7 => ⟨S128x32, .f32⟩
  | 8 => ⟨S128, .f32⟩
  | 9 => ⟨S128, .f32⟩
  | 10 => ⟨S512x32, .f32⟩
  | 11 => ⟨S512x128, .f32⟩
  | 12 => ⟨S512, .f32⟩
  | 13 => ⟨S512, .f32⟩
  | 14 => ⟨S90000x128, .f32⟩
  | 15 => ⟨S90000, .f32⟩
  | 16 => ⟨S40000, .i32⟩
  | 17 => ⟨S1x40000, .i32⟩
  | 18 => ⟨S1x40000, .i32⟩
  | 19 => ⟨S2x40000, .i32⟩
  | 20 => ⟨S2x680000, .i32⟩
  | 21 => ⟨S1x680000, .i32⟩
  | 22 => ⟨S680000, .i32⟩
  | 23 => ⟨S1x680000, .i32⟩
  | 24 => ⟨S680000, .i32⟩
  | 25 => ⟨S40000x96, .f32⟩
  | 26 => ⟨S40000x8x12, .f32⟩
  | 27 => ⟨S40000x8x12, .f32⟩
  | 28 => ⟨S40000x8x12, .f32⟩
  | 29 => ⟨S_, .f32⟩
  | 30 => ⟨S40000x8, .f32⟩
  | 31 => ⟨S40000x8x12, .f32⟩
  | 32 => ⟨S40000x8x12, .f32⟩
  | 33 => ⟨S_, .f32⟩
  | 34 => ⟨S40000x8, .f32⟩
  | 35 => ⟨S_, .i32⟩
  | 36 => ⟨S680000, .i32⟩
  | 37 => ⟨S680000, .i1⟩
  | 38 => ⟨S_, .i32⟩
  | 39 => ⟨S680000, .i32⟩
  | 40 => ⟨S680000, .i32⟩
  | 41 => ⟨S680000, .i32⟩
  | 42 => ⟨S680000x1, .i32⟩
  | 43 => ⟨S680000x8, .f32⟩
  | 44 => ⟨S_, .i32⟩
  | 45 => ⟨S680000, .i32⟩
  | 46 => ⟨S680000, .i1⟩
  | 47 => ⟨S_, .i32⟩
  | 48 => ⟨S680000, .i32⟩
  | 49 => ⟨S680000, .i32⟩
  | 50 => ⟨S680000, .i32⟩
  | 51 => ⟨S680000x1, .i32⟩
  | 52 => ⟨S680000x8, .f32⟩
  | 53 => ⟨S680000x8, .f32⟩
  | 54 => ⟨S_, .f32⟩
  | 55 => ⟨S_, .f32⟩
  | 56 => ⟨S680000x8, .f32⟩
  | 57 => ⟨S680000x8, .i1⟩
  | 58 => ⟨S_, .f32⟩
  | 59 => ⟨S680000x8, .f32⟩
  | 60 => ⟨S680000x8, .f32⟩
  | 61 => ⟨S680000x8, .f32⟩
  | 62 => ⟨S_, .f32⟩
  | 63 => ⟨S40000x8, .f32⟩
  | 64 => ⟨S_, .i32⟩
  | 65 => ⟨S_, .i32⟩
  | 66 => ⟨S680000, .i32⟩
  | 67 => ⟨S680000x8, .f32⟩
  | 68 => ⟨S_, .i32⟩
  | 69 => ⟨S_, .i32⟩
  | 70 => ⟨S40000x8, .f32⟩
  | 71 => ⟨S_, .i32⟩
  | 72 => ⟨S_, .i1⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S1x8, .f32⟩
  | 97 => ⟨S8, .f32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x8, .f32⟩
  | 113 => ⟨S8, .f32⟩
  | 114 => ⟨S8, .f32⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S40000x8, .f32⟩
  | 122 => ⟨S_, .i32⟩
  | 123 => ⟨S_, .i32⟩
  | 124 => ⟨S40000x8, .f32⟩
  | 125 => ⟨S_, .f32⟩
  | 126 => ⟨S40000x8, .f32⟩
  | 127 => ⟨S40000x8, .i1⟩
  | _ => ⟨S40000x12, .f32⟩

abbrev hbmTy0_1 (i : Nat) : BufTy := match i % 128 with
  | 0 => ⟨S_, .f32⟩
  | 1 => ⟨S_, .f32⟩
  | 2 => ⟨S40000x8, .f32⟩
  | 3 => ⟨S40000x8, .f32⟩
  | 4 => ⟨S_, .i32⟩
  | 5 => ⟨S680000, .i32⟩
  | 6 => ⟨S680000, .i1⟩
  | 7 => ⟨S_, .i32⟩
  | 8 => ⟨S680000, .i32⟩
  | 9 => ⟨S680000, .i32⟩
  | 10 => ⟨S680000, .i32⟩
  | 11 => ⟨S680000x1, .i32⟩
  | 12 => ⟨S680000x8, .f32⟩
  | 13 => ⟨S680000x8, .f32⟩
  | 14 => ⟨S680000x8, .f32⟩
  | 15 => ⟨S_, .f32⟩
  | 16 => ⟨S40000x8, .f32⟩
  | 17 => ⟨S680000x1, .i32⟩
  | 18 => ⟨S40000x8, .f32⟩
  | 19 => ⟨S_, .i32⟩
  | 20 => ⟨S680000, .i32⟩
  | 21 => ⟨S680000, .i1⟩
  | 22 => ⟨S_, .i32⟩
  | 23 => ⟨S680000, .i32⟩
  | 24 => ⟨S680000, .i32⟩
  | 25 => ⟨S680000, .i32⟩
  | 26 => ⟨S680000x1, .i32⟩
  | 27 => ⟨S680000x8, .f32⟩
  | 28 => ⟨S_, .i32⟩
  | 29 => ⟨S680000, .i32⟩
  | 30 => ⟨S680000, .i1⟩
  | 31 => ⟨S_, .i32⟩
  | 32 => ⟨S680000, .i32⟩
  | 33 => ⟨S680000, .i32⟩
  | 34 => ⟨S680000, .i32⟩
  | 35 => ⟨S680000x1, .i32⟩
  | 36 => ⟨S680000x8, .f32⟩
  | 37 => ⟨S680000x8, .f32⟩
  | 38 => ⟨S680000x8, .f32⟩
  | 39 => ⟨S_, .f32⟩
  | 40 => ⟨S680000x8, .f32⟩
  | 41 => ⟨S680000x8, .f32⟩
  | 42 => ⟨S680000x8, .f32⟩
  | 43 => ⟨S680000x8, .f32⟩
  | 44 => ⟨S_, .i32⟩
  | 45 => ⟨S680000, .i32⟩
  | 46 => ⟨S680000, .i1⟩
  | 47 => ⟨S_, .i32⟩
  | 48 => ⟨S680000, .i32⟩
  | 49 => ⟨S680000, .i32⟩
  | 50 => ⟨S680000, .i32⟩
  | 51 => ⟨S680000x1, .i32⟩
  | 52 => ⟨S680000x8x12, .f32⟩
  | 53 => ⟨S680000x8x1, .f32⟩
  | 54 => ⟨S680000x8x12, .f32⟩
  | 55 => ⟨S680000x8x12, .f32⟩
  | 56 => ⟨S_, .f32⟩
  | 57 => ⟨S40000x8x12, .f32⟩
  | 58 => ⟨S680000x1, .i32⟩
  | 59 => ⟨S40000x8x12, .f32⟩
  | 60 => ⟨S_, .f32⟩
  | 61 => ⟨S40000x12, .f32⟩
  | 62 => ⟨S_, .f32⟩
  | 63 => ⟨S40000x12, .f32⟩
  | 64 => ⟨S40000x12, .f32⟩
  | 65 => ⟨S1x12, .f32⟩
  | 66 => ⟨S40000x12, .f32⟩
  | 67 => ⟨S40000x12, .f32⟩
  | 68 => ⟨S4x10000x12, .f32⟩
  | 69 => ⟨S12x4x10000, .f32⟩
  | 70 => ⟨S_, .f32⟩
  | 71 => ⟨S4x32, .f32⟩
  | 72 => ⟨S_, .f32⟩
  | 73 => ⟨S4x32, .f32⟩
  | 74 => ⟨S_, .f32⟩
  | 75 => ⟨S12x4x32, .f32⟩
  | 76 => ⟨S_, .i32⟩
  | 77 => ⟨S12x4x10000, .f32⟩
  | 78 => ⟨S128x10000, .f32⟩
  | 79 => ⟨S128x32, .f32⟩
  | 80 => ⟨S128, .f32⟩
  | 81 => ⟨S128, .f32⟩
  | 82 => ⟨S_, .i32⟩
  | 83 => ⟨S4x32, .f32⟩
  | 84 => ⟨S4x32, .f32⟩
  | 85 => ⟨S12x4x32, .f32⟩
  | 86 => ⟨S_, .i32⟩
  | 87 => ⟨S_, .i1⟩
  | 88 => ⟨S_, .i32⟩
  | 89 => ⟨S_, .i32⟩
  | 90 => ⟨S1x4x10000, .f32⟩
  | 91 => ⟨S4x10000, .f32⟩
  | 92 => ⟨S10000x128, .f32⟩
  | 93 => ⟨S4x128, .f32⟩
  | 94 => ⟨S32x128, .f32⟩
  | 95 => ⟨S4x128, .f32⟩
  | 96 => ⟨S4x128, .f32⟩
  | 97 => ⟨S1x128, .f32⟩
  | 98 => ⟨S4x128, .f32⟩
  | 99 => ⟨S4x128, .f32⟩
  | 100 => ⟨S1x128, .f32⟩
  | 101 => ⟨S4x128, .f32⟩
  | 102 => ⟨S4x128, .f32⟩
  | 103 => ⟨S4x32, .f32⟩
  | 104 => ⟨S4x32, .f32⟩
  | 105 => ⟨S4x32, .f32⟩
  | 106 => ⟨S4x32, .f32⟩
  | 107 => ⟨S4x32, .f32⟩
  | 108 => ⟨S4x32, .f32⟩
  | 109 => ⟨S_, .f32⟩
  | 110 => ⟨S4x32, .f32⟩
  | 111 => ⟨S4x32, .f32⟩
  | 112 => ⟨S_, .f32⟩
  | 113 => ⟨S4x32, .f32⟩
  | 114 => ⟨S4x32, .f32⟩
  | 115 => ⟨S4x32, .f32⟩
  | 116 => ⟨S4x32, .f32⟩
  | 117 => ⟨S4x32, .f32⟩
  | 118 => ⟨S_, .f32⟩
  | 119 => ⟨S4x32, .f32⟩
  | 120 => ⟨S4x32, .f32⟩
  | 121 => ⟨S_, .f32⟩
  | 122 => ⟨S4x32, .f32⟩
  | 123 => ⟨S4x32, .f32⟩
  | 124 => ⟨S4x32, .f32⟩
  | 125 => ⟨S4x32, .f32⟩
  | 126 => ⟨S4x32, .f32⟩
  | 127 => ⟨S4x32, .f32⟩
  | _ => ⟨S40000x12, .f32⟩

abbrev hbmTy0_2 (i : Nat) : BufTy := match i % 128 with
  | 0 => ⟨S4x32, .f32⟩
  | 1 => ⟨S_, .f32⟩
  | 2 => ⟨S4x32, .f32⟩
  | 3 => ⟨S4x32, .f32⟩
  | 4 => ⟨S_, .f32⟩
  | 5 => ⟨S4x32, .f32⟩
  | 6 => ⟨S4x32, .f32⟩
  | 7 => ⟨S4x32, .f32⟩
  | 8 => ⟨S4x32, .f32⟩
  | 9 => ⟨S1x4x32, .f32⟩
  | 10 => ⟨S_, .i32⟩
  | 11 => ⟨S_, .i32⟩
  | 12 => ⟨S12x4x32, .f32⟩
  | 13 => ⟨S_, .i32⟩
  | 14 => ⟨S_, .i32⟩
  | 15 => ⟨S_, .f32⟩
  | 16 => ⟨S4x128, .f32⟩
  | 17 => ⟨S_, .f32⟩
  | 18 => ⟨S4x128, .f32⟩
  | 19 => ⟨S_, .f32⟩
  | 20 => ⟨S12x4x128, .f32⟩
  | 21 => ⟨S_, .i32⟩
  | 22 => ⟨S12x4x32, .f32⟩
  | 23 => ⟨S512x32, .f32⟩
  | 24 => ⟨S512x128, .f32⟩
  | 25 => ⟨S512, .f32⟩
  | 26 => ⟨S512, .f32⟩
  | 27 => ⟨S_, .i32⟩
  | 28 => ⟨S4x128, .f32⟩
  | 29 => ⟨S4x128, .f32⟩
  | 30 => ⟨S12x4x128, .f32⟩
  | 31 => ⟨S_, .i32⟩
  | 32 => ⟨S_, .i1⟩
  | 33 => ⟨S_, .i32⟩
  | 34 => ⟨S_, .i32⟩
  | 35 => ⟨S1x4x32, .f32⟩
  | 36 => ⟨S4x32, .f32⟩
  | 37 => ⟨S32x512, .f32⟩
  | 38 => ⟨S4x512, .f32⟩
  | 39 => ⟨S128x512, .f32⟩
  | 40 => ⟨S4x512, .f32⟩
  | 41 => ⟨S4x512, .f32⟩
  | 42 => ⟨S1x512, .f32⟩
  | 43 => ⟨S4x512, .f32⟩
  | 44 => ⟨S4x512, .f32⟩
  | 45 => ⟨S1x512, .f32⟩
  | 46 => ⟨S4x512, .f32⟩
  | 47 => ⟨S4x512, .f32⟩
  | 48 => ⟨S4x128, .f32⟩
  | 49 => ⟨S4x128, .f32⟩
  | 50 => ⟨S4x128, .f32⟩
  | 51 => ⟨S4x128, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S_, .f32⟩
  | 58 => ⟨S4x128, .f32⟩
  | 59 => ⟨S4x128, .f32⟩
  | 60 => ⟨S4x128, .f32⟩
  | 61 => ⟨S4x128, .f32⟩
  | 62 => ⟨S4x128, .f32⟩
  | 63 => ⟨S_, .f32⟩
  | 64 => ⟨S4x128, .f32⟩
  | 65 => ⟨S4x128, .f32⟩
  | 66 => ⟨S_, .f32⟩
  | 67 => ⟨S4x128, .f32⟩
  | 68 => ⟨S4x128, .f32⟩
  | 69 => ⟨S4x128, .f32⟩
  | 70 => ⟨S4x128, .f32⟩
  | 71 => ⟨S4x128, .f32⟩
  | 72 => ⟨S4x128, .f32⟩
  | 73 => ⟨S4x128, .f32⟩
  | 74 => ⟨S_, .f32⟩
  | 75 => ⟨S4x128, .f32⟩
  | 76 => ⟨S4x128, .f32⟩
  | 77 => ⟨S_, .f32⟩
  | 78 => ⟨S4x128, .f32⟩
  | 79 => ⟨S4x128, .f32⟩
  | 80 => ⟨S4x128, .f32⟩
  | 81 => ⟨S4x128, .f32⟩
  | 82 => ⟨S1x4x128, .f32⟩
  | 83 => ⟨S_, .i32⟩
  | 84 => ⟨S_, .i32⟩
  | 85 => ⟨S12x4x128, .f32⟩
  | 86 => ⟨S_, .i32⟩
  | 87 => ⟨S_, .i32⟩
  | 88 => ⟨S1x4x128, .f32⟩
  | 89 => ⟨S4x128, .f32⟩
  | 90 => ⟨S128x90000, .f32⟩
  | 91 => ⟨S4x90000, .f32⟩
  | 92 => ⟨S1x90000, .f32⟩
  | 93 => ⟨S4x90000, .f32⟩
  | 94 => ⟨S4x90000, .f32⟩
  | 95 => ⟨S4x10000x9, .f32⟩
  | 96 => ⟨S40000x9, .f32⟩
  | _ => ⟨S40000x12, .f32⟩

abbrev hbmTy (i : Nat) : BufTy := match i / 128 with
  | 0 => hbmTy0_0 i
  | 1 => hbmTy0_1 i
  | 2 => hbmTy0_2 i
  | _ => ⟨S40000x12, .f32⟩

abbrev bufTy : (tb : Table) → Fin (tcTables nBuf tb) → BufTy
  | .hbm, ⟨i, _⟩ => hbmTy i
  | _, _ => ⟨S40000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_c_6 : Ref sig .tc := ⟨.hbm, 64, rfl⟩
abbrev main_c_7 : Ref sig .tc := ⟨.hbm, 65, rfl⟩
abbrev main_v34_0 : Ref sig .tc := ⟨.hbm, 66, rfl⟩
abbrev main_v34_1 : Ref sig .tc := ⟨.hbm, 67, rfl⟩
abbrev main_v34_2 : Ref sig .tc := ⟨.hbm, 68, rfl⟩
abbrev main_v34_3 : Ref sig .tc := ⟨.hbm, 69, rfl⟩
abbrev main_v34_4 : Ref sig .tc := ⟨.hbm, 70, rfl⟩
abbrev main_while0c_c_35 : Ref sig .tc := ⟨.hbm, 71, rfl⟩
abbrev main_while0c_v109 : Ref sig .tc := ⟨.hbm, 72, rfl⟩
abbrev main_while0b_c_35 : Ref sig .tc := ⟨.hbm, 73, rfl⟩
abbrev main_while0b_v109 : Ref sig .tc := ⟨.hbm, 74, rfl⟩
abbrev main_while0b_c_36 : Ref sig .tc := ⟨.hbm, 75, rfl⟩
abbrev main_while0b_v110 : Ref sig .tc := ⟨.hbm, 76, rfl⟩
abbrev main_while0b_v111 : Ref sig .tc := ⟨.hbm, 77, rfl⟩
abbrev main_while0b_c_37 : Ref sig .tc := ⟨.hbm, 78, rfl⟩
abbrev main_while0b_v112 : Ref sig .tc := ⟨.hbm, 79, rfl⟩
abbrev main_while0b_v113 : Ref sig .tc := ⟨.hbm, 80, rfl⟩
abbrev main_while0b_v114 : Ref sig .tc := ⟨.hbm, 81, rfl⟩
abbrev main_while0b_v115 : Ref sig .tc := ⟨.hbm, 82, rfl⟩
abbrev main_while0b_c_38 : Ref sig .tc := ⟨.hbm, 83, rfl⟩
abbrev main_while0b_v116 : Ref sig .tc := ⟨.hbm, 84, rfl⟩
abbrev main_while0b_c_39 : Ref sig .tc := ⟨.hbm, 85, rfl⟩
abbrev main_while0b_v117 : Ref sig .tc := ⟨.hbm, 86, rfl⟩
abbrev main_while0b_v118 : Ref sig .tc := ⟨.hbm, 87, rfl⟩
abbrev main_while0b_c_40 : Ref sig .tc := ⟨.hbm, 88, rfl⟩
abbrev main_while0b_c_41 : Ref sig .tc := ⟨.hbm, 89, rfl⟩
abbrev main_while0b_v119 : Ref sig .tc := ⟨.hbm, 90, rfl⟩
abbrev main_while0b_c_42 : Ref sig .tc := ⟨.hbm, 91, rfl⟩
abbrev main_while0b_c_43 : Ref sig .tc := ⟨.hbm, 92, rfl⟩
abbrev main_while0b_v120 : Ref sig .tc := ⟨.hbm, 93, rfl⟩
abbrev main_while0b_c_44 : Ref sig .tc := ⟨.hbm, 94, rfl⟩
abbrev main_while0b_v121 : Ref sig .tc := ⟨.hbm, 95, rfl⟩
abbrev main_while0b_v122 : Ref sig .tc := ⟨.hbm, 96, rfl⟩
abbrev main_while0b_v123 : Ref sig .tc := ⟨.hbm, 97, rfl⟩
abbrev main_while0b_v124 : Ref sig .tc := ⟨.hbm, 98, rfl⟩
abbrev main_while0b_c_45 : Ref sig .tc := ⟨.hbm, 99, rfl⟩
abbrev main_while0b_v125 : Ref sig .tc := ⟨.hbm, 100, rfl⟩
abbrev main_while0b_c_46 : Ref sig .tc := ⟨.hbm, 101, rfl⟩
abbrev main_while0b_v126 : Ref sig .tc := ⟨.hbm, 102, rfl⟩
abbrev main_while0b_v127 : Ref sig .tc := ⟨.hbm, 103, rfl⟩
abbrev main_while0b_c_47 : Ref sig .tc := ⟨.hbm, 104, rfl⟩
abbrev main_while0b_c_48 : Ref sig .tc := ⟨.hbm, 105, rfl⟩
abbrev main_while0b_v128 : Ref sig .tc := ⟨.hbm, 106, rfl⟩
abbrev main_while0b_c_49 : Ref sig .tc := ⟨.hbm, 107, rfl⟩
abbrev main_while0b_c_50 : Ref sig .tc := ⟨.hbm, 108, rfl⟩
abbrev main_while0b_v129 : Ref sig .tc := ⟨.hbm, 109, rfl⟩
abbrev main_while0b_c_51 : Ref sig .tc := ⟨.hbm, 110, rfl⟩
abbrev main_while0b_v130 : Ref sig .tc := ⟨.hbm, 111, rfl⟩
abbrev main_while0b_v131 : Ref sig .tc := ⟨.hbm, 112, rfl⟩
abbrev main_while0b_v132 : Ref sig .tc := ⟨.hbm, 113, rfl⟩
abbrev main_while0b_v133 : Ref sig .tc := ⟨.hbm, 114, rfl⟩
abbrev main_while0b_c_52 : Ref sig .tc := ⟨.hbm, 115, rfl⟩
abbrev main_while0b_v134 : Ref sig .tc := ⟨.hbm, 116, rfl⟩
abbrev main_while0b_c_53 : Ref sig .tc := ⟨.hbm, 117, rfl⟩
abbrev main_while0b_v135 : Ref sig .tc := ⟨.hbm, 118, rfl⟩
abbrev main_while0b_v136 : Ref sig .tc := ⟨.hbm, 119, rfl⟩
abbrev main_while0b_v137 : Ref sig .tc := ⟨.hbm, 120, rfl⟩
abbrev main_while0b_v138 : Ref sig .tc := ⟨.hbm, 121, rfl⟩
abbrev main_while0b_c_54 : Ref sig .tc := ⟨.hbm, 122, rfl⟩
abbrev main_while0b_v139 : Ref sig .tc := ⟨.hbm, 123, rfl⟩
abbrev main_v35 : Ref sig .tc := ⟨.hbm, 124, rfl⟩
abbrev main_cst_8 : Ref sig .tc := ⟨.hbm, 125, rfl⟩
abbrev main_v36 : Ref sig .tc := ⟨.hbm, 126, rfl⟩
abbrev main_v37 : Ref sig .tc := ⟨.hbm, 127, rfl⟩
abbrev main_cst_9 : Ref sig .tc := ⟨.hbm, 128, rfl⟩
abbrev main_call1_v0 : Ref sig .tc := ⟨.hbm, 129, rfl⟩
abbrev main_call1_v1 : Ref sig .tc := ⟨.hbm, 130, rfl⟩
abbrev main_v38 : Ref sig .tc := ⟨.hbm, 131, rfl⟩
abbrev main_c_10 : Ref sig .tc := ⟨.hbm, 132, rfl⟩
abbrev main_v39 : Ref sig .tc := ⟨.hbm, 133, rfl⟩
abbrev main_v40 : Ref sig .tc := ⟨.hbm, 134, rfl⟩
abbrev main_c_11 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_cst_12 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_c_13 : Ref sig .tc := ⟨.hbm, 147, rfl⟩
abbrev main_v51 : Ref sig .tc := ⟨.hbm, 148, rfl⟩
abbrev main_v52 : Ref sig .tc := ⟨.hbm, 149, rfl⟩
abbrev main_c_14 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_c_15 : Ref sig .tc := ⟨.hbm, 156, rfl⟩
abbrev main_v58 : Ref sig .tc := ⟨.hbm, 157, rfl⟩
abbrev main_v59 : Ref sig .tc := ⟨.hbm, 158, rfl⟩
abbrev main_c_16 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_cst_17 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_c_18 : Ref sig .tc := ⟨.hbm, 172, rfl⟩
abbrev main_v71 : Ref sig .tc := ⟨.hbm, 173, rfl⟩
abbrev main_v72 : Ref sig .tc := ⟨.hbm, 174, rfl⟩
abbrev main_c_19 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_cst_20 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_cst_21 : Ref sig .tc := ⟨.hbm, 188, rfl⟩
abbrev main_v84 : Ref sig .tc := ⟨.hbm, 189, rfl⟩
abbrev main_cst_22 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_cst_23 : Ref sig .tc := ⟨.hbm, 198, rfl⟩
abbrev main_v92 : Ref sig .tc := ⟨.hbm, 199, rfl⟩
abbrev main_cst_24 : Ref sig .tc := ⟨.hbm, 200, rfl⟩
abbrev main_v93 : Ref sig .tc := ⟨.hbm, 201, rfl⟩
abbrev main_cst_25 : Ref sig .tc := ⟨.hbm, 202, rfl⟩
abbrev main_v94 : Ref sig .tc := ⟨.hbm, 203, rfl⟩
abbrev main_c_26 : Ref sig .tc := ⟨.hbm, 204, rfl⟩
abbrev main_v95_0 : Ref sig .tc := ⟨.hbm, 205, rfl⟩
abbrev main_v95_1 : Ref sig .tc := ⟨.hbm, 206, rfl⟩
abbrev main_v95_2 : Ref sig .tc := ⟨.hbm, 207, rfl⟩
abbrev main_v95_3 : Ref sig .tc := ⟨.hbm, 208, rfl⟩
abbrev main_v95_4 : Ref sig .tc := ⟨.hbm, 209, rfl⟩
abbrev main_v95_5 : Ref sig .tc := ⟨.hbm, 210, rfl⟩
abbrev main_v95_6 : Ref sig .tc := ⟨.hbm, 211, rfl⟩
abbrev main_v95_7 : Ref sig .tc := ⟨.hbm, 212, rfl⟩
abbrev main_v95_8 : Ref sig .tc := ⟨.hbm, 213, rfl⟩
abbrev main_while1c_c_39 : Ref sig .tc := ⟨.hbm, 214, rfl⟩
abbrev main_while1c_v109 : Ref sig .tc := ⟨.hbm, 215, rfl⟩
abbrev main_while1b_call2_c : Ref sig .tc := ⟨.hbm, 216, rfl⟩
abbrev main_while1b_call2_c_0 : Ref sig .tc := ⟨.hbm, 217, rfl⟩
abbrev main_while1b_call2_v0 : Ref sig .tc := ⟨.hbm, 218, rfl⟩
abbrev main_while1b_v109 : Ref sig .tc := ⟨.hbm, 219, rfl⟩
abbrev main_while1b_v110 : Ref sig .tc := ⟨.hbm, 220, rfl⟩
abbrev main_while1b_v111 : Ref sig .tc := ⟨.hbm, 221, rfl⟩
abbrev main_while1b_v112 : Ref sig .tc := ⟨.hbm, 222, rfl⟩
abbrev main_while1b_v113 : Ref sig .tc := ⟨.hbm, 223, rfl⟩
abbrev main_while1b_v114 : Ref sig .tc := ⟨.hbm, 224, rfl⟩
abbrev main_while1b_v115 : Ref sig .tc := ⟨.hbm, 225, rfl⟩
abbrev main_while1b_v116 : Ref sig .tc := ⟨.hbm, 226, rfl⟩
abbrev main_while1b_v117 : Ref sig .tc := ⟨.hbm, 227, rfl⟩
abbrev main_while1b_v118 : Ref sig .tc := ⟨.hbm, 228, rfl⟩
abbrev main_while1b_v119 : Ref sig .tc := ⟨.hbm, 229, rfl⟩
abbrev main_while1b_v120 : Ref sig .tc := ⟨.hbm, 230, rfl⟩
abbrev main_while1b_v121 : Ref sig .tc := ⟨.hbm, 231, rfl⟩
abbrev main_while1b_v122 : Ref sig .tc := ⟨.hbm, 232, rfl⟩
abbrev main_while1b_v123 : Ref sig .tc := ⟨.hbm, 233, rfl⟩
abbrev main_while1b_v124 : Ref sig .tc := ⟨.hbm, 234, rfl⟩
abbrev main_while1b_v125 : Ref sig .tc := ⟨.hbm, 235, rfl⟩
abbrev main_while1b_v126 : Ref sig .tc := ⟨.hbm, 236, rfl⟩
abbrev main_while1b_cst_39 : Ref sig .tc := ⟨.hbm, 237, rfl⟩
abbrev main_while1b_v127 : Ref sig .tc := ⟨.hbm, 238, rfl⟩
abbrev main_while1b_v128 : Ref sig .tc := ⟨.hbm, 239, rfl⟩
abbrev main_while1b_cst_40 : Ref sig .tc := ⟨.hbm, 240, rfl⟩
abbrev main_while1b_v129 : Ref sig .tc := ⟨.hbm, 241, rfl⟩
abbrev main_while1b_v130 : Ref sig .tc := ⟨.hbm, 242, rfl⟩
abbrev main_while1b_v131 : Ref sig .tc := ⟨.hbm, 243, rfl⟩
abbrev main_while1b_v132 : Ref sig .tc := ⟨.hbm, 244, rfl⟩
abbrev main_while1b_v133 : Ref sig .tc := ⟨.hbm, 245, rfl⟩
abbrev main_while1b_cst_41 : Ref sig .tc := ⟨.hbm, 246, rfl⟩
abbrev main_while1b_v134 : Ref sig .tc := ⟨.hbm, 247, rfl⟩
abbrev main_while1b_v135 : Ref sig .tc := ⟨.hbm, 248, rfl⟩
abbrev main_while1b_cst_42 : Ref sig .tc := ⟨.hbm, 249, rfl⟩
abbrev main_while1b_v136 : Ref sig .tc := ⟨.hbm, 250, rfl⟩
abbrev main_while1b_v137 : Ref sig .tc := ⟨.hbm, 251, rfl⟩
abbrev main_while1b_v138 : Ref sig .tc := ⟨.hbm, 252, rfl⟩
abbrev main_while1b_v139 : Ref sig .tc := ⟨.hbm, 253, rfl⟩
abbrev main_while1b_v140 : Ref sig .tc := ⟨.hbm, 254, rfl⟩
abbrev main_while1b_v141 : Ref sig .tc := ⟨.hbm, 255, rfl⟩
abbrev main_while1b_v142 : Ref sig .tc := ⟨.hbm, 256, rfl⟩
abbrev main_while1b_cst_43 : Ref sig .tc := ⟨.hbm, 257, rfl⟩
abbrev main_while1b_v143 : Ref sig .tc := ⟨.hbm, 258, rfl⟩
abbrev main_while1b_v144 : Ref sig .tc := ⟨.hbm, 259, rfl⟩
abbrev main_while1b_cst_44 : Ref sig .tc := ⟨.hbm, 260, rfl⟩
abbrev main_while1b_v145 : Ref sig .tc := ⟨.hbm, 261, rfl⟩
abbrev main_while1b_v146 : Ref sig .tc := ⟨.hbm, 262, rfl⟩
abbrev main_while1b_v147 : Ref sig .tc := ⟨.hbm, 263, rfl⟩
abbrev main_while1b_v148 : Ref sig .tc := ⟨.hbm, 264, rfl⟩
abbrev main_while1b_call3_v0 : Ref sig .tc := ⟨.hbm, 265, rfl⟩
abbrev main_while1b_call3_c : Ref sig .tc := ⟨.hbm, 266, rfl⟩
abbrev main_while1b_call3_c_0 : Ref sig .tc := ⟨.hbm, 267, rfl⟩
abbrev main_while1b_v149 : Ref sig .tc := ⟨.hbm, 268, rfl⟩
abbrev main_while1b_c_45 : Ref sig .tc := ⟨.hbm, 269, rfl⟩
abbrev main_while1b_v150 : Ref sig .tc := ⟨.hbm, 270, rfl⟩
abbrev main_cst_27 : Ref sig .tc := ⟨.hbm, 271, rfl⟩
abbrev main_v96 : Ref sig .tc := ⟨.hbm, 272, rfl⟩
abbrev main_cst_28 : Ref sig .tc := ⟨.hbm, 273, rfl⟩
abbrev main_v97 : Ref sig .tc := ⟨.hbm, 274, rfl⟩
abbrev main_cst_29 : Ref sig .tc := ⟨.hbm, 275, rfl⟩
abbrev main_v98 : Ref sig .tc := ⟨.hbm, 276, rfl⟩
abbrev main_c_30 : Ref sig .tc := ⟨.hbm, 277, rfl⟩
abbrev main_v99_0 : Ref sig .tc := ⟨.hbm, 278, rfl⟩
abbrev main_v99_1 : Ref sig .tc := ⟨.hbm, 279, rfl⟩
abbrev main_v99_2 : Ref sig .tc := ⟨.hbm, 280, rfl⟩
abbrev main_v99_3 : Ref sig .tc := ⟨.hbm, 281, rfl⟩
abbrev main_v99_4 : Ref sig .tc := ⟨.hbm, 282, rfl⟩
abbrev main_v99_5 : Ref sig .tc := ⟨.hbm, 283, rfl⟩
abbrev main_v99_6 : Ref sig .tc := ⟨.hbm, 284, rfl⟩
abbrev main_v99_7 : Ref sig .tc := ⟨.hbm, 285, rfl⟩
abbrev main_v99_8 : Ref sig .tc := ⟨.hbm, 286, rfl⟩
abbrev main_while2c_c_39 : Ref sig .tc := ⟨.hbm, 287, rfl⟩
abbrev main_while2c_v109 : Ref sig .tc := ⟨.hbm, 288, rfl⟩
abbrev main_while2b_call4_c : Ref sig .tc := ⟨.hbm, 289, rfl⟩
abbrev main_while2b_call4_c_0 : Ref sig .tc := ⟨.hbm, 290, rfl⟩
abbrev main_while2b_call4_v0 : Ref sig .tc := ⟨.hbm, 291, rfl⟩
abbrev main_while2b_v109 : Ref sig .tc := ⟨.hbm, 292, rfl⟩
abbrev main_while2b_v110 : Ref sig .tc := ⟨.hbm, 293, rfl⟩
abbrev main_while2b_v111 : Ref sig .tc := ⟨.hbm, 294, rfl⟩
abbrev main_while2b_v112 : Ref sig .tc := ⟨.hbm, 295, rfl⟩
abbrev main_while2b_v113 : Ref sig .tc := ⟨.hbm, 296, rfl⟩
abbrev main_while2b_v114 : Ref sig .tc := ⟨.hbm, 297, rfl⟩
abbrev main_while2b_v115 : Ref sig .tc := ⟨.hbm, 298, rfl⟩
abbrev main_while2b_v116 : Ref sig .tc := ⟨.hbm, 299, rfl⟩
abbrev main_while2b_v117 : Ref sig .tc := ⟨.hbm, 300, rfl⟩
abbrev main_while2b_v118 : Ref sig .tc := ⟨.hbm, 301, rfl⟩
abbrev main_while2b_v119 : Ref sig .tc := ⟨.hbm, 302, rfl⟩
abbrev main_while2b_v120 : Ref sig .tc := ⟨.hbm, 303, rfl⟩
abbrev main_while2b_v121 : Ref sig .tc := ⟨.hbm, 304, rfl⟩
abbrev main_while2b_v122 : Ref sig .tc := ⟨.hbm, 305, rfl⟩
abbrev main_while2b_v123 : Ref sig .tc := ⟨.hbm, 306, rfl⟩
abbrev main_while2b_v124 : Ref sig .tc := ⟨.hbm, 307, rfl⟩
abbrev main_while2b_v125 : Ref sig .tc := ⟨.hbm, 308, rfl⟩
abbrev main_while2b_v126 : Ref sig .tc := ⟨.hbm, 309, rfl⟩
abbrev main_while2b_cst_39 : Ref sig .tc := ⟨.hbm, 310, rfl⟩
abbrev main_while2b_v127 : Ref sig .tc := ⟨.hbm, 311, rfl⟩
abbrev main_while2b_v128 : Ref sig .tc := ⟨.hbm, 312, rfl⟩
abbrev main_while2b_cst_40 : Ref sig .tc := ⟨.hbm, 313, rfl⟩
abbrev main_while2b_v129 : Ref sig .tc := ⟨.hbm, 314, rfl⟩
abbrev main_while2b_v130 : Ref sig .tc := ⟨.hbm, 315, rfl⟩
abbrev main_while2b_v131 : Ref sig .tc := ⟨.hbm, 316, rfl⟩
abbrev main_while2b_v132 : Ref sig .tc := ⟨.hbm, 317, rfl⟩
abbrev main_while2b_v133 : Ref sig .tc := ⟨.hbm, 318, rfl⟩
abbrev main_while2b_cst_41 : Ref sig .tc := ⟨.hbm, 319, rfl⟩
abbrev main_while2b_v134 : Ref sig .tc := ⟨.hbm, 320, rfl⟩
abbrev main_while2b_v135 : Ref sig .tc := ⟨.hbm, 321, rfl⟩
abbrev main_while2b_cst_42 : Ref sig .tc := ⟨.hbm, 322, rfl⟩
abbrev main_while2b_v136 : Ref sig .tc := ⟨.hbm, 323, rfl⟩
abbrev main_while2b_v137 : Ref sig .tc := ⟨.hbm, 324, rfl⟩
abbrev main_while2b_v138 : Ref sig .tc := ⟨.hbm, 325, rfl⟩
abbrev main_while2b_v139 : Ref sig .tc := ⟨.hbm, 326, rfl⟩
abbrev main_while2b_v140 : Ref sig .tc := ⟨.hbm, 327, rfl⟩
abbrev main_while2b_v141 : Ref sig .tc := ⟨.hbm, 328, rfl⟩
abbrev main_while2b_v142 : Ref sig .tc := ⟨.hbm, 329, rfl⟩
abbrev main_while2b_cst_43 : Ref sig .tc := ⟨.hbm, 330, rfl⟩
abbrev main_while2b_v143 : Ref sig .tc := ⟨.hbm, 331, rfl⟩
abbrev main_while2b_v144 : Ref sig .tc := ⟨.hbm, 332, rfl⟩
abbrev main_while2b_cst_44 : Ref sig .tc := ⟨.hbm, 333, rfl⟩
abbrev main_while2b_v145 : Ref sig .tc := ⟨.hbm, 334, rfl⟩
abbrev main_while2b_v146 : Ref sig .tc := ⟨.hbm, 335, rfl⟩
abbrev main_while2b_v147 : Ref sig .tc := ⟨.hbm, 336, rfl⟩
abbrev main_while2b_v148 : Ref sig .tc := ⟨.hbm, 337, rfl⟩
abbrev main_while2b_call5_v0 : Ref sig .tc := ⟨.hbm, 338, rfl⟩
abbrev main_while2b_call5_c : Ref sig .tc := ⟨.hbm, 339, rfl⟩
abbrev main_while2b_call5_c_0 : Ref sig .tc := ⟨.hbm, 340, rfl⟩
abbrev main_while2b_v149 : Ref sig .tc := ⟨.hbm, 341, rfl⟩
abbrev main_while2b_c_45 : Ref sig .tc := ⟨.hbm, 342, rfl⟩
abbrev main_while2b_v150 : Ref sig .tc := ⟨.hbm, 343, rfl⟩
abbrev main_v100 : Ref sig .tc := ⟨.hbm, 344, rfl⟩
abbrev main_v101 : Ref sig .tc := ⟨.hbm, 345, rfl⟩
abbrev main_v102 : Ref sig .tc := ⟨.hbm, 346, rfl⟩
abbrev main_v103 : Ref sig .tc := ⟨.hbm, 347, rfl⟩
abbrev main_v104 : Ref sig .tc := ⟨.hbm, 348, rfl⟩
abbrev main_v105 : Ref sig .tc := ⟨.hbm, 349, rfl⟩
abbrev main_v106 : Ref sig .tc := ⟨.hbm, 350, rfl⟩
abbrev main_v107 : Ref sig .tc := ⟨.hbm, 351, rfl⟩
abbrev main_v108 : Ref sig .tc := ⟨.hbm, 352, rfl⟩

abbrev nD : Nat := 1
abbrev τ : Topo := Topo.v7x

variable {F : FTy → Type} [FloatOps F]

abbrev main_while0_count : Scf.Loop 32 := ⟨0#32, 680000#32, 1#32⟩

abbrev main_while1_count : Scf.Loop 32 := ⟨0#32, 12#32, 1#32⟩

abbrev main_while2_count : Scf.Loop 32 := ⟨0#32, 12#32, 1#32⟩
-- ==== Proof.Loops.lean ====
/- Facts about a counted host loop, for any program: what its trip counter holds before each run of the condition, which arrays it leaves alone,
   and what its condition region computes. -/
module

public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter

@[expose] public section

noncomputable section

namespace Cert.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo

variable {nD : Nat} {τ : Topo} {sig : RefSig} {F : FTy → Type}

/-- A list of stretches none of which writes the array `r` leaves it as it was. -/
theorem afterL_of_writes_sub {r : Ref sig .tc} : ∀ (items : List (List (HloOp τ sig (Elt F)))) (Ws : List (List (Ref sig .tc)))
    (_ : List.Forall₂ (fun ops W => ops.Forall fun op => op.writes ⊆ (W.map (Proc.devRef (τ := τ) .tc)).toFinset) items Ws)
    (_ : ∀ W ∈ Ws, r ∉ W) (V : Valuation τ sig (Elt F)), afterL items V (Proc.devRef .tc r) = V (Proc.devRef .tc r)
  | [], _, _, _, _ => rfl
  | ops :: items, W :: Ws, .cons h hs, hr, V => by
    rw [afterL_cons, afterL_of_writes_sub items Ws hs (fun W' h' => hr W' (List.mem_cons_of_mem _ h')),
      after_of_writes_sub ops V h (hr W List.mem_cons_self)]

/-- An array that a round of the loop (its condition, then its body) leaves as it was holds what it held at the loop's entry before every round. -/
theorem atTrip_of_kept {condOps : List (HloOp τ sig (Elt F))} {bodyI : List (List (HloOp τ sig (Elt F)))} {W₀ : Dev nD → Valuation τ sig (Elt F)}
    {b : DevRef τ sig} (h : ∀ V, afterL bodyI (after condOps V) b = V b) (c : Dev nD) : ∀ k, atTrip condOps bodyI W₀ k c b = W₀ c b
  | 0 => rfl
  | k + 1 => by rw [atTrip_succ, h, atTrip_of_kept h c k]

/-- A counter that is 0 at the loop's entry and that each round leaves one greater holds the loop's induction variable before each run of the condition. -/
theorem atTrip_counter {condOps : List (HloOp τ sig (Elt F))} {bodyI : List (List (HloOp τ sig (Elt F)))} {W₀ : Dev nD → Valuation τ sig (Elt F)}
    {T : Type} (rd : Valuation τ sig (Elt F) → T) (mk : BitVec 32 → T) (c : Dev nD)
    (h0 : rd (W₀ c) = mk 0#32) (h : ∀ V x, rd V = mk x → rd (afterL bodyI (after condOps V)) = mk (x + 1#32)) :
    ∀ k, rd (atTrip condOps bodyI W₀ k c) = mk (Scf.iv 0#32 1#32 k)
  | 0 => by rw [atTrip_zero, h0, Scf.iv_zero]
  | k + 1 => by
    rw [atTrip_succ, h _ _ (atTrip_counter rd mk c h0 h k), Scf.iv_succ]

section Cond

variable {Λ₀ : Idealize.SL.Sem.Labels} {P : Type} [Fintype P] {Ix : Type} [DecidableEq Ix] {Name : Type} [DecidableEq Name] {U : Type} [URA U]
  (pcs : P → Pipeline.PCfg sig Λ₀ (Elt F)) (defs₀ : Defs nD τ sig (Elt F) Λ₀) (𝒱₀ : Variants) {nL : Nat}
  (loops : Fin nL → Prog (TpuEff nD τ sig (Elt F) (HostLoop.Sig (Pipeline.Sig Λ₀ P fun p => (pcs p).Adm) nL) .tc) PUnit)

set_option backward.isDefEq.respectTransparency.types false in
/-- A condition region that writes a constant into `y`, computes `p` from `a` and `b`, and returns `p`'s element: its specification, from what
    that element is before each round. -/
theorem loopCond_of (Rc : Dev nD → sProp (MT nD τ sig Ix (Elt F) Name U ℕ)) (y a b p : Ref sig .tc) (v : y.ty.Contents (Elt F))
    (f : a.ty.Contents (Elt F) → b.ty.Contents (Elt F) → p.ty.Contents (Elt F)) (hy ha hb hp) (he : p.ty = ⟨⟨0, ![]⟩, .i1⟩)
    (bodyI : List (List (HloOp τ sig (Elt F)))) (W₀ : Dev nD → Valuation τ sig (Elt F)) (n : ℕ)
    (hval : ∀ k ≤ n, ∀ c, (cast (congrArg (BufTy.Contents (Elt F)) he)
      (f ((nullary (τ := τ) y v hy).result (atTrip [nullary y v hy, binary a b p f ha hb hp] bodyI W₀ k c) (Proc.devRef .tc a))
        ((nullary (τ := τ) y v hy).result (atTrip [nullary y v hy, binary a b p f ha hb hp] bodyI W₀ k c) (Proc.devRef .tc b))) HostLoop.idx0 = 1#1 ↔ k < n)) :
    LoopCond pcs defs₀ 𝒱₀ loops Rc
      (do hlo rfl (nullary y v hy) (fun _ => .ret ⟨⟩)
          let x ← hlo rfl (binary a b p f ha hb hp) (HostLoop.elt p he)
          pure x)
      [nullary y v hy, binary a b p f ha hb hp] bodyI W₀ n := by
  intro k hk c bd
  have hv := hval k hk c
  rw [wp_bind]
  iintro ⟨Hb, Hh, HR⟩
  iapply (wp_hlo_within (Variants.lift 𝒱₀) (c : Thread nD τ) bd Set.univ (Pipeline.sub_ucRefs _ (nullary_bufs_sub ..)) (hf := rfl)) $$ [Hb Hh]
  · isplitl [Hb]; · iexact Hb
    iexact Hh
  iintro ⟨Hb, Hh⟩
  rw [wp_ret]; imodintro
  iapply (wp_hlo_within (Variants.lift 𝒱₀) (c : Thread nD τ) bd Set.univ (Pipeline.sub_ucRefs _ (binary_bufs_sub ..)) (hf := rfl)) $$ [Hb Hh]
  · isplitl [Hb]; · iexact Hb
    iexact Hh
  iintro ⟨Hb, Hh⟩
  rw [HostLoop.elt_apply, wp_ret]; imodintro
  isplitr
  · ipureintro
    exact hv
  isplitl [Hb]; · iexact Hb
  isplitl [Hh]; · rw [after_cons, after_cons, after_nil]; iexact Hh
  iexact HR

end Cond

end Cert.Loops

end
-- ==== Proof.KStretches.lean ====
/- The stretches of the kernel's host program: the arrays that each of them writes, in order, and what its two loops and its arguments do. -/
module

public import proofs.«01_k».proof.Proof.Gen.KernelIdeal.Launch
public import proofs.«01_k».proof.Proof.Loops

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Loops

variable {F : FTy → Type} [FloatOps F]

/-! ## What each stretch writes -/

abbrev hostOps0_W : List (Ref sig .tc) :=
  [main_v0, main_v1, main_v2, main_v3, main_v4, main_v5,
   main_v6, main_v7, main_v8, main_v9, main_v10, main_v11,
   main_v12, main_cst, main_v13, main_v14, main_v15, main_cst_0,
   main_v16, main_c, main_v17, main_v18, main_c_1, main_v19,
   main_v20, main_v21, main_v22, main_v23, main_c_2, main_v24,
   main_v25, main_c_3, main_v26, main_v27, main_v28, main_v29,
   main_v30, main_v31, main_cst_4]
theorem hostOps0_writes : (hostOps0 : List (HloOp τ sig (Elt F))).Forall fun op => op.writes ⊆ (hostOps0_W.map (Proc.devRef (τ := τ) .tc)).toFinset :=
  StableHlo.forall_writes_sub_of_map rfl
abbrev hostOps0_1_W : List (Ref sig .tc) :=
  [main_call0_cst, main_call0_v0, main_call0_v1, main_call0_v2, main_call0_v3, main_call0_v4,
   main_v32]
theorem hostOps0_1_writes : (hostOps0_1 : List (HloOp τ sig (Elt F))).Forall fun op => op.writes ⊆ (hostOps0_1_W.map (Proc.devRef (τ := τ) .tc)).toFinset :=
  StableHlo.forall_writes_sub_of_map rfl
abbrev hostOps0_2_W : List (Ref sig .tc) :=
  [main_v33, main_cst_5, main_v34, main_v35, main_v36, main_c_6,
   main_v37, main_v38, main_c_7, main_v39, main_v40, main_v41,
   main_v42, main_v43, main_cst_8, main_v44, main_v45, main_v46,
   main_c_9, main_v47, main_v48, main_c_10, main_v49, main_v50,
   main_v51, main_v52, main_v53, main_v54, main_v55, main_v56,
   main_cst_11, main_v57, main_v58, main_v59, main_cst_12, main_v60,
   main_cst_13, main_v61, main_v62, main_v63, main_v64, main_v65,
   main_v66, main_v67, main_cst_14, main_v68, main_cst_15, main_v69,
   main_cst_16, main_v70, main_c_17, main_v71_0, main_v71_1, main_v71_2,
   main_v71_3, main_v71_4, main_v71_5, main_v71_6, main_v71_7, main_v71_8]
theorem hostOps0_2_writes : (hostOps0_2 : List (HloOp τ sig (Elt F))).Forall fun op => op.writes ⊆ (hostOps0_2_W.map (Proc.devRef (τ := τ) .tc)).toFinset :=
  StableHlo.forall_writes_sub_of_map rfl
abbrev hostOps0_3_W : List (Ref sig .tc) :=
  [main_cst_18, main_v72, main_cst_19, main_v73, main_cst_20, main_v74,
   main_c_21, main_v75_0, main_v75_1, main_v75_2, main_v75_3, main_v75_4,
   main_v75_5, main_v75_6, main_v75_7, main_v75_8]
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) :=
  [main_v76, main_v77]
theorem hostOps0_4_writes : (hostOps0_4 : List (HloOp τ sig (Elt F))).Forall fun op => op.writes ⊆ (hostOps0_4_W.map (Proc.devRef (τ := τ) .tc)).toFinset :=
  StableHlo.forall_writes_sub_of_map rfl
abbrev hostOps1_W : List (Ref sig .tc) :=
  [main_v79, main_v80, main_v81]
theorem hostOps1_writes : (hostOps1 : List (HloOp τ sig (Elt F))).Forall fun op => op.writes ⊆ (hostOps1_W.map (Proc.devRef (τ := τ) .tc)).toFinset :=
  StableHlo.forall_writes_sub_of_map rfl
abbrev main_part0_ops0_W : List (Ref sig .tc) :=
  [main_v0, main_v1, main_v2, main_v3, main_v4, main_v5,
   main_v6, main_v7, main_v8, main_v9, main_v10, main_v11,
   main_v12, main_cst, main_v13, main_v14, main_v15, main_cst_0,
   main_v16, main_c, main_v17, main_v18, main_c_1, main_v19,
   main_v20, main_v21, main_v22, main_v23, main_c_2, main_v24,
   main_v25, main_c_3, main_v26, main_v27, main_v28, main_v29,
   main_v30, main_v31, main_cst_4]
theorem main_part0_ops0_writes : (main_part0_ops0 : List (HloOp τ sig (Elt F))).Forall fun op => op.writes ⊆ (main_part0_ops0_W.map (Proc.devRef (τ := τ) .tc)).toFinset :=
  StableHlo.forall_writes_sub_of_map rfl
abbrev main_part0_ops1_W : List (Ref sig .tc) :=
  [main_call0_cst, main_call0_v0, main_call0_v1, main_call0_v2, main_call0_v3, main_call0_v4,
   main_v32]
theorem main_part0_ops1_writes : (main_part0_ops1 : List (HloOp τ sig (Elt F))).Forall fun op => op.writes ⊆ (main_part0_ops1_W.map (Proc.devRef (τ := τ) .tc)).toFinset :=
  StableHlo.forall_writes_sub_of_map rfl
abbrev main_part0_ops2_W : List (Ref sig .tc) :=
  [main_v33, main_cst_5, main_v34, main_v35, main_v36, main_c_6,
   main_v37, main_v38, main_c_7, main_v39, main_v40, main_v41,
   main_v42, main_v43, main_cst_8, main_v44, main_v45, main_v46,
   main_c_9, main_v47]
theorem main_part0_ops2_writes : (main_part0_ops2 : List (HloOp τ sig (Elt F))).Forall fun op => op.writes ⊆ (main_part0_ops2_W.map (Proc.devRef (τ := τ) .tc)).toFinset :=
  StableHlo.forall_writes_sub_of_map rfl
abbrev main_part1_ops0_W : List (Ref sig .tc) :=
  [main_v48, main_c_10, main_v49, main_v50, main_v51, main_v52,
   main_v53, main_v54, main_v55, main_v56, main_cst_11, main_v57,
   main_v58, main_v59, main_cst_12, main_v60, main_cst_13, main_v61,
   main_v62, main_v63, main_v64, main_v65, main_v66, main_v67,
   main_cst_14, main_v68, main_cst_15, main_v69, main_cst_16, main_v70,
   main_c_17, main_v71_0, main_v71_1, main_v71_2, main_v71_3, main_v71_4,
   main_v71_5, main_v71_6, main_v71_7, main_v71_8]
theorem main_part1_ops0_writes : (main_part1_ops0 : List (HloOp τ sig (Elt F))).Forall fun op => op.writes ⊆ (main_part1_ops0_W.map (Proc.devRef (τ := τ) .tc)).toFinset :=
  StableHlo.forall_writes_sub_of_map rfl
abbrev main_part1_ops1_W : List (Ref sig .tc) :=
  [main_cst_18, main_v72, main_cst_19, main_v73, main_cst_20, main_v74,
   main_c_21, main_v75_0, main_v75_1, main_v75_2, main_v75_3, main_v75_4,
   main_v75_5, main_v75_6, main_v75_7, main_v75_8]
theorem main_part1_ops1_writes : (main_part1_ops1 : List (HloOp τ sig (Elt F))).Forall fun op => op.writes ⊆ (main_part1_ops1_W.map (Proc.devRef (τ := τ) .tc)).toFinset :=
  StableHlo.forall_writes_sub_of_map rfl
abbrev main_part1_ops2_W : List (Ref sig .tc) :=
  [main_v76, main_v77]
theorem main_part1_ops2_writes : (main_part1_ops2 : List (HloOp τ sig (Elt F))).Forall fun op => op.writes ⊆ (main_part1_ops2_W.map (Proc.devRef (τ := τ) .tc)).toFinset :=
  StableHlo.forall_writes_sub_of_map rfl
abbrev main_part2_ops0_W : List (Ref sig .tc) :=
  [main_v79, main_v80, main_v81]
theorem main_part2_ops0_writes : (main_part2_ops0 : List (HloOp τ sig (Elt F))).Forall fun op => op.writes ⊆ (main_part2_ops0_W.map (Proc.devRef (τ := τ) .tc)).toFinset :=
  StableHlo.forall_writes_sub_of_map rfl
abbrev while0Ops0_W : List (Ref sig .tc) :=
  [main_while0b_call1_c, main_while0b_call1_c_0, main_while0b_call1_v0, main_while0b_v82]
theorem while0Ops0_writes : (while0Ops0 : List (HloOp τ sig (Elt F))).Forall fun op => op.writes ⊆ (while0Ops0_W.map (Proc.devRef (τ := τ) .tc)).toFinset :=
  StableHlo.forall_writes_sub_of_map rfl
abbrev while0Ops0_1_W : List (Ref sig .tc) :=
  [main_while0b_v83, main_while0b_v84, main_while0b_v85, main_while0b_v86, main_while0b_v87, main_while0b_v88,
   main_while0b_v89, main_while0b_v90, main_while0b_v91, main_while0b_v92, main_while0b_v93, main_while0b_v94,
   main_while0b_v95, main_while0b_v96, main_while0b_v97, main_while0b_v98, main_while0b_v99, main_while0b_cst_30,
   main_while0b_v100, main_while0b_v101, main_while0b_cst_31, main_while0b_v102, main_while0b_v103, main_while0b_v104,
   main_while0b_v105, main_while0b_v106, main_while0b_cst_32, main_while0b_v107, main_while0b_v108, main_while0b_cst_33,
   main_while0b_v109, main_while0b_v110, main_while0b_v111, main_while0b_v112, main_while0b_v113, main_while0b_v114,
   main_while0b_v115, main_while0b_cst_34, main_while0b_v116, main_while0b_v117, main_while0b_cst_35, main_while0b_v118,
   main_while0b_v119, main_while0b_v120, main_while0b_v121]
theorem while0Ops0_1_writes : (while0Ops0_1 : List (HloOp τ sig (Elt F))).Forall fun op => op.writes ⊆ (while0Ops0_1_W.map (Proc.devRef (τ := τ) .tc)).toFinset :=
  StableHlo.forall_writes_sub_of_map rfl
abbrev while0Ops0_2_W : List (Ref sig .tc) :=
  [main_while0b_call2_v0, main_while0b_call2_c, main_while0b_call2_c_0, main_while0b_v122]
theorem while0Ops0_2_writes : (while0Ops0_2 : List (HloOp τ sig (Elt F))).Forall fun op => op.writes ⊆ (while0Ops0_2_W.map (Proc.devRef (τ := τ) .tc)).toFinset :=
  StableHlo.forall_writes_sub_of_map rfl
abbrev while0Ops0_3_W : List (Ref sig .tc) :=
  [main_while0b_c_36, main_while0b_v123, main_v71_5, main_v71_6, main_v71_7, main_v71_8]
theorem while0Ops0_3_writes : (while0Ops0_3 : List (HloOp τ sig (Elt F))).Forall fun op => op.writes ⊆ (while0Ops0_3_W.map (Proc.devRef (τ := τ) .tc)).toFinset :=
  StableHlo.forall_writes_sub_of_map rfl
abbrev while1Ops0_W : List (Ref sig .tc) :=
  [main_while1b_call3_c, main_while1b_call3_c_0, main_while1b_call3_v0, main_while1b_v82]
theorem while1Ops0_writes : (while1Ops0 : List (HloOp τ sig (Elt F))).Forall fun op => op.writes ⊆ (while1Ops0_W.map (Proc.devRef (τ := τ) .tc)).toFinset :=
  StableHlo.forall_writes_sub_of_map rfl
abbrev while1Ops0_1_W : List (Ref sig .tc) :=
  [main_while1b_v83, main_while1b_v84, main_while1b_v85, main_while1b_v86, main_while1b_v87, main_while1b_v88,
   main_while1b_v89, main_while1b_v90, main_while1b_v91, main_while1b_v92, main_while1b_v93, main_while1b_v94,
   main_while1b_v95, main_while1b_v96, main_while1b_v97, main_while1b_v98, main_while1b_v99, main_while1b_cst_30,
   main_while1b_v100, main_while1b_v101, main_while1b_cst_31, main_while1b_v102, main_while1b_v103, main_while1b_v104,
   main_while1b_v105, main_while1b_v106, main_while1b_cst_32, main_while1b_v107, main_while1b_v108, main_while1b_cst_33,
   main_while1b_v109, main_while1b_v110, main_while1b_v111, main_while1b_v112, main_while1b_v113, main_while1b_v114,
   main_while1b_v115, main_while1b_cst_34, main_while1b_v116, main_while1b_v117, main_while1b_cst_35, main_while1b_v118,
   main_while1b_v119, main_while1b_v120, main_while1b_v121]
theorem while1Ops0_1_writes : (while1Ops0_1 : List (HloOp τ sig (Elt F))).Forall fun op => op.writes ⊆ (while1Ops0_1_W.map (Proc.devRef (τ := τ) .tc)).toFinset :=
  StableHlo.forall_writes_sub_of_map rfl
abbrev while1Ops0_2_W : List (Ref sig .tc) :=
  [main_while1b_call4_v0, main_while1b_call4_c, main_while1b_call4_c_0, main_while1b_v122]
theorem while1Ops0_2_writes : (while1Ops0_2 : List (HloOp τ sig (Elt F))).Forall fun op => op.writes ⊆ (while1Ops0_2_W.map (Proc.devRef (τ := τ) .tc)).toFinset :=
  StableHlo.forall_writes_sub_of_map rfl
abbrev while1Ops0_3_W : List (Ref sig .tc) :=
  [main_while1b_c_36, main_while1b_v123, main_v75_5, main_v75_6, main_v75_7, main_v75_8]
theorem while1Ops0_3_writes : (while1Ops0_3 : List (HloOp τ sig (Elt F))).Forall fun op => op.writes ⊆ (while1Ops0_3_W.map (Proc.devRef (τ := τ) .tc)).toFinset :=
  StableHlo.forall_writes_sub_of_map rfl

/-- The sixteen arguments. -/
abbrev argRefs : List (Ref sig .tc) := [main_arg0, main_arg1, main_arg2, main_arg3, main_arg4, main_arg5, main_arg6, main_arg7, main_arg8, main_arg9,
  main_arg10, main_arg11, main_arg12, main_arg13, main_arg14, main_arg15]

/-! ## The operations of the two loops' condition regions -/

abbrev cond0 : List (HloOp τ sig (Elt F)) :=
  [ StableHlo.nullary main_while0c_c_30 (constantI S_ 32 12#32),
    StableHlo.binary main_v71_5 main_while0c_c_30 main_while0c_v82 (cmpi .slt) ]
abbrev cond0_W : List (Ref sig .tc) := [main_while0c_c_30, main_while0c_v82]
theorem cond0_writes : (cond0 : List (HloOp τ sig (Elt F))).Forall fun op => op.writes ⊆ (cond0_W.map (Proc.devRef (τ := τ) .tc)).toFinset :=
  StableHlo.forall_writes_sub_of_map rfl
abbrev cond1 : List (HloOp τ sig (Elt F)) :=
  [ StableHlo.nullary main_while1c_c_30 (constantI S_ 32 12#32),
    StableHlo.binary main_v75_5 main_while1c_c_30 main_while1c_v82 (cmpi .slt) ]
abbrev cond1_W : List (Ref sig .tc) := [main_while1c_c_30, main_while1c_v82]
theorem cond1_writes : (cond1 : List (HloOp τ sig (Elt F))).Forall fun op => op.writes ⊆ (cond1_W.map (Proc.devRef (τ := τ) .tc)).toFinset :=
  StableHlo.forall_writes_sub_of_map rfl

/-! ## The stretches between the loops, and the loops' bodies -/

abbrev pre0 : List (List (HloOp τ sig (Elt F))) := [hostOps0, hostOps0_1, hostOps0_2]
theorem pre0_plain : StableHlo.Plain (pre0 (F := F)) :=
  .cons hostOps0_sub (.cons hostOps0_1_sub (.cons hostOps0_2_sub .nil))
abbrev pre1 : List (List (HloOp τ sig (Elt F))) := [hostOps0_3]
theorem pre1_plain : StableHlo.Plain (pre1 (F := F)) :=
  .cons hostOps0_3_sub .nil
abbrev pre2 : List (List (HloOp τ sig (Elt F))) := [hostOps0_4]
theorem pre2_plain : StableHlo.Plain (pre2 (F := F)) :=
  .cons hostOps0_4_sub .nil
abbrev post : List (List (HloOp τ sig (Elt F))) := [hostOps1]
theorem post_plain : StableHlo.Plain (post (F := F)) :=
  .cons hostOps1_sub .nil
abbrev body0 : List (List (HloOp τ sig (Elt F))) := [while0Ops0, while0Ops0_1, while0Ops0_2, while0Ops0_3]
theorem body0_plain : StableHlo.Plain (body0 (F := F)) :=
  .cons while0Ops0_sub (.cons while0Ops0_1_sub (.cons while0Ops0_2_sub (.cons while0Ops0_3_sub .nil)))
abbrev body1 : List (List (HloOp τ sig (Elt F))) := [while1Ops0, while1Ops0_1, while1Ops0_2, while1Ops0_3]
theorem body1_plain : StableHlo.Plain (body1 (F := F)) :=
  .cons while1Ops0_sub (.cons while1Ops0_1_sub (.cons while1Ops0_2_sub (.cons while1Ops0_3_sub .nil)))

/-! A reference that no list of the stretches' written references has is left as it was. -/

abbrev pre0_W : List (List (Ref sig .tc)) := [hostOps0_W, hostOps0_1_W, hostOps0_2_W]
theorem pre0_kept (V : Valuation τ sig (Elt F)) {r : Ref sig .tc} (hr : ∀ W ∈ pre0_W, r ∉ W) : StableHlo.afterL pre0 V (Proc.devRef .tc r) = V (Proc.devRef .tc r) :=
  afterL_of_writes_sub _ pre0_W (.cons hostOps0_writes (.cons hostOps0_1_writes (.cons hostOps0_2_writes .nil))) hr V
abbrev pre1_W : List (List (Ref sig .tc)) := [hostOps0_3_W]
theorem pre1_kept (V : Valuation τ sig (Elt F)) {r : Ref sig .tc} (hr : ∀ W ∈ pre1_W, r ∉ W) : StableHlo.afterL pre1 V (Proc.devRef .tc r) = V (Proc.devRef .tc r) :=
  afterL_of_writes_sub _ pre1_W (.cons hostOps0_3_writes .nil) hr V
abbrev pre2_W : List (List (Ref sig .tc)) := [hostOps0_4_W]
theorem pre2_kept (V : Valuation τ sig (Elt F)) {r : Ref sig .tc} (hr : ∀ W ∈ pre2_W, r ∉ W) : StableHlo.afterL pre2 V (Proc.devRef .tc r) = V (Proc.devRef .tc r) :=
  afterL_of_writes_sub _ pre2_W (.cons hostOps0_4_writes .nil) hr V
abbrev post_W : List (List (Ref sig .tc)) := [hostOps1_W]
theorem post_kept (V : Valuation τ sig (Elt F)) {r : Ref sig .tc} (hr : ∀ W ∈ post_W, r ∉ W) : StableHlo.afterL post V (Proc.devRef .tc r) = V (Proc.devRef .tc r) :=
  afterL_of_writes_sub _ post_W (.cons hostOps1_writes .nil) hr V
abbrev loop0_W : List (List (Ref sig .tc)) := [cond0_W, while0Ops0_W, while0Ops0_1_W, while0Ops0_2_W, while0Ops0_3_W]
theorem round0_kept (V : Valuation τ sig (Elt F)) {r : Ref sig .tc} (hr : ∀ W ∈ loop0_W, r ∉ W) :
    StableHlo.afterL body0 (StableHlo.after cond0 V) (Proc.devRef .tc r) = V (Proc.devRef .tc r) :=
  afterL_of_writes_sub (cond0 :: body0) loop0_W (.cons cond0_writes (.cons while0Ops0_writes (.cons while0Ops0_1_writes (.cons while0Ops0_2_writes (.cons while0Ops0_3_writes .nil))))) hr V
abbrev loop1_W : List (List (Ref sig .tc)) := [cond1_W, while1Ops0_W, while1Ops0_1_W, while1Ops0_2_W, while1Ops0_3_W]
theorem round1_kept (V : Valuation τ sig (Elt F)) {r : Ref sig .tc} (hr : ∀ W ∈ loop1_W, r ∉ W) :
    StableHlo.afterL body1 (StableHlo.after cond1 V) (Proc.devRef .tc r) = V (Proc.devRef .tc r) :=
  afterL_of_writes_sub (cond1 :: body1) loop1_W (.cons cond1_writes (.cons while1Ops0_writes (.cons while1Ops0_1_writes (.cons while1Ops0_2_writes (.cons while1Ops0_3_writes .nil))))) hr V

/-! ## The contents at each boundary -/

/-- The trip count of each of the two loops over the time steps. -/
def nT : ℕ := Scf.trips 0#32 12#32 1#32

variable (m : (ℓ : Loc nD τ sig) → Buf (Elt F) ℓ)

/-- The arrays at launch, and at each loop's entry and exit; `K0`, `K1` before the `k`-th run of a loop's condition; `E2` at the head kernel's entry. -/
abbrev W0 : Dev nD → Valuation τ sig (Elt F) := fun c b => m ((c : Dev nD), b)
def E0 : Dev nD → Valuation τ sig (Elt F) := fun c => StableHlo.afterL pre0 (W0 m c)
abbrev K0 (k : ℕ) : Dev nD → Valuation τ sig (Elt F) := StableHlo.atTrip cond0 body0 (E0 m) k
def X0 : Dev nD → Valuation τ sig (Elt F) := fun c => StableHlo.after cond0 (K0 m nT c)
def E1 : Dev nD → Valuation τ sig (Elt F) := fun c => StableHlo.afterL pre1 (X0 m c)
abbrev K1 (k : ℕ) : Dev nD → Valuation τ sig (Elt F) := StableHlo.atTrip cond1 body1 (E1 m) k
def X1 : Dev nD → Valuation τ sig (Elt F) := fun c => StableHlo.after cond1 (K1 m nT c)
def E2 : Dev nD → Valuation τ sig (Elt F) := fun c => StableHlo.afterL pre2 (X1 m c)

/-- An array that a loop leaves alone holds at its exit what it held at its entry. -/
theorem X0_kept (c : Dev nD) {r : Ref sig .tc} (hr : ∀ W ∈ loop0_W, r ∉ W) : X0 m c (Proc.devRef .tc r) = E0 m c (Proc.devRef .tc r) :=
  (StableHlo.after_of_writes_sub cond0 _ cond0_writes (hr cond0_W List.mem_cons_self)).trans (atTrip_of_kept (fun V => round0_kept V hr) c _)
theorem X1_kept (c : Dev nD) {r : Ref sig .tc} (hr : ∀ W ∈ loop1_W, r ∉ W) : X1 m c (Proc.devRef .tc r) = E1 m c (Proc.devRef .tc r) :=
  (StableHlo.after_of_writes_sub cond1 _ cond1_writes (hr cond1_W List.mem_cons_self)).trans (atTrip_of_kept (fun V => round1_kept V hr) c _)

/-- Every argument holds at each boundary what it held at launch. -/
theorem E0_args (c : Dev nD) : ∀ a ∈ argRefs, E0 m c (Proc.devRef .tc a) = m ((c : Thread nD τ).loc a) := fun a ha =>
  pre0_kept _ ((show ∀ a ∈ argRefs, ∀ W ∈ pre0_W, a ∉ W by decide) a ha)
theorem X0_args (c : Dev nD) : ∀ a ∈ argRefs, X0 m c (Proc.devRef .tc a) = m ((c : Thread nD τ).loc a) := fun a ha =>
  (X0_kept m c ((show ∀ a ∈ argRefs, ∀ W ∈ loop0_W, a ∉ W by decide) a ha)).trans (E0_args m c a ha)
theorem E1_args (c : Dev nD) : ∀ a ∈ argRefs, E1 m c (Proc.devRef .tc a) = m ((c : Thread nD τ).loc a) := fun a ha =>
  (pre1_kept _ ((show ∀ a ∈ argRefs, ∀ W ∈ pre1_W, a ∉ W by decide) a ha)).trans (X0_args m c a ha)
theorem X1_args (c : Dev nD) : ∀ a ∈ argRefs, X1 m c (Proc.devRef .tc a) = m ((c : Thread nD τ).loc a) := fun a ha =>
  (X1_kept m c ((show ∀ a ∈ argRefs, ∀ W ∈ loop1_W, a ∉ W by decide) a ha)).trans (E1_args m c a ha)
theorem E2_args (c : Dev nD) : ∀ a ∈ argRefs, E2 m c (Proc.devRef .tc a) = m ((c : Thread nD τ).loc a) := fun a ha =>
  (pre2_kept _ ((show ∀ a ∈ argRefs, ∀ W ∈ pre2_W, a ∉ W by decide) a ha)).trans (X1_args m c a ha)

end Cert.KernelIdeal.Run

end
-- ==== Proof.KRegion.lean ====
/- The head kernel's region: what its body leaves in the output block at each grid point, and the region as a segment of the host program. -/
module

public import proofs.«01_k».proof.Proof.KStretches
public import proofs.«01_k».proof.Proof.Gen.KernelIdeal.Skeleton
public import proofs.«01_k».proof.Proof.Gen.KernelIdeal.Points
public import Idealize.ShloMosaic.Lib.Pipeline.DatRel
public import Idealize.ShloMosaic.Lib.Pipeline.ArrRel
public import Idealize.ShloMosaic.Lib.Pipeline.FrameBody
public import Idealize.ShloMosaic.Lib.Pipeline.RegionsForgetR
public import Idealize.ShloMosaic.Lib.Pipeline.RegionArraysF
public import Idealize.ShloMosaic.Lib.Tactic

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Loops
open Idealize.ShloMosaic.Rounds
open Idealize.ShloMosaic.Pipeline (Dat RDat Cfg Window BodyObligation BodyObligationRel)

variable {F : FTy → Type} [FloatOps F]

/-- The proof's resource algebra: one copy of the pipeline's. -/
abbrev UU := UR sig nD τ

local notation "𝕄" => MT nD τ sig Unit (Elt F) ℕ UU ℕ

/-- The kernel's variants: none. No core owes another anything: no level is assigned. -/
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

variable (V : (c : Dev nD) → (b : Ref sig .tc) → Buf (Elt F) ((c : Thread nD τ).loc b))

/-! ## The blocks -/

/-- The hidden state's block (the whole array at every point), the weights' rows and the biases that the fetch at point `t` reads. -/
def hblk (c : Dev nD) (t : Fin cfg0.N) : S4x128.Idx → Elt F .f32 := (win0_0.blk t).view.read (Elt F) (V c main_v77)
def wblk (c : Dev nD) (t : Fin cfg0.N) : (win0_1.xblock (grid0.coords t)).Idx → Elt F .f32 := (win0_1.blk t).view.read (Elt F) (V c main_arg14)
def bblk (c : Dev nD) (t : Fin cfg0.N) : (win0_2.xblock (grid0.coords t)).Idx → Elt F .f32 := (win0_2.blk t).view.read (Elt F) (V c main_arg15)

/-- What the body may leave in the output block at point `t`: the head of the hidden state on the weights' and biases' blocks, each filled out
    past its array's end with something. -/
def HeadBlock (c : Dev nD) (t : Fin cfg0.N) (X : S4x1024.Idx → Elt F .f32) : Prop :=
  ∃ (d1 : S1024x128.Idx → Elt F .f32) (d2 : S1024.Idx → Elt F .f32),
    X = k0_pay1 (hblk V c t) (win0_1.fill (grid0.coords t) d1 (wblk V c t)) (win0_2.fill (grid0.coords t) d2 (bblk V c t))

/-- The region's data: the arrays at their entry contents; the inputs' buffers end at their blocks. -/
def dat (c : Dev nD) : Dat τ (Elt F) Unit ℕ UU ℕ cfg0 c where
  A w := V c (Pipeline.arrRef spec0 w)
  after w t := match w with
    | ⟨0, _⟩ => hblk V c t
    | ⟨1, _⟩ => win0_1.fill (grid0.coords t) (fun _ => Scalar.ofBits .f32 0#32) (wblk V c t)
    | ⟨2, _⟩ => win0_2.fill (grid0.coords t) (fun _ => Scalar.ofBits .f32 0#32) (bblk V c t)
    | ⟨3, _⟩ => fun _ => Scalar.ofBits .f32 0#32
  Φ _ := iprop(emp)
  q _ := fullShare
  owed _ := 0

/-- The output window is held to a predicate. -/
def fgt : Fin cfg0.W → Bool
  | ⟨3, _⟩ => true
  | _ => false
def Rl (c : Dev nD) : (w : Fin cfg0.W) → Fin cfg0.N → ((cfg0.win w).block.Idx → Elt F (cfg0.win w).elt) → Prop
  | ⟨3, _⟩ => HeadBlock V c
  | ⟨0, _⟩ => fun _ _ => True
  | ⟨1, _⟩ => fun _ _ => True
  | ⟨2, _⟩ => fun _ _ => True

abbrev rdat (c : Dev nD) : RDat τ (Elt F) Unit ℕ UU ℕ cfg0 c := (dat V c).toRRel fgt (Rl V c)

/-! ## The body -/

theorem before_0 (c : Dev nD) (t : Fin cfg0.N) (d) : (dat V c).before (0 : Fin 4) t d = hblk V c t :=
  (dat V c).before_in_eq_fetched (0 : Fin 4) rfl (fun _ => rfl) (fun _ _ _ => rfl) (fun _ => rfl) t d
theorem before_1 (c : Dev nD) (t : Fin cfg0.N) (d) : (dat V c).before (1 : Fin 4) t d = win0_1.fill (grid0.coords t) d (wblk V c t) := by
  unfold Dat.before; rw [if_pos (fetch0_1 t)]; rfl
theorem before_2 (c : Dev nD) (t : Fin cfg0.N) (d) : (dat V c).before (2 : Fin 4) t d = win0_2.fill (grid0.coords t) d (bblk V c t) := by
  unfold Dat.before; rw [if_pos (fetch0_2 t)]; rfl

set_option maxHeartbeats 4000000 in
/-- The body on the staging buffers: it leaves the inputs' as they are and the output's at the head of the three. -/
theorem body_run (c : Dev nD) (E : Set ℕ) (i : grid0.Coords) (s0 : Fin 1) (s1 s2 s3 : Fin 2)
    (X0 : S4x128.Idx → Elt F .f32) (X1 : S1024x128.Idx → Elt F .f32) (X2 : S1024.Idx → Elt F .f32) (X3 : S4x1024.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare (k0_pay1 X0 X1 X2)) -∗ K ⟨⟩))
      ⊢ wp frame (wpE (defs₀ (F := F)) 𝒱₀ c none) E
          (cc0__head_kernel i (stage0_0 s0) (hstage0_0 s0) (stage0_1 s1) (hstage0_1 s1) (stage0_2 s2) (hstage0_2 s2) (stage0_3 s3) (hstage0_3 s3)) K := by
  have hz : (![0, 0] : Fin 2 → Nat) = fun _ => 0 := funext fun a => by fin_cases a <;> rfl
  have hz1 : (![0] : Fin 1 → Nat) = fun _ => 0 := funext fun a => by fin_cases a; rfl
  rw [cc0__head_kernel_eq_skeleton]
  have h0 : (Memref.whole cc0_stg0_0 : Memref sig .tc _ _ _).view.readAt (Elt F) (Rect.unit (s := S4x128) ![0, 0] S4x128.size
      inb_S4x128_S4x128_0_0).toLoadRect = id := funext (Memref.readAt_unit_zero (Elt F) cc0_stg0_0 hz _)
  have h1 : (Memref.whole cc0_stg1_0 : Memref sig .tc _ _ _).view.readAt (Elt F) (Rect.unit (s := S1024x128) ![0, 0] S1024x128.size
      inb_S1024x128_S1024x128_0_0).toLoadRect = id := funext (Memref.readAt_unit_zero (Elt F) cc0_stg1_0 hz _)
  have h1' : (Memref.whole cc0_stg1_1 : Memref sig .tc _ _ _).view.readAt (Elt F) (Rect.unit (s := S1024x128) ![0, 0] S1024x128.size
      inb_S1024x128_S1024x128_0_0).toLoadRect = id := funext (Memref.readAt_unit_zero (Elt F) cc0_stg1_1 hz _)
  have h2 : (Memref.whole cc0_stg2_0 : Memref sig .tc _ _ _).view.readAt (Elt F) (Rect.unit (s := S1024) ![0] S1024.size
      inb_S1024_S1024_0).toLoadRect = id := funext (Memref.readAt_unit_zero (Elt F) cc0_stg2_0 hz1 _)
  have h2' : (Memref.whole cc0_stg2_1 : Memref sig .tc _ _ _).view.readAt (Elt F) (Rect.unit (s := S1024) ![0] S1024.size
      inb_S1024_S1024_0).toLoadRect = id := funext (Memref.readAt_unit_zero (Elt F) cc0_stg2_1 hz1 _)
  have h3 : ∀ f w, (((Memref.whole cc0_stg3_0).access (Rect.unit (s := S4x1024) ![0, 0] S4x1024.size inb_S4x1024_S4x1024_0_0)) :
      View sig .tc _ _ _).write (Elt F) f w Finset.univ = w := Memref.write_access_unit_zero_univ (Elt F) cc0_stg3_0 hz _
  have h3' : ∀ f w, (((Memref.whole cc0_stg3_1).access (Rect.unit (s := S4x1024) ![0, 0] S4x1024.size inb_S4x1024_S4x1024_0_0)) :
      View sig .tc _ _ _).write (Elt F) f w Finset.univ = w := Memref.write_access_unit_zero_univ (Elt F) cc0_stg3_1 hz _
  fin_cases s0 <;> fin_cases s1 <;> fin_cases s2 <;> fin_cases s3 <;>
  · simp only [owns_whole_eq]; unfold cc0__head_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [h0]
    first | rw [h1] | rw [h1']
    first | rw [h2] | rw [h2']
    first | rw [h3] | rw [h3']
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3

/-- The body's obligation, with the output window held to `HeadBlock`. -/
theorem body_rel (c : Dev nD) : BodyObligationRel (dat V c) (defs₀ (F := F)) 𝒱₀ () Set.univ fgt (Rl V c) := fun t => by
  rw [bigSep_W0, bigSep_W0]
  rw [show (dat V c).Φ t.succ = (dat V c).Φ t.castSucc from rfl,
    show (dat V c).owesAt () t.succ = (dat V c).owesAt () t.castSucc from rfl]
  show iprop((dat V c).Φ t.castSucc ∗ (dat V c).owesAt () t.castSucc
      ∗ iprop(∃ d, owns (c : Thread nD τ) (stage0_0 (cfg0.slots t 0)) fullShare ((dat V c).before (0 : Fin 4) t d))
      ∗ iprop(∃ d, owns (c : Thread nD τ) (stage0_1 (cfg0.slots t 1)) fullShare ((dat V c).before (1 : Fin 4) t d))
      ∗ iprop(∃ d, owns (c : Thread nD τ) (stage0_2 (cfg0.slots t 2)) fullShare ((dat V c).before (2 : Fin 4) t d))
      ∗ iprop(∃ Y, ⌜(rdat V c).Finds (3 : Fin 4) t Y⌝ ∗ owns (c : Thread nD τ) (stage0_3 (cfg0.slots t 3)) fullShare Y))
    ⊢ wp frame (wpE (defs₀ (F := F)) 𝒱₀ c none) Set.univ (bodyAt0 t) fun _ => iprop((dat V c).Φ t.castSucc ∗ (dat V c).owesAt () t.castSucc
      ∗ owns (c : Thread nD τ) (stage0_0 (cfg0.slots t 0)) fullShare (hblk V c t)
      ∗ iprop(∃ d, owns (c : Thread nD τ) (stage0_1 (cfg0.slots t 1)) fullShare (win0_1.fill (grid0.coords t) d
          (win0_1.cut (grid0.coords t) (win0_1.fill (grid0.coords t) (fun _ => Scalar.ofBits .f32 0#32) (wblk V c t)))))
      ∗ iprop(∃ d, owns (c : Thread nD τ) (stage0_2 (cfg0.slots t 2)) fullShare (win0_2.fill (grid0.coords t) d
          (win0_2.cut (grid0.coords t) (win0_2.fill (grid0.coords t) (fun _ => Scalar.ofBits .f32 0#32) (bblk V c t)))))
      ∗ iprop(∃ X, ⌜HeadBlock V c t X⌝ ∗ owns (c : Thread nD τ) (stage0_3 (cfg0.slots t 3)) fullShare X))
  iintro ⟨HΦ, Ho, ⟨%d0, H0⟩, ⟨%d1, H1⟩, ⟨%d2, H2⟩, ⟨%Y, -, H3⟩⟩
  rw [before_0 V c t d0, before_1 V c t d1, before_2 V c t d2]
  iapply (body_run (F := F) c Set.univ (grid0.coords t) (cfg0.slots t 0) (cfg0.slots t 1) (cfg0.slots t 2) (cfg0.slots t 3)
    (hblk V c t) (win0_1.fill (grid0.coords t) d1 (wblk V c t)) (win0_2.fill (grid0.coords t) d2 (bblk V c t)) Y _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexists d1; rw [win0_1.cut_fill]; iexact H1
  isplitl [H2]; · iexists d2; rw [win0_2.cut_fill]; iexact H2
  iexists _; isplitr; swap; (· iexact H3); ipureintro; exact ⟨d1, d2, rfl⟩

/-! ## The region -/

abbrev pdats : (p : Fin 1) → (c : Dev nD) → Dat τ (Elt F) Unit ℕ UU ℕ (Pipeline.pin (pcfgs (F := F)) adm p) c := fun _ c => dat V c
abbrev rdats : (p : Fin 1) → (c : Dev nD) → RDat τ (Elt F) Unit ℕ UU ℕ (Pipeline.pin (pcfgs (F := F)) adm p) c := fun _ c => rdat V c

/-- What is carried beside the arrays: the device owes nothing. -/
abbrev Rc (c : Dev nD) : sProp 𝕄 := iprop(∃ W, owes (c : Thread nD τ) (0 : CellTallies nD τ sig Unit) W)

variable (W : Dev nD → Valuation τ sig (Elt F))

/-- A valuation of the core's arrays, by reference. -/
abbrev ofW (c : Dev nD) (b : Ref sig .tc) : Buf (Elt F) ((c : Thread nD τ).loc b) := W c (Proc.devRef .tc b)

/-- The contents that the region may leave: those it was entered from, with the output array at some contents the write-backs may leave there. -/
def After (c : Dev nD) (o : Valuation τ sig (Elt F)) : Prop :=
  ∃ A : Buf (Elt F) ((c : Thread nD τ).loc main_v78), (rdat (ofW W) c).ArrAt (3 : Fin 4) cfg0.N A ∧ o = Function.update (W c) (Proc.devRef .tc main_v78) A

theorem After.of_ne {c : Dev nD} {o : Valuation τ sig (Elt F)} (h : After W c o) {b : DevRef τ sig} (hb : b ≠ Proc.devRef .tc main_v78) : o b = W c b := by
  obtain ⟨A, -, rfl⟩ := h
  exact Function.update_of_ne hb _ _
theorem After.out {c : Dev nD} {o : Valuation τ sig (Elt F)} (h : After W c o) : (rdat (ofW W) c).ArrAt (3 : Fin 4) cfg0.N (o (Proc.devRef .tc main_v78)) := by
  obtain ⟨A, hA, rfl⟩ := h
  rw [Function.update_self]; exact hA

set_option backward.isDefEq.respectTransparency.types false in
/-- The arrays after the last write-back, each at some contents it may then hold. -/
theorem arraysAt_open (c : Dev nD) : ((rdat V c).arraysAt cfg0.N : sProp 𝕄)
    ⊢ iprop(∃ A, ⌜∀ w, (rdat V c).ArrAt w cfg0.N (A w)⌝ ∗ (dat V c).arrays A) := by
  unfold RDat.arraysAt Dat.arrays
  refine (BI.bigSep_exists_pi Finset.univ _).trans ?_
  iintro ⟨%A, H⟩
  ihave H' := (BI.bigSep_pure_sep Finset.univ (fun w => (rdat V c).ArrAt w cfg0.N (A w)) _) $$ H
  icases H' with ⟨%hA, H⟩
  iexists A
  isplitr
  · ipureintro; exact fun w => hA w (Finset.mem_univ w)
  iexact H

/-- An input's array is at the end what it was at the start. -/
theorem arrAt_input (c : Dev nD) (w : Fin cfg0.W) (hw : (cfg0.win w).isOut = false) {A} (h : (rdat V c).ArrAt w cfg0.N A) :
    A = V c (Pipeline.arrRef spec0 w) := by
  obtain ⟨X, -, hX⟩ := h.exists_exact
  rw [hX (Function.update (fun _ _ _ => Classical.arbitrary _) w X) fun u _ _ => by rw [Function.update_self], Dat.arrAt_in _ w hw]
  rfl

set_option backward.isDefEq.respectTransparency.types false in
/-- The region, entered with every unscoped array at `W c`, left with them at some `o` that `After` allows. -/
def reg : RDat.RegionSeg (pcfgs (F := F)) adm (rdats (ofW W)) () defs₀ 𝒱₀ L lv 0 where
  win := launch0.win.to₀
  block_pos := launch0.block_pos
  stage_whole := launch0.stage_whole
  K := PEmpty
  osem k := k.elim
  ho := Pipeline.OwnSemFacts.none _
  hbody c := (body_rel (ofW W) c).toRRel
  hwaits := RDat.hwaits_of_owed_zero _ _ _ _ L lv 0 fun _ _ => rfl
  pre c := iprop(StableHlo.held (c : Thread nD τ) (Pipeline.ucRefs τ sig) (W c) ∗ Rc c)
  post c := iprop(∃ o, ⌜After W c o⌝ ∗ (StableHlo.held (c : Thread nD τ) (Pipeline.ucRefs τ sig) o ∗ Rc c))
  X _ := BI.emp
  Y _ := BI.emp
  Z c := Pipeline.unscopedRest (Ix := Unit) (Name := ℕ) (U := UU) (Lvl := ℕ) spec0 c (ofW W c)
  hentry c := by
    rw [Pipeline.ownSems0_none, ← Pipeline.unscopedBufs_held c (W c)]
    have hsplit : (unscopedBufs c (fun b => W c b) : sProp 𝕄) ⊢ iprop((rdats (ofW W) 0 c).arrays (rdats (ofW W) 0 c).A
        ∗ Pipeline.unscopedRest (Ix := Unit) (Name := ℕ) (U := UU) (Lvl := ℕ) spec0 c (ofW W c)) := Pipeline.arrays_of_unscopedBufs (p := 0) (pcfgs (F := F)) adm (pdats (ofW W)) launch0.win launch0.arr_whole c
      ((pdats (ofW W) 0 c).share_full fun _ => rfl) (ofW W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats (ofW W) 0 c).Φ 0 = (BI.emp : sProp 𝕄) from rfl, show (Pipeline.pin (pcfgs (F := F)) adm 0).spec = spec0 from rfl, scopedRest0_eq]
    iintro ⟨-, -, -⟩
    iempintro
  hout c := by
    rw [Pipeline.ownSems0_none, show (rdats (ofW W) 0 c).Φ (Fin.last _) = (BI.emp : sProp 𝕄) from rfl,
      show (Pipeline.pin (pcfgs (F := F)) adm 0).spec = spec0 from rfl, scopedRest0_eq]
    iintro -
    isplitr; · iempintro
    isplitr; · iempintro
    iempintro
  hexit c := by
    have hopen := arraysAt_open (ofW W) c
    have hjoin : ∀ A : (w : Fin cfg0.W) → Buf (Elt F) ((cfg0.win w).arr.view.loc (c : Thread nD τ)), (∀ w, (rdat (ofW W) c).ArrAt w cfg0.N (A w)) →
        (iprop((dat (ofW W) c).arrays A ∗ Pipeline.unscopedRest (Ix := Unit) (Name := ℕ) (U := UU) (Lvl := ℕ) spec0 c (ofW W c)) : sProp 𝕄)
          ⊢ StableHlo.held (c : Thread nD τ) (Pipeline.ucRefs τ sig) (Function.update (W c) (Proc.devRef .tc main_v78) (A (3 : Fin 4))) := fun A hA => by
      rw [← Pipeline.unscopedBufs_held c (Function.update (W c) (Proc.devRef .tc main_v78) (A (3 : Fin 4)))]
      exact Pipeline.unscopedBufs_of_arrays (p := 0) (pcfgs (F := F)) adm (Ix := Unit) (Name := ℕ) (U := UU) (Lvl := ℕ) launch0.win launch0.arr_whole c
        (pdats (ofW W)) ((pdats (ofW W) 0 c).share_full fun _ => rfl) (ofW W c)
        (fun b => Function.update (W c) (Proc.devRef .tc main_v78) (A (3 : Fin 4)) (Proc.devRef .tc b)) A
        (fun w => by
          fin_cases w
          · exact (arrAt_input (ofW W) c 0 rfl (hA 0)).trans (Function.update_of_ne (show Proc.devRef (τ := τ) .tc main_v77 ≠ Proc.devRef .tc main_v78 by decide) _ _).symm
          · exact (arrAt_input (ofW W) c 1 rfl (hA 1)).trans (Function.update_of_ne (show Proc.devRef (τ := τ) .tc main_arg14 ≠ Proc.devRef .tc main_v78 by decide) _ _).symm
          · exact (arrAt_input (ofW W) c 2 rfl (hA 2)).trans (Function.update_of_ne (show Proc.devRef (τ := τ) .tc main_arg15 ≠ Proc.devRef .tc main_v78 by decide) _ _).symm
          · exact (Function.update_self (f := W c) (Proc.devRef .tc main_v78) (A (3 : Fin 4))).symm)
        (fun b hb => Function.update_of_ne (fun h => hb (Finset.mem_image.mpr ⟨3, Finset.mem_univ _, (Proc.devRef_injective .tc h).symm⟩)) _ _)
    iintro ⟨Ha, HO, -, Hrest⟩
    ihave Ha' := hopen $$ Ha
    icases Ha' with ⟨%A, %hA, Ha⟩
    imodintro
    iexists (Function.update (W c) (Proc.devRef .tc main_v78) (A (3 : Fin 4)))
    isplitr; · ipureintro; exact ⟨A (3 : Fin 4), hA (3 : Fin 4), rfl⟩
    isplitl [Ha Hrest]
    · iapply (hjoin A hA); isplitl [Ha] <;> iassumption
    unfold RDat.owesAt Pipeline.owesWithin
    icases HO with ⟨%W, -, HO⟩; iexists W; iexact HO

end Cert.KernelIdeal.Run

end
-- ==== Proof.KRun.lean ====
/- The run of the kernel's host program: it terminates, and every array ends at the last stretch's fold over contents that the head kernel may leave. -/
module

public import proofs.«01_k».proof.Proof.KRegion

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Loops
open Idealize.ShloMosaic.StableHlo

variable {F : FTy → Type} [FloatOps F]
variable (m : (ℓ : Loc nD τ sig) → Buf (Elt F) ℓ)

local notation "𝕄" => MT nD τ sig Unit (Elt F) ℕ UU ℕ

/-! ## The trip counters -/

/-- A round of a loop over the time steps leaves its counter one greater. -/
theorem step0 (V : Valuation τ sig (Elt F)) (x : BitVec 32) (hV : V (Proc.devRef .tc main_v71_5) = fun _ => x) :
    afterL body0 (after cond0 V) (Proc.devRef .tc main_v71_5) = fun _ => x + 1#32 := by
  have h : ∀ X : Valuation τ sig (Elt F), after while0Ops0_3 X (Proc.devRef .tc main_v71_5) = addi (X (Proc.devRef .tc main_v71_5)) (constantI S_ 32 1#32) := fun X => by
    after_results
    rfl
  rw [afterL_cons, afterL_cons, afterL_cons, afterL_cons, afterL_nil, h, after_of_writes_sub while0Ops0_2 _ while0Ops0_2_writes (by decide),
    after_of_writes_sub while0Ops0_1 _ while0Ops0_1_writes (by decide), after_of_writes_sub while0Ops0 _ while0Ops0_writes (by decide),
    after_of_writes_sub cond0 V cond0_writes (by decide), hV]
  rfl
theorem step1 (V : Valuation τ sig (Elt F)) (x : BitVec 32) (hV : V (Proc.devRef .tc main_v75_5) = fun _ => x) :
    afterL body1 (after cond1 V) (Proc.devRef .tc main_v75_5) = fun _ => x + 1#32 := by
  have h : ∀ X : Valuation τ sig (Elt F), after while1Ops0_3 X (Proc.devRef .tc main_v75_5) = addi (X (Proc.devRef .tc main_v75_5)) (constantI S_ 32 1#32) := fun X => by
    after_results
    rfl
  rw [afterL_cons, afterL_cons, afterL_cons, afterL_cons, afterL_nil, h, after_of_writes_sub while1Ops0_2 _ while1Ops0_2_writes (by decide),
    after_of_writes_sub while1Ops0_1 _ while1Ops0_1_writes (by decide), after_of_writes_sub while1Ops0 _ while1Ops0_writes (by decide),
    after_of_writes_sub cond1 V cond1_writes (by decide), hV]
  rfl

/-- Each counter is 0 at its loop's entry. -/
theorem entry0 (c : Dev nD) : E0 m c (Proc.devRef .tc main_v71_5) = fun _ => 0#32 := by
  have h : ∀ X : Valuation τ sig (Elt F), after hostOps0_2 X (Proc.devRef .tc main_v71_5) = fun _ => 0#32 := fun X => by
    after_results
    rfl
  exact h _
theorem entry1 (c : Dev nD) : E1 m c (Proc.devRef .tc main_v75_5) = fun _ => 0#32 := by
  have h : ∀ X : Valuation τ sig (Elt F), after hostOps0_3 X (Proc.devRef .tc main_v75_5) = fun _ => 0#32 := fun X => by
    after_results
    rfl
  exact h _

/-- So before the `k`-th run of the condition each counter is the loop's induction variable. -/
theorem ctr0 (c : Dev nD) (k : ℕ) : K0 m k c (Proc.devRef .tc main_v71_5) = fun _ => Scf.iv 0#32 1#32 k :=
  atTrip_counter (fun V => V (Proc.devRef .tc main_v71_5)) (fun x _ => x) c (entry0 m c) step0 k
theorem ctr1 (c : Dev nD) (k : ℕ) : K1 m k c (Proc.devRef .tc main_v75_5) = fun _ => Scf.iv 0#32 1#32 k :=
  atTrip_counter (fun V => V (Proc.devRef .tc main_v75_5)) (fun x _ => x) c (entry1 m c) step1 k

/-! ## The segments -/

/-- The one ticket: the head kernel's launch. -/
abbrev tk : Fin 1 → Pipeline.Ticket (Ix := Unit) (Name := ℕ) (U := UU) (Lvl := ℕ) (nD := nD) (τ := τ) (pcfgs (F := F)) adm :=
  fun _ => { p := 0, pdats := pdats (ofW (E2 m)), EP := emb₁ }

theorem hinj : Function.Injective (Pipeline.cellOf (nD := nD) (τ := τ) (Pipeline.pin (pcfgs (F := F)) adm)) := cellOf_inj

/-- The conditions' specifications. -/
theorem cond0_spec : LoopCond (pcfgs (F := F)) defs₀ 𝒱₀ loops Rc (main_while0_cond (F := F)) cond0 body0 (E0 m) nT :=
  loopCond_of (pcfgs (F := F)) defs₀ 𝒱₀ loops Rc _ _ _ _ _ _ _ _ _ _ rfl body0 (E0 m) nT fun k hk c => by
    rw [nullary_result, nullary_result_ne _ _ _ (h := by decide), show atTrip _ body0 (E0 m) k c (Proc.devRef .tc main_v71_5) = _ from ctr0 m c k]
    exact Scf.cmpi_slt_iv_ub_iff (lb := 0#32) (ub := 12#32) (st := 1#32) (by decide) hk
theorem cond1_spec : LoopCond (pcfgs (F := F)) defs₀ 𝒱₀ loops Rc (main_while1_cond (F := F)) cond1 body1 (E1 m) nT :=
  loopCond_of (pcfgs (F := F)) defs₀ 𝒱₀ loops Rc _ _ _ _ _ _ _ _ _ _ rfl body1 (E1 m) nT fun k hk c => by
    rw [nullary_result, nullary_result_ne _ _ _ (h := by decide), show atTrip _ body1 (E1 m) k c (Proc.devRef .tc main_v75_5) = _ from ctr1 m c k]
    exact Scf.cmpi_slt_iv_ub_iff (lb := 0#32) (ub := 12#32) (st := 1#32) (by decide) hk

abbrev KitSeg : Type 1 := Pipeline.CSeg (pcfgs (F := F)) adm defs₀ 𝒱₀ L lv loops (tk m)

abbrev loop0 : KitSeg m :=
  loopSeg _ _ _ _ _ _ _ _ 0 (main_while0_cond (F := F)) (main_while0_body (F := F)) rfl cond0 body0 body0_plain (by rw [while0_body_chain]; rfl) nT (E0 m) Rc (cond0_spec m)
abbrev loop1 : KitSeg m :=
  loopSeg _ _ _ _ _ _ _ _ 1 (main_while1_cond (F := F)) (main_while1_body (F := F)) rfl cond1 body1 body1_plain (by rw [while1_body_chain]; rfl) nT (E1 m) Rc (cond1_spec m)

/-- The head kernel's region, and the last stretch over whatever the region leaves. -/
abbrev headSeg : KitSeg m :=
  Pipeline.CSeg.regionAtR (pcfgs (F := F)) adm () hinj defs₀ 𝒱₀ L lv loops (tk m) 0 (rdats (ofW (E2 m))) (reg (E2 m))
abbrev lastSeg : KitSeg m :=
  Pipeline.CSeg.exSel (fun o c => After (E2 m) c o)
    (fun o => Pipeline.CSeg.ofOps (pcfgs (F := F)) adm defs₀ 𝒱₀ L lv loops (tk m) (Pipeline.ucRefs τ sig) hostOps1
      (fun op h => Pipeline.sub_ucRefs op ((post_plain _ List.mem_cons_self).1 op h)) (post_plain _ List.mem_cons_self).2 (fun _ => o) Rc)
    (seq hostOps1) (fun _ => rfl) 0 (fun _ => le_rfl) ∅ (fun _ => rfl)

/-- The program's segments: stretches and loops in turn, the head kernel, the last stretch. -/
def segs : List (KitSeg m) :=
  segsOf _ _ _ _ _ _ _ _ Rc pre0 pre0_plain (W0 m) ++ loop0 m :: (segsOf _ _ _ _ _ _ _ _ Rc pre1 pre1_plain (X0 m)
    ++ loop1 m :: (segsOf _ _ _ _ _ _ _ _ Rc pre2 pre2_plain (X1 m) ++ [headSeg m, lastSeg m]))

theorem segs_prog : (segs m).map Pipeline.CSeg.prog
    = (pre0.map fun ops => (seq ops : Prog _ PUnit)) ++ HostLoop.enter 0 :: ((pre1.map fun ops => (seq ops : Prog _ PUnit))
      ++ HostLoop.enter 1 :: ((pre2.map fun ops => (seq ops : Prog _ PUnit))
        ++ [Prog.lift (.customCall (HostLoop.inner (Pipeline.entry 0)) ()), seq hostOps1])) := by
  unfold segs
  rw [List.map_append, List.map_cons, List.map_append, List.map_cons, List.map_append, segsOf_prog, segsOf_prog, segsOf_prog]
  rfl

/-- The program is the run of its segments. -/
theorem main_run (c : Dev nD) : main (F := F) c = Pipeline.CSeg.runL (segs m) := (main_chain c).trans (by
  unfold Pipeline.CSeg.runL
  rw [segs_prog]
  chain_rfl)

/-- Only the head kernel takes the ticket. -/
theorem segs_disjoint : (segs m).Pairwise fun s s' => Disjoint s.T s'.T := by
  have hS : ∀ s ∈ segsOf (pcfgs (F := F)) adm defs₀ 𝒱₀ L lv loops (tk m) Rc pre0 pre0_plain (W0 m) ++ loop0 m :: (segsOf _ _ _ _ _ _ _ _ Rc pre1 pre1_plain (X0 m)
      ++ loop1 m :: segsOf _ _ _ _ _ _ _ _ Rc pre2 pre2_plain (X1 m)), s.T = ∅ := fun s hs => by
    rcases List.mem_append.mp hs with h | h
    · exact (segsOf_M_T _ _ _ _ _ _ _ _ Rc pre0 pre0_plain _ s h).2
    rcases List.mem_cons.mp h with rfl | h
    · exact loopSeg_T _ _ _ _ _ _ _ _ _
    rcases List.mem_append.mp h with h | h
    · exact (segsOf_M_T _ _ _ _ _ _ _ _ Rc pre1 pre1_plain _ s h).2
    rcases List.mem_cons.mp h with rfl | h
    · exact loopSeg_T _ _ _ _ _ _ _ _ _
    exact (segsOf_M_T _ _ _ _ _ _ _ _ Rc pre2 pre2_plain _ s h).2
  rw [show segs m = (segsOf (pcfgs (F := F)) adm defs₀ 𝒱₀ L lv loops (tk m) Rc pre0 pre0_plain (W0 m) ++ loop0 m :: (segsOf _ _ _ _ _ _ _ _ Rc pre1 pre1_plain (X0 m)
      ++ loop1 m :: segsOf _ _ _ _ _ _ _ _ Rc pre2 pre2_plain (X1 m))) ++ [headSeg m, lastSeg m] from by
    unfold segs; rw [List.append_assoc, List.cons_append, List.append_assoc, List.cons_append]]
  refine List.pairwise_append.mpr ⟨Pipeline.CSeg.pairwise_disjoint_of_T_empty _ hS, ?_, fun s hs s' _ => by rw [hS s hs]; exact Finset.disjoint_empty_left _⟩
  exact List.pairwise_cons.mpr ⟨fun s' hs' => by
    rw [List.mem_singleton.mp hs']; exact Finset.disjoint_empty_right _, List.pairwise_singleton _ _⟩

abbrev T₀ (c : Dev nD) : sProp 𝕄 := iprop(held (c : Thread nD τ) (Pipeline.ucRefs τ sig) (W0 m c) ∗ Rc c)
abbrev Tₙ (c : Dev nD) : sProp 𝕄 := iprop(∃ o, ⌜After (E2 m) c o⌝ ∗ held (c : Thread nD τ) (Pipeline.ucRefs τ sig) (after hostOps1 o))

/-- The state runs on from each segment to the next. -/
theorem segs_chains : Pipeline.CSeg.Chains (T₀ m) (segs m) (fun c => iprop(Tₙ m c ∗ Rc c)) := by
  unfold segs
  refine Pipeline.CSeg.Chains.append (segsOf_chains _ _ _ _ _ _ _ _ Rc pre0 pre0_plain _) ⟨fun _ => .rfl,
    Pipeline.CSeg.Chains.append (segsOf_chains _ _ _ _ _ _ _ _ Rc pre1 pre1_plain _) ⟨fun _ => .rfl,
      Pipeline.CSeg.Chains.append (segsOf_chains _ _ _ _ _ _ _ _ Rc pre2 pre2_plain _) ⟨fun _ => .rfl, fun _ => .rfl, fun c => ?_⟩⟩⟩
  change (iprop(∃ o, ⌜After (E2 m) c o⌝ ∗ (held (c : Thread nD τ) (Pipeline.ucRefs τ sig) (after hostOps1 o) ∗ Rc c)) : sProp 𝕄) ⊢ _
  iintro ⟨%o, %ho, Hh, HR⟩
  isplitl [Hh]
  · iexists o
    isplitr; · ipureintro; exact ho
    iexact Hh
  iexact HR

/-- The device has no counter that outlives a kernel. -/
theorem all_scoped : ∀ sm : SemLoc sig, sm.isScoped .tc = true := by decide

set_option backward.isDefEq.respectTransparency.types false in
/-- The run: from any memory with the counters at zero the program terminates, the head kernel having left some contents `o` that it may,
    every array at the last stretch's fold over `o`, and every counter at zero. -/
theorem run_main (g : Dev nD → PrngReg) : θ_run defs (onTc (τ := τ) (main (F := F))) ⟨m, fun _ => 0, g⟩
    (fun r => (∀ c : Dev nD, ∃ o, After (E2 m) c o ∧ ∀ b ∈ Pipeline.ucRefs τ sig, r.2.mem (c, b) = after hostOps1 o b) ∧ r.2.sem = fun _ => 0) :=
  Pipeline.θ_run_regions_loop_kit_sems (Ix := Unit) (Name := ℕ) (U := UU) (Lvl := ℕ) (J := Fin 1) (P := Fin 1) (Val := Elt F)
    (pcfgs (F := F)) adm hinj defs₀ 𝒱₀ L lv loops (tk m) m g main (segs m)
    (fun c Q => by rw [main_run m c])
    (segs_disjoint m)
    (O₀ := 0) (hL := fun _ _ => rfl) (G := fun _ => iprop(emp))
    (u₀ := Rounds.initOf (Pipeline.cells (Pipeline.pin (pcfgs (F := F)) adm) hinj) (Pipeline.launchToks (Pipeline.pin (pcfgs (F := F)) adm) hinj))
    (hu₀ := by
      rw [show (ownU _ : sProp 𝕄) = BI.own ((tk m 0).EP _) from ownU_emb₁ _]
      iintro H
      imodintro
      isplitl [H]
      · rw [show (Finset.univ : Finset (Fin 1)) = {0} from rfl, BI.bigSep_singleton]; iexact H
      · iapply (show (BI.emp : sProp 𝕄) ⊢ bigSep Finset.univ (fun _ : Dev nD => (BI.emp : sProp 𝕄)) from by rw [BI.bigSep_emp_const])
        iempintro)
    (T₀ := T₀ m) (Tₙ := Tₙ m)
    (hch := segs_chains m)
    (hinit := by
      refine Pipeline.initEach L lv fun c => ?_
      rw [show unscopedBufs c (fun b => m ((c : Thread nD τ).loc b)) = held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∃ o, After (E2 m) c o ∧ ∀ b ∈ Pipeline.ucRefs τ sig, s.mem ((c : Dev nD), b) = after hostOps1 o b)
    (hfin := fun c s' => by
      unfold Tₙ held
      iintro ⟨⟨%o, %ho, Hh⟩, HSI⟩
      ihave Hr := (pointsTo_read_all (Pipeline.ucRefs τ sig) (fun b => ((c : Dev nD), b)) (fun b => after hostOps1 o b) s') $$ [Hh HSI]
      · isplitl [Hh] <;> iassumption
      icases Hr with ⟨%h, HSI⟩
      imodintro
      isplitr; · ipureintro; exact ⟨o, ho, h⟩
      iexact HSI)
    (hQ := fun s h hs => ⟨h, funext fun g' => hs g' (Or.inr (all_scoped g'.2))⟩)

/-- The program runs, leaves its arguments as they were, and ends with the result array at the last stretch's fold over what the head kernel left. -/
theorem run_result (g : Dev nD → PrngReg) : θ_run defs (onTc (τ := τ) (main (F := F))) ⟨m, fun _ => 0, g⟩
    (fun r => (∀ c : Dev nD, (∃ o, After (E2 m) c o ∧ r.2.mem ((c : Thread nD τ).loc main_v81) = after hostOps1 o (Proc.devRef .tc main_v81))
      ∧ ∀ a ∈ argRefs, r.2.mem ((c : Thread nD τ).loc a) = m ((c : Thread nD τ).loc a)) ∧ r.2.sem = fun _ => 0) :=
  (θ_run defs _ _).mono (fun _ h => ⟨fun c => by
    obtain ⟨o, ho, hb⟩ := h.1 c
    refine ⟨⟨o, ho, hb _ (devRef_mem_ucRefs main_v81 rfl)⟩, fun a ha => ?_⟩
    refine (hb _ (devRef_mem_ucRefs a ((show ∀ a ∈ argRefs, (Proc.devRef .tc a : DevRef τ sig).isScoped = false by decide) a ha))).trans ?_
    refine (after_of_writes_sub hostOps1 _ hostOps1_writes ((show ∀ a ∈ argRefs, a ∉ hostOps1_W by decide) a ha)).trans ?_
    exact (ho.of_ne (E2 m) ((show ∀ a ∈ argRefs, (Proc.devRef .tc a : DevRef τ sig) ≠ Proc.devRef .tc main_v78 by decide) a ha)).trans (E2_args m c a ha), h.2⟩)
    (run_main m g)

end Cert.KernelIdeal.Run

end
-- ==== Proof.Twin.lean ====
/- The kernel's program at machine words is the same program as the one read over the reals, constant by constant. -/
module

public import proofs.«01_k».proof.Proof.KRun
public import proofs.«01_k».proof.Proof.Gen.Kernel

@[expose] public section

set_option maxRecDepth 16384

noncomputable section

namespace Cert.Twin

open Idealize.ShloMosaic Idealize.ShloMosaic.TcCoe Idealize.SL.Sem

variable {F : FTy → Type} [FloatOps F]

set_option maxHeartbeats 4000000 in
/-- The two host programs are one. -/
theorem main_eq (c : Dev Cert.Kernel.nD) : Cert.Kernel.main (F := F) c = Cert.KernelIdeal.main (F := F) c := by
  with_unfolding_all rfl

set_option maxHeartbeats 4000000 in
/-- So are the two programs' loops, -/
theorem loops_eq : Cert.Kernel.loops (F := F) = Cert.KernelIdeal.loops (F := F) := by
  funext i
  match i with
  | 0 => with_unfolding_all rfl
  | 1 => with_unfolding_all rfl

/-- the two kernel functions, -/
theorem kernels_eq : Cert.Kernel.defs₀ (F := F) = Cert.KernelIdeal.defs₀ (F := F) := by
  funext p l a
  match p with
  | .tc =>
    match l, a with
    | 0, (t, s) => with_unfolding_all rfl
  | .scScalar _ => rfl
  | .scVector _ _ => rfl

set_option maxHeartbeats 4000000 in
/-- and so the two tables of what a call runs. -/
theorem defs_eq : Cert.Kernel.defs (F := F) = Cert.KernelIdeal.defs (F := F) := by
  have h : ∀ l d, l = Cert.KernelIdeal.loops (F := F) → d = Cert.KernelIdeal.defs₀ (F := F) →
      HostLoop.defs l (Pipeline.defs (Cert.KernelIdeal.pcfgs (F := F)) d) = Cert.KernelIdeal.defs (F := F) := by
    rintro _ _ rfl rfl; rfl
  exact h _ _ loops_eq kernels_eq

set_option maxHeartbeats 4000000 in
/-- So the run of the one is the run of the other: it terminates, its arguments stay, its counters end at zero. -/
theorem run_args (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD, ∀ a ∈ Cert.KernelIdeal.Run.argRefs,
        r.2.mem ((c.tc : Thread Cert.KernelIdeal.nD Cert.KernelIdeal.τ).loc a) = m ((c.tc : Thread Cert.KernelIdeal.nD Cert.KernelIdeal.τ).loc a)) ∧ r.2.sem = fun _ => 0) := by
  rw [defs_eq, show (Cert.Kernel.main (F := F)) = Cert.KernelIdeal.main (F := F) from funext main_eq]
  exact (θ_run _ _ _).mono (fun _ h => ⟨fun c => (h.1 c).2, h.2⟩) (Cert.KernelIdeal.Run.run_result m g)

end Cert.Twin

end
-- ==== Proof.RefLists.lean ====
/- The operations of the reference's host program as lists, one list for each stretch between two loops or two called functions, and the
   equations that say that the program, and each loop's body, is the chain of these stretches. -/
module

public import proofs.«01_k».proof.Proof.Gen.ReferenceIdeal
public import Idealize.ShloMosaic.Lib.Pipeline.Kit
public import Idealize.ShloMosaic.Lib.Pipeline.Regions

@[expose] public section

set_option maxRecDepth 4096

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 39 host operations of @main, window 0 (statements 1 … 60), in order. -/
abbrev main_part0_ops0 : List (HloOp τ sig (Elt F)) :=
  ( StableHlo.nullary main_v0 (iotaInDim S40000 32 0)
  :: StableHlo.unary main_v0 main_v1 (broadcastInDim S1x40000 ![1] bcast_S40000_S1x40000_1 : (⟨S40000, .i32⟩ : BufTy).Contents (Elt F) → (⟨S1x40000, .i32⟩ : BufTy).Contents (Elt F))
  :: StableHlo.unary main_v0 main_v2 (broadcastInDim S1x40000 ![1] bcast_S40000_S1x40000_1 : (⟨S40000, .i32⟩ : BufTy).Contents (Elt F) → (⟨S1x40000, .i32⟩ : BufTy).Contents (Elt F))
  :: StableHlo.binary main_v1 main_v2 main_v3 ((fun a b => concatenate S2x40000 0 [⟨S1x40000, a⟩, ⟨S1x40000, b⟩] concatenates_S1x40000_S1x40000_S2x40000_d0) : (⟨S1x40000, .i32⟩ : BufTy).Contents (Elt F) → (⟨S1x40000, .i32⟩ : BufTy).Contents (Elt F) → (⟨S2x40000, .i32⟩ : BufTy).Contents (Elt F))
  :: StableHlo.binary main_arg1 main_v3 main_v4 ((fun a b => concatenate S2x680000 1 [⟨S2x640000, a⟩, ⟨S2x40000, b⟩] concatenates_S2x640000_S2x40000_S2x680000_d1) : (⟨S2x640000, .i32⟩ : BufTy).Contents (Elt F) → (⟨S2x40000, .i32⟩ : BufTy).Contents (Elt F) → (⟨S2x680000, .i32⟩ : BufTy).Contents (Elt F))
  :: StableHlo.unary main_v4 main_v5 ((extractStridedSlice S1x680000 ![0, 0] · slices_S2x680000_S1x680000_0_0) : (⟨S2x680000, .i32⟩ : BufTy).Contents (Elt F) → (⟨S1x680000, .i32⟩ : BufTy).Contents (Elt F))
  :: StableHlo.reshape main_v5 main_v6 (rfl : (.i32 : EltTy) = .i32) shapeCasts_S1x680000_S680000
  :: StableHlo.unary main_v4 main_v7 ((extractStridedSlice S1x680000 ![1, 0] · slices_S2x680000_S1x680000_1_0) : (⟨S2x680000, .i32⟩ : BufTy).Contents (Elt F) → (⟨S1x680000, .i32⟩ : BufTy).Contents (Elt F))
  :: StableHlo.reshape main_v7 main_v8 (rfl : (.i32 : EltTy) = .i32) shapeCasts_S1x680000_S680000
  :: StableHlo.binary main_arg0 main_arg2 main_v9 ((fun l r => Host.dotGeneral dot_S40000x12_S12x96_S40000x96_1_0_0_1_n_n none l r) : (⟨S40000x12, .f32⟩ : BufTy).Contents (Elt F) → (⟨S12x96, .f32⟩ : BufTy).Contents (Elt F) → (⟨S40000x96, .f32⟩ : BufTy).Contents (Elt F))
  :: StableHlo.reshape main_v9 main_v10 (rfl : (.f32 : EltTy) = .f32) shapeCasts_S40000x96_S40000x8x12
  :: StableHlo.unary main_arg3 main_v11 (broadcastInDim S40000x8x12 ![0, 1, 2] bcast_S1x8x12_S40000x8x12_0_1_2 : (⟨S1x8x12, .f32⟩ : BufTy).Contents (Elt F) → (⟨S40000x8x12, .f32⟩ : BufTy).Contents (Elt F))
  :: StableHlo.binary main_v10 main_v11 main_v12 (mulf : (⟨S40000x8x12, .f32⟩ : BufTy).Contents (Elt F) → (⟨S40000x8x12, .f32⟩ : BufTy).Contents (Elt F) → (⟨S40000x8x12, .f32⟩ : BufTy).Contents (Elt F))
  :: StableHlo.nullary main_cst (constant S_ .f32 0x00000000#32)
  :: StableHlo.binary main_v12 main_cst main_v13 ((fun x v => Host.reduceAdd x v reducesTo_S40000x8x12_S40000x8_d2 h_S_) : (⟨S40000x8x12, .f32⟩ : BufTy).Contents (Elt F) → (⟨S_, .f32⟩ : BufTy).Contents (Elt F) → (⟨S40000x8, .f32⟩ : BufTy).Contents (Elt F))
  :: StableHlo.unary main_arg4 main_v14 (broadcastInDim S40000x8x12 ![0, 1, 2] bcast_S1x8x12_S40000x8x12_0_1_2 : (⟨S1x8x12, .f32⟩ : BufTy).Contents (Elt F) → (⟨S40000x8x12, .f32⟩ : BufTy).Contents (Elt F))
  :: StableHlo.binary main_v10 main_v14 main_v15 (mulf : (⟨S40000x8x12, .f32⟩ : BufTy).Contents (Elt F) → (⟨S40000x8x12, .f32⟩ : BufTy).Contents (Elt F) → (⟨S40000x8x12, .f32⟩ : BufTy).Contents (Elt F))
  :: StableHlo.nullary main_cst_0 (constant S_ .f32 0x00000000#32)
  :: StableHlo.binary main_v15 main_cst_0 main_v16 ((fun x v => Host.reduceAdd x v reducesTo_S40000x8x12_S40000x8_d2 h_S_) : (⟨S40000x8x12, .f32⟩ : BufTy).Contents (Elt F) → (⟨S_, .f32⟩ : BufTy).Contents (Elt F) → (⟨S40000x8, .f32⟩ : BufTy).Contents (Elt F))
  :: StableHlo.nullary main_c (constantI S_ 32 0#32)
  :: StableHlo.unary main_c main_v17 (broadcastInDim S680000 ![] bcast_S_S680000 : (⟨S_, .i32⟩ : BufTy).Contents (Elt F) → (⟨S680000, .i32⟩ : BufTy).Contents (Elt F))
  :: StableHlo.binary main_v6 main_v17 main_v18 (cmpi .slt : (⟨S680000, .i32⟩ : BufTy).Contents (Elt F) → (⟨S680000, .i32⟩ : BufTy).Contents (Elt F) → (⟨S680000, .i1⟩ : BufTy).Contents (Elt F))
  :: StableHlo.nullary main_c_1 (constantI S_ 32 40000#32)
  :: StableHlo.unary main_c_1 main_v19 (broadcastInDim S680000 ![] bcast_S_S680000 : (⟨S_, .i32⟩ : BufTy).Contents (Elt F) → (⟨S680000, .i32⟩ : BufTy).Contents (Elt F))
  :: StableHlo.binary main_v6 main_v19 main_v20 (addi : (⟨S680000, .i32⟩ : BufTy).Contents (Elt F) → (⟨S680000, .i32⟩ : BufTy).Contents (Elt F) → (⟨S680000, .i32⟩ : BufTy).Contents (Elt F))
  :: StableHlo.ternary main_v18 main_v20 main_v6 main_v21 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
  :: StableHlo.unary main_v21 main_v22 (broadcastInDim S680000x1 ![0] bcast_S680000_S680000x1_0 : (⟨S680000, .i32⟩ : BufTy).Contents (Elt F) → (⟨S680000x1, .i32⟩ : BufTy).Contents (Elt F))
  :: StableHlo.binary main_v13 main_v22 main_v23 ((fun x i => Host.gather gather_S40000x8_S680000x1_S680000x8_1_0_n_n_0_1_18 x i) : (⟨S40000x8, .f32⟩ : BufTy).Contents (Elt F) → (⟨S680000x1, .i32⟩ : BufTy).Contents (Elt F) → (⟨S680000x8, .f32⟩ : BufTy).Contents (Elt F))
  :: StableHlo.nullary main_c_2 (constantI S_ 32 0#32)
  :: StableHlo.unary main_c_2 main_v24 (broadcastInDim S680000 ![] bcast_S_S680000 : (⟨S_, .i32⟩ : BufTy).Contents (Elt F) → (⟨S680000, .i32⟩ : BufTy).Contents (Elt F))
  :: StableHlo.binary main_v8 main_v24 main_v25 (cmpi .slt : (⟨S680000, .i32⟩ : BufTy).Contents (Elt F) → (⟨S680000, .i32⟩ : BufTy).Contents (Elt F) → (⟨S680000, .i1⟩ : BufTy).Contents (Elt F))
  :: StableHlo.nullary main_c_3 (constantI S_ 32 40000#32)
  :: StableHlo.unary main_c_3 main_v26 (broadcastInDim S680000 ![] bcast_S_S680000 : (⟨S_, .i32⟩ : BufTy).Contents (Elt F) → (⟨S680000, .i32⟩ : BufTy).Contents (Elt F))
  :: StableHlo.binary main_v8 main_v26 main_v27 (addi : (⟨S680000, .i32⟩ : BufTy).Contents (Elt F) → (⟨S680000, .i32⟩ : BufTy).Contents (Elt F) → (⟨S680000, .i32⟩ : BufTy).Contents (Elt F))
  :: StableHlo.ternary main_v25 main_v27 main_v8 main_v28 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
  :: StableHlo.unary main_v28 main_v29 (broadcastInDim S680000x1 ![0] bcast_S680000_S680000x1_0 : (⟨S680000, .i32⟩ : BufTy).Contents (Elt F) → (⟨S680000x1, .i32⟩ : BufTy).Contents (Elt F))
  :: StableHlo.binary main_v16 main_v29 main_v30 ((fun x i => Host.gather gather_S40000x8_S680000x1_S680000x8_1_0_n_n_0_1_18 x i) : (⟨S40000x8, .f32⟩ : BufTy).Contents (Elt F) → (⟨S680000x1, .i32⟩ : BufTy).Contents (Elt F) → (⟨S680000x8, .f32⟩ : BufTy).Contents (Elt F))
  :: StableHlo.binary main_v23 main_v30 main_v31 (addf : (⟨S680000x8, .f32⟩ : BufTy).Contents (Elt F) → (⟨S680000x8, .f32⟩ : BufTy).Contents (Elt F) → (⟨S680000x8, .f32⟩ : BufTy).Contents (Elt F))
  :: StableHlo.nullary main_cst_4 (constant S_ .f32 0x3E4CCCCD#32)
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub ..⟩
/-- 7 host operations of @leaky_relu (main_call0), window 0 (statements 1 … 60), in order. -/
abbrev main_part0_ops1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S680000x8, .f32⟩) (broadcastInDim S680000x8 ![] bcast_S_S680000x8),
    StableHlo.TRef.binary (.of main_v31 : StableHlo.TRef sig ⟨S680000x8, .f32⟩) (.of main_call0_v0 : StableHlo.TRef sig ⟨S680000x8, .f32⟩) (.of main_call0_v1 : StableHlo.TRef sig ⟨S680000x8, .i1⟩) (cmpf .oge),
    StableHlo.TRef.unary (.of main_cst_4 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S680000x8, .f32⟩) (broadcastInDim S680000x8 ![] bcast_S_S680000x8),
    StableHlo.TRef.binary (.of main_call0_v3 : StableHlo.TRef sig ⟨S680000x8, .f32⟩) (.of main_v31 : StableHlo.TRef sig ⟨S680000x8, .f32⟩) (.of main_call0_v4 : StableHlo.TRef sig ⟨S680000x8, .f32⟩) mulf,
    StableHlo.TRef.ternary (.of main_call0_v1 : StableHlo.TRef sig ⟨S680000x8, .i1⟩) (.of main_v31 : StableHlo.TRef sig ⟨S680000x8, .f32⟩) (.of main_call0_v4 : StableHlo.TRef sig ⟨S680000x8, .f32⟩) (.of main_v32 : StableHlo.TRef sig ⟨S680000x8, .f32⟩) select ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- 9 host operations of @main, window 0 (statements 1 … 60), in order. -/
abbrev main_part0_ops2 : List (HloOp τ sig (Elt F)) :=
  [ StableHlo.nullary main_cst_5 (constant S_ .f32 0xFF800000#32),
    StableHlo.unary main_cst_5 main_v33 (broadcastInDim S40000x8 ![] bcast_S_S40000x8 : (⟨S_, .f32⟩ : BufTy).Contents (Elt F) → (⟨S40000x8, .f32⟩ : BufTy).Contents (Elt F)),
    StableHlo.nullary main_c_6 (constantI S_ 32 0#32),
    StableHlo.nullary main_c_7 (constantI S_ 32 0#32),
    StableHlo.unary main_v8 main_v34_0 id,
    StableHlo.unary main_v32 main_v34_1 id,
    StableHlo.unary main_c_7 main_v34_2 id,
    StableHlo.unary main_c_6 main_v34_3 id,
    StableHlo.unary main_v33 main_v34_4 id ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- 5 host operations of @main, window 0 (statements 1 … 60), in order. -/
abbrev main_part0_ops3 : List (HloOp τ sig (Elt F)) :=
  [ StableHlo.unary main_v34_4 main_v35 (Host.absf : (⟨S40000x8, .f32⟩ : BufTy).Contents (Elt F) → (⟨S40000x8, .f32⟩ : BufTy).Contents (Elt F)),
    StableHlo.nullary main_cst_8 (constant S_ .f32 0x7F800000#32),
    StableHlo.unary main_cst_8 main_v36 (broadcastInDim S40000x8 ![] bcast_S_S40000x8 : (⟨S_, .f32⟩ : BufTy).Contents (Elt F) → (⟨S40000x8, .f32⟩ : BufTy).Contents (Elt F)),
    StableHlo.binary main_v35 main_v36 main_v37 (cmpf .olt : (⟨S40000x8, .f32⟩ : BufTy).Contents (Elt F) → (⟨S40000x8, .f32⟩ : BufTy).Contents (Elt F) → (⟨S40000x8, .i1⟩ : BufTy).Contents (Elt F)),
    StableHlo.nullary main_cst_9 (constant S_ .f32 0x00000000#32) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..⟩
/-- 3 host operations of @_where_0 (main_call1), window 0 (statements 1 … 60), in order. -/
abbrev main_part0_ops4 : List (HloOp τ sig (Elt F)) :=
  [ StableHlo.TRef.unary (.of main_cst_9 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S40000x8, .f32⟩) (broadcastInDim S40000x8 ![] bcast_S_S40000x8),
    StableHlo.TRef.ternary (.of main_v37 : StableHlo.TRef sig ⟨S40000x8, .i1⟩) (.of main_v34_4 : StableHlo.TRef sig ⟨S40000x8, .f32⟩) (.of main_call1_v1 : StableHlo.TRef sig ⟨S40000x8, .f32⟩) (.of main_v38 : StableHlo.TRef sig ⟨S40000x8, .f32⟩) select ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.unary_bufs_sub .., StableHlo.unary_bufs_sub .., StableHlo.ternary_bufs_sub ..⟩
/-- 4 host operations of @main, window 0 (statements 1 … 60), in order. -/
abbrev main_part0_ops5 : List (HloOp τ sig (Elt F)) :=
  [ StableHlo.nullary main_c_10 (constantI S_ 32 0#32),
    StableHlo.unary main_c_10 main_v39 (broadcastInDim S680000 ![] bcast_S_S680000 : (⟨S_, .i32⟩ : BufTy).Contents (Elt F) → (⟨S680000, .i32⟩ : BufTy).Contents (Elt F)),
    StableHlo.binary main_v8 main_v39 main_v40 (cmpi .slt : (⟨S680000, .i32⟩ : BufTy).Contents (Elt F) → (⟨S680000, .i32⟩ : BufTy).Contents (Elt F) → (⟨S680000, .i1⟩ : BufTy).Contents (Elt F)),
    StableHlo.nullary main_c_11 (constantI S_ 32 40000#32) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    HostLoop.enter 0,
    StableHlo.seq main_part0_ops3,
    StableHlo.seq main_part0_ops4 ]
  (StableHlo.seq main_part0_ops5) : Prog (TpuEff nD τ sig (Elt F) (HostLoop.Sig (Pipeline.Sig Λ₀ (Fin 0) fun p => (pcfgs (F := F) p).Adm) 3) .tc) PUnit) := by
  rewrite [StableHlo.chainK_seq_cons, Pipeline.chainK_cons, StableHlo.chainK_seq_cons, Pipeline.chainK_cons, StableHlo.chainK_seq_cons, Pipeline.chainK_cons]
  chain_rfl

/-- 60 host operations of @main, window 1 (statements 61 … 120), in order. -/
abbrev main_part1_ops0 : List (HloOp τ sig (Elt F)) :=
  ( StableHlo.unary main_c_11 main_v41 (broadcastInDim S680000 ![] bcast_S_S680000 : (⟨S_, .i32⟩ : BufTy).Contents (Elt F) → (⟨S680000, .i32⟩ : BufTy).Contents (Elt F))
  :: StableHlo.binary main_v8 main_v41 main_v42 (addi : (⟨S680000, .i32⟩ : BufTy).Contents (Elt F) → (⟨S680000, .i32⟩ : BufTy).Contents (Elt F) → (⟨S680000, .i32⟩ : BufTy).Contents (Elt F))
  :: StableHlo.ternary main_v40 main_v42 main_v8 main_v43 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
  :: StableHlo.unary main_v43 main_v44 (broadcastInDim S680000x1 ![0] bcast_S680000_S680000x1_0 : (⟨S680000, .i32⟩ : BufTy).Contents (Elt F) → (⟨S680000x1, .i32⟩ : BufTy).Contents (Elt F))
  :: StableHlo.binary main_v38 main_v44 main_v45 ((fun x i => Host.gather gather_S40000x8_S680000x1_S680000x8_1_0_n_n_0_1_18 x i) : (⟨S40000x8, .f32⟩ : BufTy).Contents (Elt F) → (⟨S680000x1, .i32⟩ : BufTy).Contents (Elt F) → (⟨S680000x8, .f32⟩ : BufTy).Contents (Elt F))
  :: StableHlo.binary main_v32 main_v45 main_v46 (subf : (⟨S680000x8, .f32⟩ : BufTy).Contents (Elt F) → (⟨S680000x8, .f32⟩ : BufTy).Contents (Elt F) → (⟨S680000x8, .f32⟩ : BufTy).Contents (Elt F))
  :: StableHlo.unary main_v46 main_v47 (Host.exp : (⟨S680000x8, .f32⟩ : BufTy).Contents (Elt F) → (⟨S680000x8, .f32⟩ : BufTy).Contents (Elt F))
  :: StableHlo.nullary main_cst_12 (constant S_ .f32 0x00000000#32)
  :: StableHlo.unary main_cst_12 main_v48 (broadcastInDim S40000x8 ![] bcast_S_S40000x8 : (⟨S_, .f32⟩ : BufTy).Contents (Elt F) → (⟨S40000x8, .f32⟩ : BufTy).Contents (Elt F))
  :: StableHlo.unary main_v8 main_v49 (broadcastInDim S680000x1 ![0] bcast_S680000_S680000x1_0 : (⟨S680000, .i32⟩ : BufTy).Contents (Elt F) → (⟨S680000x1, .i32⟩ : BufTy).Contents (Elt F))
  :: StableHlo.ternary main_v48 main_v49 main_v47 main_v50 ((fun x i u => Host.scatterAdd scatter_S40000x8_S680000x1_S680000x8_1_0_0_1 x i u) : (⟨S40000x8, .f32⟩ : BufTy).Contents (Elt F) → (⟨S680000x1, .i32⟩ : BufTy).Contents (Elt F) → (⟨S680000x8, .f32⟩ : BufTy).Contents (Elt F) → (⟨S40000x8, .f32⟩ : BufTy).Contents (Elt F))
  :: StableHlo.nullary main_c_13 (constantI S_ 32 0#32)
  :: StableHlo.unary main_c_13 main_v51 (broadcastInDim S680000 ![] bcast_S_S680000 : (⟨S_, .i32⟩ : BufTy).Contents (Elt F) → (⟨S680000, .i32⟩ : BufTy).Contents (Elt F))
  :: StableHlo.binary main_v8 main_v51 main_v52 (cmpi .slt : (⟨S680000, .i32⟩ : BufTy).Contents (Elt F) → (⟨S680000, .i32⟩ : BufTy).Contents (Elt F) → (⟨S680000, .i1⟩ : BufTy).Contents (Elt F))
  :: StableHlo.nullary main_c_14 (constantI S_ 32 40000#32)
  :: StableHlo.unary main_c_14 main_v53 (broadcastInDim S680000 ![] bcast_S_S680000 : (⟨S_, .i32⟩ : BufTy).Contents (Elt F) → (⟨S680000, .i32⟩ : BufTy).Contents (Elt F))
  :: StableHlo.binary main_v8 main_v53 main_v54 (addi : (⟨S680000, .i32⟩ : BufTy).Contents (Elt F) → (⟨S680000, .i32⟩ : BufTy).Contents (Elt F) → (⟨S680000, .i32⟩ : BufTy).Contents (Elt F))
  :: StableHlo.ternary main_v52 main_v54 main_v8 main_v55 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
  :: StableHlo.unary main_v55 main_v56 (broadcastInDim S680000x1 ![0] bcast_S680000_S680000x1_0 : (⟨S680000, .i32⟩ : BufTy).Contents (Elt F) → (⟨S680000x1, .i32⟩ : BufTy).Contents (Elt F))
  :: StableHlo.binary main_v50 main_v56 main_v57 ((fun x i => Host.gather gather_S40000x8_S680000x1_S680000x8_1_0_n_n_0_1_18 x i) : (⟨S40000x8, .f32⟩ : BufTy).Contents (Elt F) → (⟨S680000x1, .i32⟩ : BufTy).Contents (Elt F) → (⟨S680000x8, .f32⟩ : BufTy).Contents (Elt F))
  :: StableHlo.nullary main_c_15 (constantI S_ 32 0#32)
  :: StableHlo.unary main_c_15 main_v58 (broadcastInDim S680000 ![] bcast_S_S680000 : (⟨S_, .i32⟩ : BufTy).Contents (Elt F) → (⟨S680000, .i32⟩ : BufTy).Contents (Elt F))
  :: StableHlo.binary main_v8 main_v58 main_v59 (cmpi .slt : (⟨S680000, .i32⟩ : BufTy).Contents (Elt F) → (⟨S680000, .i32⟩ : BufTy).Contents (Elt F) → (⟨S680000, .i1⟩ : BufTy).Contents (Elt F))
  :: StableHlo.nullary main_c_16 (constantI S_ 32 40000#32)
  :: StableHlo.unary main_c_16 main_v60 (broadcastInDim S680000 ![] bcast_S_S680000 : (⟨S_, .i32⟩ : BufTy).Contents (Elt F) → (⟨S680000, .i32⟩ : BufTy).Contents (Elt F))
  :: StableHlo.binary main_v8 main_v60 main_v61 (addi : (⟨S680000, .i32⟩ : BufTy).Contents (Elt F) → (⟨S680000, .i32⟩ : BufTy).Contents (Elt F) → (⟨S680000, .i32⟩ : BufTy).Contents (Elt F))
  :: StableHlo.ternary main_v59 main_v61 main_v8 main_v62 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
  :: StableHlo.unary main_v62 main_v63 (broadcastInDim S680000x1 ![0] bcast_S680000_S680000x1_0 : (⟨S680000, .i32⟩ : BufTy).Contents (Elt F) → (⟨S680000x1, .i32⟩ : BufTy).Contents (Elt F))
  :: StableHlo.binary main_v38 main_v63 main_v64 ((fun x i => Host.gather gather_S40000x8_S680000x1_S680000x8_1_0_n_n_0_1_18 x i) : (⟨S40000x8, .f32⟩ : BufTy).Contents (Elt F) → (⟨S680000x1, .i32⟩ : BufTy).Contents (Elt F) → (⟨S680000x8, .f32⟩ : BufTy).Contents (Elt F))
  :: StableHlo.unary main_v64 main_v65 (Host.negf : (⟨S680000x8, .f32⟩ : BufTy).Contents (Elt F) → (⟨S680000x8, .f32⟩ : BufTy).Contents (Elt F))
  :: StableHlo.unary main_v65 main_v66 (Host.exp : (⟨S680000x8, .f32⟩ : BufTy).Contents (Elt F) → (⟨S680000x8, .f32⟩ : BufTy).Contents (Elt F))
  :: StableHlo.nullary main_cst_17 (constant S_ .f32 0x24E69595#32)
  :: StableHlo.unary main_cst_17 main_v67 (broadcastInDim S680000x8 ![] bcast_S_S680000x8 : (⟨S_, .f32⟩ : BufTy).Contents (Elt F) → (⟨S680000x8, .f32⟩ : BufTy).Contents (Elt F))
  :: StableHlo.binary main_v67 main_v66 main_v68 (mulf : (⟨S680000x8, .f32⟩ : BufTy).Contents (Elt F) → (⟨S680000x8, .f32⟩ : BufTy).Contents (Elt F) → (⟨S680000x8, .f32⟩ : BufTy).Contents (Elt F))
  :: StableHlo.binary main_v57 main_v68 main_v69 (addf : (⟨S680000x8, .f32⟩ : BufTy).Contents (Elt F) → (⟨S680000x8, .f32⟩ : BufTy).Contents (Elt F) → (⟨S680000x8, .f32⟩ : BufTy).Contents (Elt F))
  :: StableHlo.binary main_v47 main_v69 main_v70 (Host.divf : (⟨S680000x8, .f32⟩ : BufTy).Contents (Elt F) → (⟨S680000x8, .f32⟩ : BufTy).Contents (Elt F) → (⟨S680000x8, .f32⟩ : BufTy).Contents (Elt F))
  :: StableHlo.nullary main_c_18 (constantI S_ 32 0#32)
  :: StableHlo.unary main_c_18 main_v71 (broadcastInDim S680000 ![] bcast_S_S680000 : (⟨S_, .i32⟩ : BufTy).Contents (Elt F) → (⟨S680000, .i32⟩ : BufTy).Contents (Elt F))
  :: StableHlo.binary main_v6 main_v71 main_v72 (cmpi .slt : (⟨S680000, .i32⟩ : BufTy).Contents (Elt F) → (⟨S680000, .i32⟩ : BufTy).Contents (Elt F) → (⟨S680000, .i1⟩ : BufTy).Contents (Elt F))
  :: StableHlo.nullary main_c_19 (constantI S_ 32 40000#32)
  :: StableHlo.unary main_c_19 main_v73 (broadcastInDim S680000 ![] bcast_S_S680000 : (⟨S_, .i32⟩ : BufTy).Contents (Elt F) → (⟨S680000, .i32⟩ : BufTy).Contents (Elt F))
  :: StableHlo.binary main_v6 main_v73 main_v74 (addi : (⟨S680000, .i32⟩ : BufTy).Contents (Elt F) → (⟨S680000, .i32⟩ : BufTy).Contents (Elt F) → (⟨S680000, .i32⟩ : BufTy).Contents (Elt F))
  :: StableHlo.ternary main_v72 main_v74 main_v6 main_v75 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F))
  :: StableHlo.unary main_v75 main_v76 (broadcastInDim S680000x1 ![0] bcast_S680000_S680000x1_0 : (⟨S680000, .i32⟩ : BufTy).Contents (Elt F) → (⟨S680000x1, .i32⟩ : BufTy).Contents (Elt F))
  :: StableHlo.binary main_v10 main_v76 main_v77 ((fun x i => Host.gather gather_S40000x8x12_S680000x1_S680000x8x12_12_0_n_n_0_1_1812 x i) : (⟨S40000x8x12, .f32⟩ : BufTy).Contents (Elt F) → (⟨S680000x1, .i32⟩ : BufTy).Contents (Elt F) → (⟨S680000x8x12, .f32⟩ : BufTy).Contents (Elt F))
  :: StableHlo.unary main_v70 main_v78 (broadcastInDim S680000x8x1 ![0, 1] bcast_S680000x8_S680000x8x1_0_1 : (⟨S680000x8, .f32⟩ : BufTy).Contents (Elt F) → (⟨S680000x8x1, .f32⟩ : BufTy).Contents (Elt F))
  :: StableHlo.unary main_v78 main_v79 (broadcastInDim S680000x8x12 ![0, 1, 2] bcast_S680000x8x1_S680000x8x12_0_1_2 : (⟨S680000x8x1, .f32⟩ : BufTy).Contents (Elt F) → (⟨S680000x8x12, .f32⟩ : BufTy).Contents (Elt F))
  :: StableHlo.binary main_v77 main_v79 main_v80 (mulf : (⟨S680000x8x12, .f32⟩ : BufTy).Contents (Elt F) → (⟨S680000x8x12, .f32⟩ : BufTy).Contents (Elt F) → (⟨S680000x8x12, .f32⟩ : BufTy).Contents (Elt F))
  :: StableHlo.nullary main_cst_20 (constant S_ .f32 0x00000000#32)
  :: StableHlo.unary main_cst_20 main_v81 (broadcastInDim S40000x8x12 ![] bcast_S_S40000x8x12 : (⟨S_, .f32⟩ : BufTy).Contents (Elt F) → (⟨S40000x8x12, .f32⟩ : BufTy).Contents (Elt F))
  :: StableHlo.unary main_v8 main_v82 (broadcastInDim S680000x1 ![0] bcast_S680000_S680000x1_0 : (⟨S680000, .i32⟩ : BufTy).Contents (Elt F) → (⟨S680000x1, .i32⟩ : BufTy).Contents (Elt F))
  :: StableHlo.ternary main_v81 main_v82 main_v80 main_v83 ((fun x i u => Host.scatterAdd scatter_S40000x8x12_S680000x1_S680000x8x12_12_0_0_1 x i u) : (⟨S40000x8x12, .f32⟩ : BufTy).Contents (Elt F) → (⟨S680000x1, .i32⟩ : BufTy).Contents (Elt F) → (⟨S680000x8x12, .f32⟩ : BufTy).Contents (Elt F) → (⟨S40000x8x12, .f32⟩ : BufTy).Contents (Elt F))
  :: StableHlo.nullary main_cst_21 (constant S_ .f32 0x00000000#32)
  :: StableHlo.binary main_v83 main_cst_21 main_v84 ((fun x v => Host.reduceAdd x v reducesTo_S40000x8x12_S40000x12_d1 h_S_) : (⟨S40000x8x12, .f32⟩ : BufTy).Contents (Elt F) → (⟨S_, .f32⟩ : BufTy).Contents (Elt F) → (⟨S40000x12, .f32⟩ : BufTy).Contents (Elt F))
  :: StableHlo.nullary main_cst_22 (constant S_ .f32 0x41000000#32)
  :: StableHlo.unary main_cst_22 main_v85 (broadcastInDim S40000x12 ![] bcast_S_S40000x12 : (⟨S_, .f32⟩ : BufTy).Contents (Elt F) → (⟨S40000x12, .f32⟩ : BufTy).Contents (Elt F))
  :: StableHlo.binary main_v84 main_v85 main_v86 (Host.divf : (⟨S40000x12, .f32⟩ : BufTy).Contents (Elt F) → (⟨S40000x12, .f32⟩ : BufTy).Contents (Elt F) → (⟨S40000x12, .f32⟩ : BufTy).Contents (Elt F))
  :: StableHlo.unary main_arg5 main_v87 (broadcastInDim S1x12 ![1] bcast_S12_S1x12_1 : (⟨S12, .f32⟩ : BufTy).Contents (Elt F) → (⟨S1x12, .f32⟩ : BufTy).Contents (Elt F))
  :: StableHlo.unary main_v87 main_v88 (broadcastInDim S40000x12 ![0, 1] bcast_S1x12_S40000x12_0_1 : (⟨S1x12, .f32⟩ : BufTy).Contents (Elt F) → (⟨S40000x12, .f32⟩ : BufTy).Contents (Elt F))
  :: StableHlo.binary main_v86 main_v88 main_v89 (addf : (⟨S40000x12, .f32⟩ : BufTy).Contents (Elt F) → (⟨S40000x12, .f32⟩ : BufTy).Contents (Elt F) → (⟨S40000x12, .f32⟩ : BufTy).Contents (Elt F))
  :: [] )
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩
/-- Window 1 of `main` (`main_part1`, statements 61 … 120) is the chain of ITS items ending in the last
    (`Pipeline.chainK`: no closing `pure`, the window's last statement being in tail position), by `chain_rfl`. -/
theorem main_part1_chain (c : Dev nD) : main_part1 (F := F) c = (Pipeline.chainK
  [  ]
  (StableHlo.seq main_part1_ops0) : Prog (TpuEff nD τ sig (Elt F) (HostLoop.Sig (Pipeline.Sig Λ₀ (Fin 0) fun p => (pcfgs (F := F) p).Adm) 3) .tc) PUnit) := by
  chain_rfl

/-- 18 host operations of @main, window 2 (statements 121 … 166), in order. -/
abbrev main_part2_ops0 : List (HloOp τ sig (Elt F)) :=
  [ StableHlo.reshape main_v89 main_v90 (rfl : (.f32 : EltTy) = .f32) shapeCasts_S40000x12_S4x10000x12,
    StableHlo.unary main_v90 main_v91 ((transpose S12x4x10000 [2, 0, 1] · transposes_S4x10000x12_S12x4x10000_2_0_1) : (⟨S4x10000x12, .f32⟩ : BufTy).Contents (Elt F) → (⟨S12x4x10000, .f32⟩ : BufTy).Contents (Elt F)),
    StableHlo.nullary main_cst_23 (constant S_ .f32 0x00000000#32),
    StableHlo.unary main_cst_23 main_v92 (broadcastInDim S4x32 ![] bcast_S_S4x32 : (⟨S_, .f32⟩ : BufTy).Contents (Elt F) → (⟨S4x32, .f32⟩ : BufTy).Contents (Elt F)),
    StableHlo.nullary main_cst_24 (constant S_ .f32 0x00000000#32),
    StableHlo.unary main_cst_24 main_v93 (broadcastInDim S4x32 ![] bcast_S_S4x32 : (⟨S_, .f32⟩ : BufTy).Contents (Elt F) → (⟨S4x32, .f32⟩ : BufTy).Contents (Elt F)),
    StableHlo.nullary main_cst_25 (constant S_ .f32 0x00000000#32),
    StableHlo.unary main_cst_25 main_v94 (broadcastInDim S12x4x32 ![] bcast_S_S12x4x32 : (⟨S_, .f32⟩ : BufTy).Contents (Elt F) → (⟨S12x4x32, .f32⟩ : BufTy).Contents (Elt F)),
    StableHlo.nullary main_c_26 (constantI S_ 32 0#32),
    StableHlo.unary main_v91 main_v95_0 id,
    StableHlo.unary main_arg6 main_v95_1 id,
    StableHlo.unary main_arg7 main_v95_2 id,
    StableHlo.unary main_arg8 main_v95_3 id,
    StableHlo.unary main_arg9 main_v95_4 id,
    StableHlo.unary main_c_26 main_v95_5 id,
    StableHlo.unary main_v92 main_v95_6 id,
    StableHlo.unary main_v93 main_v95_7 id,
    StableHlo.unary main_v94 main_v95_8 id ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 16 host operations of @main, window 2 (statements 121 … 166), in order. -/
abbrev main_part2_ops1 : List (HloOp τ sig (Elt F)) :=
  [ StableHlo.nullary main_cst_27 (constant S_ .f32 0x00000000#32),
    StableHlo.unary main_cst_27 main_v96 (broadcastInDim S4x128 ![] bcast_S_S4x128 : (⟨S_, .f32⟩ : BufTy).Contents (Elt F) → (⟨S4x128, .f32⟩ : BufTy).Contents (Elt F)),
    StableHlo.nullary main_cst_28 (constant S_ .f32 0x00000000#32),
    StableHlo.unary main_cst_28 main_v97 (broadcastInDim S4x128 ![] bcast_S_S4x128 : (⟨S_, .f32⟩ : BufTy).Contents (Elt F) → (⟨S4x128, .f32⟩ : BufTy).Contents (Elt F)),
    StableHlo.nullary main_cst_29 (constant S_ .f32 0x00000000#32),
    StableHlo.unary main_cst_29 main_v98 (broadcastInDim S12x4x128 ![] bcast_S_S12x4x128 : (⟨S_, .f32⟩ : BufTy).Contents (Elt F) → (⟨S12x4x128, .f32⟩ : BufTy).Contents (Elt F)),
    StableHlo.nullary main_c_30 (constantI S_ 32 0#32),
    StableHlo.unary main_v95_8 main_v99_0 id,
    StableHlo.unary main_arg10 main_v99_1 id,
    StableHlo.unary main_arg11 main_v99_2 id,
    StableHlo.unary main_arg12 main_v99_3 id,
    StableHlo.unary main_arg13 main_v99_4 id,
    StableHlo.unary main_c_30 main_v99_5 id,
    StableHlo.unary main_v96 main_v99_6 id,
    StableHlo.unary main_v97 main_v99_7 id,
    StableHlo.unary main_v98 main_v99_8 id ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 9 host operations of @main, window 2 (statements 121 … 166), in order. -/
abbrev main_part2_ops2 : List (HloOp τ sig (Elt F)) :=
  [ StableHlo.unary main_v99_8 main_v100 ((extractStridedSlice S1x4x128 ![11, 0, 0] · slices_S12x4x128_S1x4x128_11_0_0) : (⟨S12x4x128, .f32⟩ : BufTy).Contents (Elt F) → (⟨S1x4x128, .f32⟩ : BufTy).Contents (Elt F)),
    StableHlo.reshape main_v100 main_v101 (rfl : (.f32 : EltTy) = .f32) shapeCasts_S1x4x128_S4x128,
    StableHlo.unary main_arg14 main_v102 ((transpose S128x90000 [1, 0] · transposes_S90000x128_S128x90000_1_0) : (⟨S90000x128, .f32⟩ : BufTy).Contents (Elt F) → (⟨S128x90000, .f32⟩ : BufTy).Contents (Elt F)),
    StableHlo.binary main_v101 main_v102 main_v103 ((fun l r => Host.dotGeneral dot_S4x128_S128x90000_S4x90000_1_0_0_1_n_n none l r) : (⟨S4x128, .f32⟩ : BufTy).Contents (Elt F) → (⟨S128x90000, .f32⟩ : BufTy).Contents (Elt F) → (⟨S4x90000, .f32⟩ : BufTy).Contents (Elt F)),
    StableHlo.unary main_arg15 main_v104 (broadcastInDim S1x90000 ![1] bcast_S90000_S1x90000_1 : (⟨S90000, .f32⟩ : BufTy).Contents (Elt F) → (⟨S1x90000, .f32⟩ : BufTy).Contents (Elt F)),
    StableHlo.unary main_v104 main_v105 (broadcastInDim S4x90000 ![0, 1] bcast_S1x90000_S4x90000_0_1 : (⟨S1x90000, .f32⟩ : BufTy).Contents (Elt F) → (⟨S4x90000, .f32⟩ : BufTy).Contents (Elt F)),
    StableHlo.binary main_v103 main_v105 main_v106 (addf : (⟨S4x90000, .f32⟩ : BufTy).Contents (Elt F) → (⟨S4x90000, .f32⟩ : BufTy).Contents (Elt F) → (⟨S4x90000, .f32⟩ : BufTy).Contents (Elt F)),
    StableHlo.reshape main_v106 main_v107 (rfl : (.f32 : EltTy) = .f32) shapeCasts_S4x90000_S4x10000x9,
    StableHlo.reshape main_v107 main_v108 (rfl : (.f32 : EltTy) = .f32) shapeCasts_S4x10000x9_S40000x9 ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.reshape_bufs_sub .., StableHlo.reshape_bufs_sub ..⟩
/-- The last window of `main` (`main_part2`, statements 121 … 166) is the chain of ITS items, each item aligned with the window's
    statements, then `chain_rfl`. -/
theorem main_part2_chain (c : Dev nD) : main_part2 (F := F) c = (Pipeline.chain
  [ StableHlo.seq main_part2_ops0,
    HostLoop.enter 1,
    StableHlo.seq main_part2_ops1,
    HostLoop.enter 2,
    StableHlo.seq main_part2_ops2 ] : Prog (TpuEff nD τ sig (Elt F) (HostLoop.Sig (Pipeline.Sig Λ₀ (Fin 0) fun p => (pcfgs (F := F) p).Adm) 3) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    HostLoop.enter 0,
    StableHlo.seq main_part0_ops3,
    StableHlo.seq main_part0_ops4,
    StableHlo.seq main_part0_ops5,
    StableHlo.seq main_part1_ops0,
    StableHlo.seq main_part2_ops0,
    HostLoop.enter 1,
    StableHlo.seq main_part2_ops1,
    HostLoop.enter 2,
    StableHlo.seq main_part2_ops2 ] : Prog (TpuEff nD τ sig (Elt F) (HostLoop.Sig (Pipeline.Sig Λ₀ (Fin 0) fun p => (pcfgs (F := F) p).Adm) 3) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- 54 host operations of host loop 0's body region, in order. -/
abbrev while0Ops0 : List (HloOp τ sig (Elt F)) :=
  ( StableHlo.nullary main_while0b_c_35 (constantI S_ 32 1#32)
  :: StableHlo.binary main_v34_3 main_while0b_c_35 main_while0b_v109 (addi : (⟨S_, .i32⟩ : BufTy).Contents (Elt F) → (⟨S_, .i32⟩ : BufTy).Contents (Elt F) → (⟨S_, .i32⟩ : BufTy).Contents (Elt F))
  :: StableHlo.nullary main_while0b_c_36 (constantI S_ 32 0#32)
  :: StableHlo.binary main_v34_3 main_while0b_c_36 main_while0b_v110 (cmpi .slt : (⟨S_, .i32⟩ : BufTy).Contents (Elt F) → (⟨S_, .i32⟩ : BufTy).Contents (Elt F) → (⟨S_, .i1⟩ : BufTy).Contents (Elt F))
  :: StableHlo.unary main_v34_3 main_while0b_v111 (id : (⟨S_, .i32⟩ : BufTy).Contents (Elt F) → (⟨S_, .i32⟩ : BufTy).Contents (Elt F))
  :: StableHlo.nullary main_while0b_c_37 (constantI S_ 32 680000#32)
  :: StableHlo.binary main_while0b_v111 main_while0b_c_37 main_while0b_v112 (addi : (⟨S_, .i32⟩ : BufTy).Contents (Elt F) → (⟨S_, .i32⟩ : BufTy).Contents (Elt F) → (⟨S_, .i32⟩ : BufTy).Contents (Elt F))
  :: StableHlo.ternary main_while0b_v110 main_while0b_v112 main_v34_3 main_while0b_v113 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v34_0 ![main_while0b_v113] ⟨S_, .i32⟩ main_while0b_v114 ((fun x i => Host.dynamicSlice S1 x (fun k => (i k (Shape.Idx.first h_S_)).toInt) sliceFits_S680000_S1) : (⟨S680000, .i32⟩ : BufTy).Contents (Elt F) → (Fin 1 → (⟨S_, .i32⟩ : BufTy).Contents (Elt F)) → (⟨S1, .i32⟩ : BufTy).Contents (Elt F))
  :: StableHlo.reshape main_while0b_v114 main_while0b_v115 (rfl : (.i32 : EltTy) = .i32) shapeCasts_S1_S_
  :: StableHlo.nullary main_while0b_c_38 (constantI S_ 32 0#32)
  :: StableHlo.binary main_while0b_v115 main_while0b_c_38 main_while0b_v116 (cmpi .slt : (⟨S_, .i32⟩ : BufTy).Contents (Elt F) → (⟨S_, .i32⟩ : BufTy).Contents (Elt F) → (⟨S_, .i1⟩ : BufTy).Contents (Elt F))
  :: StableHlo.nullary main_while0b_c_39 (constantI S_ 32 40000#32)
  :: StableHlo.binary main_while0b_v115 main_while0b_c_39 main_while0b_v117 (addi : (⟨S_, .i32⟩ : BufTy).Contents (Elt F) → (⟨S_, .i32⟩ : BufTy).Contents (Elt F) → (⟨S_, .i32⟩ : BufTy).Contents (Elt F))
  :: StableHlo.ternary main_while0b_v116 main_while0b_v117 main_while0b_v115 main_while0b_v118 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_40 (constantI S_ 32 0#32)
  :: StableHlo.nullary main_while0b_c_41 (constantI S_ 32 0#32)
  :: StableHlo.binary main_while0b_c_40 main_while0b_c_41 main_while0b_v119 (cmpi .slt : (⟨S_, .i32⟩ : BufTy).Contents (Elt F) → (⟨S_, .i32⟩ : BufTy).Contents (Elt F) → (⟨S_, .i1⟩ : BufTy).Contents (Elt F))
  :: StableHlo.nullary main_while0b_c_42 (constantI S_ 32 0#32)
  :: StableHlo.nullary main_while0b_c_43 (constantI S_ 32 8#32)
  :: StableHlo.binary main_while0b_c_42 main_while0b_c_43 main_while0b_v120 (addi : (⟨S_, .i32⟩ : BufTy).Contents (Elt F) → (⟨S_, .i32⟩ : BufTy).Contents (Elt F) → (⟨S_, .i32⟩ : BufTy).Contents (Elt F))
  :: StableHlo.nullary main_while0b_c_44 (constantI S_ 32 0#32)
  :: StableHlo.ternary main_while0b_v119 main_while0b_v120 main_while0b_c_44 main_while0b_v121 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v34_4 ![main_while0b_v118, main_while0b_v121] ⟨S_, .i32⟩ main_while0b_v122 ((fun x i => Host.dynamicSlice S1x8 x (fun k => (i k (Shape.Idx.first h_S_)).toInt) sliceFits_S40000x8_S1x8) : (⟨S40000x8, .f32⟩ : BufTy).Contents (Elt F) → (Fin 2 → (⟨S_, .i32⟩ : BufTy).Contents (Elt F)) → (⟨S1x8, .f32⟩ : BufTy).Contents (Elt F))
  :: StableHlo.reshape main_while0b_v122 main_while0b_v123 (rfl : (.f32 : EltTy) = .f32) shapeCasts_S1x8_S8
  :: StableHlo.unary main_v34_3 main_while0b_v124 (id : (⟨S_, .i32⟩ : BufTy).Contents (Elt F) → (⟨S_, .i32⟩ : BufTy).Contents (Elt F))
  :: StableHlo.nullary main_while0b_c_45 (constantI S_ 32 0#32)
  :: StableHlo.binary main_while0b_v124 main_while0b_c_45 main_while0b_v125 (cmpi .slt : (⟨S_, .i32⟩ : BufTy).Contents (Elt F) → (⟨S_, .i32⟩ : BufTy).Contents (Elt F) → (⟨S_, .i1⟩ : BufTy).Contents (Elt F))
  :: StableHlo.nullary main_while0b_c_46 (constantI S_ 32 680000#32)
  :: StableHlo.binary main_while0b_v124 main_while0b_c_46 main_while0b_v126 (addi : (⟨S_, .i32⟩ : BufTy).Contents (Elt F) → (⟨S_, .i32⟩ : BufTy).Contents (Elt F) → (⟨S_, .i32⟩ : BufTy).Contents (Elt F))
  :: StableHlo.ternary main_while0b_v125 main_while0b_v126 main_while0b_v124 main_while0b_v127 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_47 (constantI S_ 32 0#32)
  :: StableHlo.nullary main_while0b_c_48 (constantI S_ 32 0#32)
  :: StableHlo.binary main_while0b_c_47 main_while0b_c_48 main_while0b_v128 (cmpi .slt : (⟨S_, .i32⟩ : BufTy).Contents (Elt F) → (⟨S_, .i32⟩ : BufTy).Contents (Elt F) → (⟨S_, .i1⟩ : BufTy).Contents (Elt F))
  :: StableHlo.nullary main_while0b_c_49 (constantI S_ 32 0#32)
  :: StableHlo.nullary main_while0b_c_50 (constantI S_ 32 8#32)
  :: StableHlo.binary main_while0b_c_49 main_while0b_c_50 main_while0b_v129 (addi : (⟨S_, .i32⟩ : BufTy).Contents (Elt F) → (⟨S_, .i32⟩ : BufTy).Contents (Elt F) → (⟨S_, .i32⟩ : BufTy).Contents (Elt F))
  :: StableHlo.nullary main_while0b_c_51 (constantI S_ 32 0#32)
  :: StableHlo.ternary main_while0b_v128 main_while0b_v129 main_while0b_c_51 main_while0b_v130 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v34_1 ![main_while0b_v127, main_while0b_v130] ⟨S_, .i32⟩ main_while0b_v131 ((fun x i => Host.dynamicSlice S1x8 x (fun k => (i k (Shape.Idx.first h_S_)).toInt) sliceFits_S680000x8_S1x8) : (⟨S680000x8, .f32⟩ : BufTy).Contents (Elt F) → (Fin 2 → (⟨S_, .i32⟩ : BufTy).Contents (Elt F)) → (⟨S1x8, .f32⟩ : BufTy).Contents (Elt F))
  :: StableHlo.reshape main_while0b_v131 main_while0b_v132 (rfl : (.f32 : EltTy) = .f32) shapeCasts_S1x8_S8
  :: StableHlo.binary main_while0b_v123 main_while0b_v132 main_while0b_v133 (maximumf : (⟨S8, .f32⟩ : BufTy).Contents (Elt F) → (⟨S8, .f32⟩ : BufTy).Contents (Elt F) → (⟨S8, .f32⟩ : BufTy).Contents (Elt F))
  :: StableHlo.nullary main_while0b_c_52 (constantI S_ 32 0#32)
  :: StableHlo.binary main_while0b_v115 main_while0b_c_52 main_while0b_v134 (cmpi .slt : (⟨S_, .i32⟩ : BufTy).Contents (Elt F) → (⟨S_, .i32⟩ : BufTy).Contents (Elt F) → (⟨S_, .i1⟩ : BufTy).Contents (Elt F))
  :: StableHlo.nullary main_while0b_c_53 (constantI S_ 32 40000#32)
  :: StableHlo.binary main_while0b_v115 main_while0b_c_53 main_while0b_v135 (addi : (⟨S_, .i32⟩ : BufTy).Contents (Elt F) → (⟨S_, .i32⟩ : BufTy).Contents (Elt F) → (⟨S_, .i32⟩ : BufTy).Contents (Elt F))
  :: StableHlo.ternary main_while0b_v134 main_while0b_v135 main_while0b_v115 main_while0b_v136 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v136 main_while0b_v137 (broadcastInDim S1 ![] bcast_S_S1 : (⟨S_, .i32⟩ : BufTy).Contents (Elt F) → (⟨S1, .i32⟩ : BufTy).Contents (Elt F))
  :: StableHlo.ternary main_v34_4 main_while0b_v137 main_while0b_v133 main_while0b_v138 ((fun x i u => Host.scatter scatter_S40000x8_S1_S8_0_0_0_0 (fun _ b => b) x i u) : (⟨S40000x8, .f32⟩ : BufTy).Contents (Elt F) → (⟨S1, .i32⟩ : BufTy).Contents (Elt F) → (⟨S8, .f32⟩ : BufTy).Contents (Elt F) → (⟨S40000x8, .f32⟩ : BufTy).Contents (Elt F))
  :: StableHlo.nullary main_while0b_c_54 (constantI S_ 32 1#32)
  :: StableHlo.binary main_v34_2 main_while0b_c_54 main_while0b_v139 (addi : (⟨S_, .i32⟩ : BufTy).Contents (Elt F) → (⟨S_, .i32⟩ : BufTy).Contents (Elt F) → (⟨S_, .i32⟩ : BufTy).Contents (Elt F))
  :: StableHlo.unary main_while0b_v139 main_v34_2 id
  :: StableHlo.unary main_while0b_v109 main_v34_3 id
  :: StableHlo.unary main_while0b_v138 main_v34_4 id
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0 ] : Prog (TpuEff nD τ sig (Elt F) (HostLoop.Sig (Pipeline.Sig Λ₀ (Fin 0) fun p => (pcfgs (F := F) p).Adm) 3) .tc) PUnit) := by
  rewrite [StableHlo.chain_seq_cons]
  chain_rfl

/-- 4 host operations of @dynamic_index_in_dim (main_while1b_call2), in order. -/
abbrev while1Ops0 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v95_0 : StableHlo.TRef sig ⟨S12x4x10000, .f32⟩) ![(.of main_v95_5 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x4x10000, .f32⟩) (fun x i => Host.dynamicSlice S1x4x10000 x (fun k => (i k (Shape.Idx.first h_S_)).toInt) sliceFits_S12x4x10000_S1x4x10000),
    StableHlo.TRef.reshape (.of main_while1b_call2_v0 : StableHlo.TRef sig ⟨S1x4x10000, .f32⟩) (.of main_while1b_v109 : StableHlo.TRef sig ⟨S4x10000, .f32⟩) (rfl : (.f32 : EltTy) = .f32) shapeCasts_S1x4x10000_S4x10000 ]
/-- Each touches TensorCore references only (`HostSeg.ofOps` over `StableHlo.tcRefs`, or a subset by `sub_ucRefs`). -/
theorem while1Ops0_sub : (while1Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 45 host operations of host loop 1's body region, in order. -/
abbrev while1Ops0_1 : List (HloOp τ sig (Elt F)) :=
  ( StableHlo.unary main_v95_1 main_while1b_v110 ((transpose S10000x128 [1, 0] · transposes_S128x10000_S10000x128_1_0) : (⟨S128x10000, .f32⟩ : BufTy).Contents (Elt F) → (⟨S10000x128, .f32⟩ : BufTy).Contents (Elt F))
  :: StableHlo.binary main_while1b_v109 main_while1b_v110 main_while1b_v111 ((fun l r => Host.dotGeneral dot_S4x10000_S10000x128_S4x128_1_0_0_1_n_n none l r) : (⟨S4x10000, .f32⟩ : BufTy).Contents (Elt F) → (⟨S10000x128, .f32⟩ : BufTy).Contents (Elt F) → (⟨S4x128, .f32⟩ : BufTy).Contents (Elt F))
  :: StableHlo.unary main_v95_2 main_while1b_v112 ((transpose S32x128 [1, 0] · transposes_S128x32_S32x128_1_0) : (⟨S128x32, .f32⟩ : BufTy).Contents (Elt F) → (⟨S32x128, .f32⟩ : BufTy).Contents (Elt F))
  :: StableHlo.binary main_v95_6 main_while1b_v112 main_while1b_v113 ((fun l r => Host.dotGeneral dot_S4x32_S32x128_S4x128_1_0_0_1_n_n none l r) : (⟨S4x32, .f32⟩ : BufTy).Contents (Elt F) → (⟨S32x128, .f32⟩ : BufTy).Contents (Elt F) → (⟨S4x128, .f32⟩ : BufTy).Contents (Elt F))
  :: StableHlo.binary main_while1b_v111 main_while1b_v113 main_while1b_v114 (addf : (⟨S4x128, .f32⟩ : BufTy).Contents (Elt F) → (⟨S4x128, .f32⟩ : BufTy).Contents (Elt F) → (⟨S4x128, .f32⟩ : BufTy).Contents (Elt F))
  :: StableHlo.unary main_v95_3 main_while1b_v115 (broadcastInDim S1x128 ![1] bcast_S128_S1x128_1 : (⟨S128, .f32⟩ : BufTy).Contents (Elt F) → (⟨S1x128, .f32⟩ : BufTy).Contents (Elt F))
  :: StableHlo.unary main_while1b_v115 main_while1b_v116 (broadcastInDim S4x128 ![0, 1] bcast_S1x128_S4x128_0_1 : (⟨S1x128, .f32⟩ : BufTy).Contents (Elt F) → (⟨S4x128, .f32⟩ : BufTy).Contents (Elt F))
  :: StableHlo.binary main_while1b_v114 main_while1b_v116 main_while1b_v117 (addf : (⟨S4x128, .f32⟩ : BufTy).Contents (Elt F) → (⟨S4x128, .f32⟩ : BufTy).Contents (Elt F) → (⟨S4x128, .f32⟩ : BufTy).Contents (Elt F))
  :: StableHlo.unary main_v95_4 main_while1b_v118 (broadcastInDim S1x128 ![1] bcast_S128_S1x128_1 : (⟨S128, .f32⟩ : BufTy).Contents (Elt F) → (⟨S1x128, .f32⟩ : BufTy).Contents (Elt F))
  :: StableHlo.unary main_while1b_v118 main_while1b_v119 (broadcastInDim S4x128 ![0, 1] bcast_S1x128_S4x128_0_1 : (⟨S1x128, .f32⟩ : BufTy).Contents (Elt F) → (⟨S4x128, .f32⟩ : BufTy).Contents (Elt F))
  :: StableHlo.binary main_while1b_v117 main_while1b_v119 main_while1b_v120 (addf : (⟨S4x128, .f32⟩ : BufTy).Contents (Elt F) → (⟨S4x128, .f32⟩ : BufTy).Contents (Elt F) → (⟨S4x128, .f32⟩ : BufTy).Contents (Elt F))
  :: StableHlo.unary main_while1b_v120 main_while1b_v121 ((extractStridedSlice S4x32 ![0, 0] · slices_S4x128_S4x32_0_0) : (⟨S4x128, .f32⟩ : BufTy).Contents (Elt F) → (⟨S4x32, .f32⟩ : BufTy).Contents (Elt F))
  :: StableHlo.unary main_while1b_v120 main_while1b_v122 ((extractStridedSlice S4x32 ![0, 32] · slices_S4x128_S4x32_0_32) : (⟨S4x128, .f32⟩ : BufTy).Contents (Elt F) → (⟨S4x32, .f32⟩ : BufTy).Contents (Elt F))
  :: StableHlo.unary main_while1b_v120 main_while1b_v123 ((extractStridedSlice S4x32 ![0, 64] · slices_S4x128_S4x32_0_64) : (⟨S4x128, .f32⟩ : BufTy).Contents (Elt F) → (⟨S4x32, .f32⟩ : BufTy).Contents (Elt F))
  :: StableHlo.unary main_while1b_v120 main_while1b_v124 ((extractStridedSlice S4x32 ![0, 96] · slices_S4x128_S4x32_0_96) : (⟨S4x128, .f32⟩ : BufTy).Contents (Elt F) → (⟨S4x32, .f32⟩ : BufTy).Contents (Elt F))
  :: StableHlo.unary main_while1b_v122 main_while1b_v125 (Host.negf : (⟨S4x32, .f32⟩ : BufTy).Contents (Elt F) → (⟨S4x32, .f32⟩ : BufTy).Contents (Elt F))
  :: StableHlo.unary main_while1b_v125 main_while1b_v126 (Host.exp : (⟨S4x32, .f32⟩ : BufTy).Contents (Elt F) → (⟨S4x32, .f32⟩ : BufTy).Contents (Elt F))
  :: StableHlo.nullary main_while1b_cst_39 (constant S_ .f32 0x3F800000#32)
  :: StableHlo.unary main_while1b_cst_39 main_while1b_v127 (broadcastInDim S4x32 ![] bcast_S_S4x32 : (⟨S_, .f32⟩ : BufTy).Contents (Elt F) → (⟨S4x32, .f32⟩ : BufTy).Contents (Elt F))
  :: StableHlo.binary main_while1b_v127 main_while1b_v126 main_while1b_v128 (addf : (⟨S4x32, .f32⟩ : BufTy).Contents (Elt F) → (⟨S4x32, .f32⟩ : BufTy).Contents (Elt F) → (⟨S4x32, .f32⟩ : BufTy).Contents (Elt F))
  :: StableHlo.nullary main_while1b_cst_40 (constant S_ .f32 0x3F800000#32)
  :: StableHlo.unary main_while1b_cst_40 main_while1b_v129 (broadcastInDim S4x32 ![] bcast_S_S4x32 : (⟨S_, .f32⟩ : BufTy).Contents (Elt F) → (⟨S4x32, .f32⟩ : BufTy).Contents (Elt F))
  :: StableHlo.binary main_while1b_v129 main_while1b_v128 main_while1b_v130 (Host.divf : (⟨S4x32, .f32⟩ : BufTy).Contents (Elt F) → (⟨S4x32, .f32⟩ : BufTy).Contents (Elt F) → (⟨S4x32, .f32⟩ : BufTy).Contents (Elt F))
  :: StableHlo.binary main_while1b_v130 main_v95_7 main_while1b_v131 (mulf : (⟨S4x32, .f32⟩ : BufTy).Contents (Elt F) → (⟨S4x32, .f32⟩ : BufTy).Contents (Elt F) → (⟨S4x32, .f32⟩ : BufTy).Contents (Elt F))
  :: StableHlo.unary main_while1b_v121 main_while1b_v132 (Host.negf : (⟨S4x32, .f32⟩ : BufTy).Contents (Elt F) → (⟨S4x32, .f32⟩ : BufTy).Contents (Elt F))
  :: StableHlo.unary main_while1b_v132 main_while1b_v133 (Host.exp : (⟨S4x32, .f32⟩ : BufTy).Contents (Elt F) → (⟨S4x32, .f32⟩ : BufTy).Contents (Elt F))
  :: StableHlo.nullary main_while1b_cst_41 (constant S_ .f32 0x3F800000#32)
  :: StableHlo.unary main_while1b_cst_41 main_while1b_v134 (broadcastInDim S4x32 ![] bcast_S_S4x32 : (⟨S_, .f32⟩ : BufTy).Contents (Elt F) → (⟨S4x32, .f32⟩ : BufTy).Contents (Elt F))
  :: StableHlo.binary main_while1b_v134 main_while1b_v133 main_while1b_v135 (addf : (⟨S4x32, .f32⟩ : BufTy).Contents (Elt F) → (⟨S4x32, .f32⟩ : BufTy).Contents (Elt F) → (⟨S4x32, .f32⟩ : BufTy).Contents (Elt F))
  :: StableHlo.nullary main_while1b_cst_42 (constant S_ .f32 0x3F800000#32)
  :: StableHlo.unary main_while1b_cst_42 main_while1b_v136 (broadcastInDim S4x32 ![] bcast_S_S4x32 : (⟨S_, .f32⟩ : BufTy).Contents (Elt F) → (⟨S4x32, .f32⟩ : BufTy).Contents (Elt F))
  :: StableHlo.binary main_while1b_v136 main_while1b_v135 main_while1b_v137 (Host.divf : (⟨S4x32, .f32⟩ : BufTy).Contents (Elt F) → (⟨S4x32, .f32⟩ : BufTy).Contents (Elt F) → (⟨S4x32, .f32⟩ : BufTy).Contents (Elt F))
  :: StableHlo.unary main_while1b_v123 main_while1b_v138 (Host.tanh : (⟨S4x32, .f32⟩ : BufTy).Contents (Elt F) → (⟨S4x32, .f32⟩ : BufTy).Contents (Elt F))
  :: StableHlo.binary main_while1b_v137 main_while1b_v138 main_while1b_v139 (mulf : (⟨S4x32, .f32⟩ : BufTy).Contents (Elt F) → (⟨S4x32, .f32⟩ : BufTy).Contents (Elt F) → (⟨S4x32, .f32⟩ : BufTy).Contents (Elt F))
  :: StableHlo.binary main_while1b_v131 main_while1b_v139 main_while1b_v140 (addf : (⟨S4x32, .f32⟩ : BufTy).Contents (Elt F) → (⟨S4x32, .f32⟩ : BufTy).Contents (Elt F) → (⟨S4x32, .f32⟩ : BufTy).Contents (Elt F))
  :: StableHlo.unary main_while1b_v124 main_while1b_v141 (Host.negf : (⟨S4x32, .f32⟩ : BufTy).Contents (Elt F) → (⟨S4x32, .f32⟩ : BufTy).Contents (Elt F))
  :: StableHlo.unary main_while1b_v141 main_while1b_v142 (Host.exp : (⟨S4x32, .f32⟩ : BufTy).Contents (Elt F) → (⟨S4x32, .f32⟩ : BufTy).Contents (Elt F))
  :: StableHlo.nullary main_while1b_cst_43 (constant S_ .f32 0x3F800000#32)
  :: StableHlo.unary main_while1b_cst_43 main_while1b_v143 (broadcastInDim S4x32 ![] bcast_S_S4x32 : (⟨S_, .f32⟩ : BufTy).Contents (Elt F) → (⟨S4x32, .f32⟩ : BufTy).Contents (Elt F))
  :: StableHlo.binary main_while1b_v143 main_while1b_v142 main_while1b_v144 (addf : (⟨S4x32, .f32⟩ : BufTy).Contents (Elt F) → (⟨S4x32, .f32⟩ : BufTy).Contents (Elt F) → (⟨S4x32, .f32⟩ : BufTy).Contents (Elt F))
  :: StableHlo.nullary main_while1b_cst_44 (constant S_ .f32 0x3F800000#32)
  :: StableHlo.unary main_while1b_cst_44 main_while1b_v145 (broadcastInDim S4x32 ![] bcast_S_S4x32 : (⟨S_, .f32⟩ : BufTy).Contents (Elt F) → (⟨S4x32, .f32⟩ : BufTy).Contents (Elt F))
  :: StableHlo.binary main_while1b_v145 main_while1b_v144 main_while1b_v146 (Host.divf : (⟨S4x32, .f32⟩ : BufTy).Contents (Elt F) → (⟨S4x32, .f32⟩ : BufTy).Contents (Elt F) → (⟨S4x32, .f32⟩ : BufTy).Contents (Elt F))
  :: StableHlo.unary main_while1b_v140 main_while1b_v147 (Host.tanh : (⟨S4x32, .f32⟩ : BufTy).Contents (Elt F) → (⟨S4x32, .f32⟩ : BufTy).Contents (Elt F))
  :: StableHlo.binary main_while1b_v146 main_while1b_v147 main_while1b_v148 (mulf : (⟨S4x32, .f32⟩ : BufTy).Contents (Elt F) → (⟨S4x32, .f32⟩ : BufTy).Contents (Elt F) → (⟨S4x32, .f32⟩ : BufTy).Contents (Elt F))
  :: [] )
/-- Each touches TensorCore references only (`HostSeg.ofOps` over `StableHlo.tcRefs`, or a subset by `sub_ucRefs`). -/
theorem while1Ops0_1_sub : (while1Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- 4 host operations of @dynamic_update_index_in_dim (main_while1b_call3), in order. -/
abbrev while1Ops0_2 : List (HloOp τ sig (Elt F)) :=
  [ StableHlo.TRef.unary (.of main_while1b_v148 : StableHlo.TRef sig ⟨S4x32, .f32⟩) (.of main_while1b_call3_v0 : StableHlo.TRef sig ⟨S1x4x32, .f32⟩) (broadcastInDim S1x4x32 ![1, 2] bcast_S4x32_S1x4x32_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v95_8 : StableHlo.TRef sig ⟨S12x4x32, .f32⟩) (.of main_while1b_call3_v0 : StableHlo.TRef sig ⟨S1x4x32, .f32⟩) ![(.of main_v95_5 : StableHlo.TRef sig ⟨S_, .i32⟩), (.of main_while1b_call3_c : StableHlo.TRef sig ⟨S_, .i32⟩), (.of main_while1b_call3_c_0 : StableHlo.TRef sig ⟨S_, .i32⟩)] (.of main_while1b_v149 : StableHlo.TRef sig ⟨S12x4x32, .f32⟩) (fun x u i => Host.dynamicUpdateSlice x u (fun k => (i k (Shape.Idx.first h_S_)).toInt) updateFits_S12x4x32_S1x4x32) ]
/-- Each touches TensorCore references only (`HostSeg.ofOps` over `StableHlo.tcRefs`, or a subset by `sub_ucRefs`). -/
theorem while1Ops0_2_sub : (while1Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 6 host operations of host loop 1's body region, in order. -/
abbrev while1Ops0_3 : List (HloOp τ sig (Elt F)) :=
  [ StableHlo.nullary main_while1b_c_45 (constantI S_ 32 1#32),
    StableHlo.binary main_v95_5 main_while1b_c_45 main_while1b_v150 (addi : (⟨S_, .i32⟩ : BufTy).Contents (Elt F) → (⟨S_, .i32⟩ : BufTy).Contents (Elt F) → (⟨S_, .i32⟩ : BufTy).Contents (Elt F)),
    StableHlo.unary main_while1b_v150 main_v95_5 id,
    StableHlo.unary main_while1b_v148 main_v95_6 id,
    StableHlo.unary main_while1b_v140 main_v95_7 id,
    StableHlo.unary main_while1b_v149 main_v95_8 id ]
/-- Each touches TensorCore references only (`HostSeg.ofOps` over `StableHlo.tcRefs`, or a subset by `sub_ucRefs`). -/
theorem while1Ops0_3_sub : (while1Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3 ] : Prog (TpuEff nD τ sig (Elt F) (HostLoop.Sig (Pipeline.Sig Λ₀ (Fin 0) fun p => (pcfgs (F := F) p).Adm) 3) .tc) PUnit) := by
  rewrite [Pipeline.chain_cons, StableHlo.chain_seq_cons, Pipeline.chain_cons, StableHlo.chain_seq_cons]
  chain_rfl

/-- 4 host operations of @dynamic_index_in_dim_1 (main_while2b_call4), in order. -/
abbrev while2Ops0 : List (HloOp τ sig (Elt F)) :=
  [ StableHlo.TRef.nullary (.of main_while2b_call4_c : StableHlo.TRef sig ⟨S_, .i32⟩) (constantI S_ 32 0#32),
    StableHlo.TRef.nullary (.of main_while2b_call4_c_0 : StableHlo.TRef sig ⟨S_, .i32⟩) (constantI S_ 32 0#32),
    StableHlo.TRef.unaryIndexed (.of main_v99_0 : StableHlo.TRef sig ⟨S12x4x32, .f32⟩) ![(.of main_v99_5 : StableHlo.TRef sig ⟨S_, .i32⟩), (.of main_while2b_call4_c : StableHlo.TRef sig ⟨S_, .i32⟩), (.of main_while2b_call4_c_0 : StableHlo.TRef sig ⟨S_, .i32⟩)] (.of main_while2b_call4_v0 : StableHlo.TRef sig ⟨S1x4x32, .f32⟩) (fun x i => Host.dynamicSlice S1x4x32 x (fun k => (i k (Shape.Idx.first h_S_)).toInt) sliceFits_S12x4x32_S1x4x32),
    StableHlo.TRef.reshape (.of main_while2b_call4_v0 : StableHlo.TRef sig ⟨S1x4x32, .f32⟩) (.of main_while2b_v109 : StableHlo.TRef sig ⟨S4x32, .f32⟩) (rfl : (.f32 : EltTy) = .f32) shapeCasts_S1x4x32_S4x32 ]
/-- Each touches TensorCore references only (`HostSeg.ofOps` over `StableHlo.tcRefs`, or a subset by `sub_ucRefs`). -/
theorem while2Ops0_sub : (while2Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 45 host operations of host loop 2's body region, in order. -/
abbrev while2Ops0_1 : List (HloOp τ sig (Elt F)) :=
  ( StableHlo.unary main_v99_1 main_while2b_v110 ((transpose S32x512 [1, 0] · transposes_S512x32_S32x512_1_0) : (⟨S512x32, .f32⟩ : BufTy).Contents (Elt F) → (⟨S32x512, .f32⟩ : BufTy).Contents (Elt F))
  :: StableHlo.binary main_while2b_v109 main_while2b_v110 main_while2b_v111 ((fun l r => Host.dotGeneral dot_S4x32_S32x512_S4x512_1_0_0_1_n_n none l r) : (⟨S4x32, .f32⟩ : BufTy).Contents (Elt F) → (⟨S32x512, .f32⟩ : BufTy).Contents (Elt F) → (⟨S4x512, .f32⟩ : BufTy).Contents (Elt F))
  :: StableHlo.unary main_v99_2 main_while2b_v112 ((transpose S128x512 [1, 0] · transposes_S512x128_S128x512_1_0) : (⟨S512x128, .f32⟩ : BufTy).Contents (Elt F) → (⟨S128x512, .f32⟩ : BufTy).Contents (Elt F))
  :: StableHlo.binary main_v99_6 main_while2b_v112 main_while2b_v113 ((fun l r => Host.dotGeneral dot_S4x128_S128x512_S4x512_1_0_0_1_n_n none l r) : (⟨S4x128, .f32⟩ : BufTy).Contents (Elt F) → (⟨S128x512, .f32⟩ : BufTy).Contents (Elt F) → (⟨S4x512, .f32⟩ : BufTy).Contents (Elt F))
  :: StableHlo.binary main_while2b_v111 main_while2b_v113 main_while2b_v114 (addf : (⟨S4x512, .f32⟩ : BufTy).Contents (Elt F) → (⟨S4x512, .f32⟩ : BufTy).Contents (Elt F) → (⟨S4x512, .f32⟩ : BufTy).Contents (Elt F))
  :: StableHlo.unary main_v99_3 main_while2b_v115 (broadcastInDim S1x512 ![1] bcast_S512_S1x512_1 : (⟨S512, .f32⟩ : BufTy).Contents (Elt F) → (⟨S1x512, .f32⟩ : BufTy).Contents (Elt F))
  :: StableHlo.unary main_while2b_v115 main_while2b_v116 (broadcastInDim S4x512 ![0, 1] bcast_S1x512_S4x512_0_1 : (⟨S1x512, .f32⟩ : BufTy).Contents (Elt F) → (⟨S4x512, .f32⟩ : BufTy).Contents (Elt F))
  :: StableHlo.binary main_while2b_v114 main_while2b_v116 main_while2b_v117 (addf : (⟨S4x512, .f32⟩ : BufTy).Contents (Elt F) → (⟨S4x512, .f32⟩ : BufTy).Contents (Elt F) → (⟨S4x512, .f32⟩ : BufTy).Contents (Elt F))
  :: StableHlo.unary main_v99_4 main_while2b_v118 (broadcastInDim S1x512 ![1] bcast_S512_S1x512_1 : (⟨S512, .f32⟩ : BufTy).Contents (Elt F) → (⟨S1x512, .f32⟩ : BufTy).Contents (Elt F))
  :: StableHlo.unary main_while2b_v118 main_while2b_v119 (broadcastInDim S4x512 ![0, 1] bcast_S1x512_S4x512_0_1 : (⟨S1x512, .f32⟩ : BufTy).Contents (Elt F) → (⟨S4x512, .f32⟩ : BufTy).Contents (Elt F))
  :: StableHlo.binary main_while2b_v117 main_while2b_v119 main_while2b_v120 (addf : (⟨S4x512, .f32⟩ : BufTy).Contents (Elt F) → (⟨S4x512, .f32⟩ : BufTy).Contents (Elt F) → (⟨S4x512, .f32⟩ : BufTy).Contents (Elt F))
  :: StableHlo.unary main_while2b_v120 main_while2b_v121 ((extractStridedSlice S4x128 ![0, 0] · slices_S4x512_S4x128_0_0) : (⟨S4x512, .f32⟩ : BufTy).Contents (Elt F) → (⟨S4x128, .f32⟩ : BufTy).Contents (Elt F))
  :: StableHlo.unary main_while2b_v120 main_while2b_v122 ((extractStridedSlice S4x128 ![0, 128] · slices_S4x512_S4x128_0_128) : (⟨S4x512, .f32⟩ : BufTy).Contents (Elt F) → (⟨S4x128, .f32⟩ : BufTy).Contents (Elt F))
  :: StableHlo.unary main_while2b_v120 main_while2b_v123 ((extractStridedSlice S4x128 ![0, 256] · slices_S4x512_S4x128_0_256) : (⟨S4x512, .f32⟩ : BufTy).Contents (Elt F) → (⟨S4x128, .f32⟩ : BufTy).Contents (Elt F))
  :: StableHlo.unary main_while2b_v120 main_while2b_v124 ((extractStridedSlice S4x128 ![0, 384] · slices_S4x512_S4x128_0_384) : (⟨S4x512, .f32⟩ : BufTy).Contents (Elt F) → (⟨S4x128, .f32⟩ : BufTy).Contents (Elt F))
  :: StableHlo.unary main_while2b_v122 main_while2b_v125 (Host.negf : (⟨S4x128, .f32⟩ : BufTy).Contents (Elt F) → (⟨S4x128, .f32⟩ : BufTy).Contents (Elt F))
  :: StableHlo.unary main_while2b_v125 main_while2b_v126 (Host.exp : (⟨S4x128, .f32⟩ : BufTy).Contents (Elt F) → (⟨S4x128, .f32⟩ : BufTy).Contents (Elt F))
  :: StableHlo.nullary main_while2b_cst_39 (constant S_ .f32 0x3F800000#32)
  :: StableHlo.unary main_while2b_cst_39 main_while2b_v127 (broadcastInDim S4x128 ![] bcast_S_S4x128 : (⟨S_, .f32⟩ : BufTy).Contents (Elt F) → (⟨S4x128, .f32⟩ : BufTy).Contents (Elt F))
  :: StableHlo.binary main_while2b_v127 main_while2b_v126 main_while2b_v128 (addf : (⟨S4x128, .f32⟩ : BufTy).Contents (Elt F) → (⟨S4x128, .f32⟩ : BufTy).Contents (Elt F) → (⟨S4x128, .f32⟩ : BufTy).Contents (Elt F))
  :: StableHlo.nullary main_while2b_cst_40 (constant S_ .f32 0x3F800000#32)
  :: StableHlo.unary main_while2b_cst_40 main_while2b_v129 (broadcastInDim S4x128 ![] bcast_S_S4x128 : (⟨S_, .f32⟩ : BufTy).Contents (Elt F) → (⟨S4x128, .f32⟩ : BufTy).Contents (Elt F))
  :: StableHlo.binary main_while2b_v129 main_while2b_v128 main_while2b_v130 (Host.divf : (⟨S4x128, .f32⟩ : BufTy).Contents (Elt F) → (⟨S4x128, .f32⟩ : BufTy).Contents (Elt F) → (⟨S4x128, .f32⟩ : BufTy).Contents (Elt F))
  :: StableHlo.binary main_while2b_v130 main_v99_7 main_while2b_v131 (mulf : (⟨S4x128, .f32⟩ : BufTy).Contents (Elt F) → (⟨S4x128, .f32⟩ : BufTy).Contents (Elt F) → (⟨S4x128, .f32⟩ : BufTy).Contents (Elt F))
  :: StableHlo.unary main_while2b_v121 main_while2b_v132 (Host.negf : (⟨S4x128, .f32⟩ : BufTy).Contents (Elt F) → (⟨S4x128, .f32⟩ : BufTy).Contents (Elt F))
  :: StableHlo.unary main_while2b_v132 main_while2b_v133 (Host.exp : (⟨S4x128, .f32⟩ : BufTy).Contents (Elt F) → (⟨S4x128, .f32⟩ : BufTy).Contents (Elt F))
  :: StableHlo.nullary main_while2b_cst_41 (constant S_ .f32 0x3F800000#32)
  :: StableHlo.unary main_while2b_cst_41 main_while2b_v134 (broadcastInDim S4x128 ![] bcast_S_S4x128 : (⟨S_, .f32⟩ : BufTy).Contents (Elt F) → (⟨S4x128, .f32⟩ : BufTy).Contents (Elt F))
  :: StableHlo.binary main_while2b_v134 main_while2b_v133 main_while2b_v135 (addf : (⟨S4x128, .f32⟩ : BufTy).Contents (Elt F) → (⟨S4x128, .f32⟩ : BufTy).Contents (Elt F) → (⟨S4x128, .f32⟩ : BufTy).Contents (Elt F))
  :: StableHlo.nullary main_while2b_cst_42 (constant S_ .f32 0x3F800000#32)
  :: StableHlo.unary main_while2b_cst_42 main_while2b_v136 (broadcastInDim S4x128 ![] bcast_S_S4x128 : (⟨S_, .f32⟩ : BufTy).Contents (Elt F) → (⟨S4x128, .f32⟩ : BufTy).Contents (Elt F))
  :: StableHlo.binary main_while2b_v136 main_while2b_v135 main_while2b_v137 (Host.divf : (⟨S4x128, .f32⟩ : BufTy).Contents (Elt F) → (⟨S4x128, .f32⟩ : BufTy).Contents (Elt F) → (⟨S4x128, .f32⟩ : BufTy).Contents (Elt F))
  :: StableHlo.unary main_while2b_v123 main_while2b_v138 (Host.tanh : (⟨S4x128, .f32⟩ : BufTy).Contents (Elt F) → (⟨S4x128, .f32⟩ : BufTy).Contents (Elt F))
  :: StableHlo.binary main_while2b_v137 main_while2b_v138 main_while2b_v139 (mulf : (⟨S4x128, .f32⟩ : BufTy).Contents (Elt F) → (⟨S4x128, .f32⟩ : BufTy).Contents (Elt F) → (⟨S4x128, .f32⟩ : BufTy).Contents (Elt F))
  :: StableHlo.binary main_while2b_v131 main_while2b_v139 main_while2b_v140 (addf : (⟨S4x128, .f32⟩ : BufTy).Contents (Elt F) → (⟨S4x128, .f32⟩ : BufTy).Contents (Elt F) → (⟨S4x128, .f32⟩ : BufTy).Contents (Elt F))
  :: StableHlo.unary main_while2b_v124 main_while2b_v141 (Host.negf : (⟨S4x128, .f32⟩ : BufTy).Contents (Elt F) → (⟨S4x128, .f32⟩ : BufTy).Contents (Elt F))
  :: StableHlo.unary main_while2b_v141 main_while2b_v142 (Host.exp : (⟨S4x128, .f32⟩ : BufTy).Contents (Elt F) → (⟨S4x128, .f32⟩ : BufTy).Contents (Elt F))
  :: StableHlo.nullary main_while2b_cst_43 (constant S_ .f32 0x3F800000#32)
  :: StableHlo.unary main_while2b_cst_43 main_while2b_v143 (broadcastInDim S4x128 ![] bcast_S_S4x128 : (⟨S_, .f32⟩ : BufTy).Contents (Elt F) → (⟨S4x128, .f32⟩ : BufTy).Contents (Elt F))
  :: StableHlo.binary main_while2b_v143 main_while2b_v142 main_while2b_v144 (addf : (⟨S4x128, .f32⟩ : BufTy).Contents (Elt F) → (⟨S4x128, .f32⟩ : BufTy).Contents (Elt F) → (⟨S4x128, .f32⟩ : BufTy).Contents (Elt F))
  :: StableHlo.nullary main_while2b_cst_44 (constant S_ .f32 0x3F800000#32)
  :: StableHlo.unary main_while2b_cst_44 main_while2b_v145 (broadcastInDim S4x128 ![] bcast_S_S4x128 : (⟨S_, .f32⟩ : BufTy).Contents (Elt F) → (⟨S4x128, .f32⟩ : BufTy).Contents (Elt F))
  :: StableHlo.binary main_while2b_v145 main_while2b_v144 main_while2b_v146 (Host.divf : (⟨S4x128, .f32⟩ : BufTy).Contents (Elt F) → (⟨S4x128, .f32⟩ : BufTy).Contents (Elt F) → (⟨S4x128, .f32⟩ : BufTy).Contents (Elt F))
  :: StableHlo.unary main_while2b_v140 main_while2b_v147 (Host.tanh : (⟨S4x128, .f32⟩ : BufTy).Contents (Elt F) → (⟨S4x128, .f32⟩ : BufTy).Contents (Elt F))
  :: StableHlo.binary main_while2b_v146 main_while2b_v147 main_while2b_v148 (mulf : (⟨S4x128, .f32⟩ : BufTy).Contents (Elt F) → (⟨S4x128, .f32⟩ : BufTy).Contents (Elt F) → (⟨S4x128, .f32⟩ : BufTy).Contents (Elt F))
  :: [] )
/-- Each touches TensorCore references only (`HostSeg.ofOps` over `StableHlo.tcRefs`, or a subset by `sub_ucRefs`). -/
theorem while2Ops0_1_sub : (while2Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- 4 host operations of @dynamic_update_index_in_dim_2 (main_while2b_call5), in order. -/
abbrev while2Ops0_2 : List (HloOp τ sig (Elt F)) :=
  [ StableHlo.TRef.unary (.of main_while2b_v148 : StableHlo.TRef sig ⟨S4x128, .f32⟩) (.of main_while2b_call5_v0 : StableHlo.TRef sig ⟨S1x4x128, .f32⟩) (broadcastInDim S1x4x128 ![1, 2] bcast_S4x128_S1x4x128_1_2),
    StableHlo.TRef.nullary (.of main_while2b_call5_c : StableHlo.TRef sig ⟨S_, .i32⟩) (constantI S_ 32 0#32),
    StableHlo.TRef.nullary (.of main_while2b_call5_c_0 : StableHlo.TRef sig ⟨S_, .i32⟩) (constantI S_ 32 0#32),
    StableHlo.TRef.binaryIndexed (.of main_v99_8 : StableHlo.TRef sig ⟨S12x4x128, .f32⟩) (.of main_while2b_call5_v0 : StableHlo.TRef sig ⟨S1x4x128, .f32⟩) ![(.of main_v99_5 : StableHlo.TRef sig ⟨S_, .i32⟩), (.of main_while2b_call5_c : StableHlo.TRef sig ⟨S_, .i32⟩), (.of main_while2b_call5_c_0 : StableHlo.TRef sig ⟨S_, .i32⟩)] (.of main_while2b_v149 : StableHlo.TRef sig ⟨S12x4x128, .f32⟩) (fun x u i => Host.dynamicUpdateSlice x u (fun k => (i k (Shape.Idx.first h_S_)).toInt) updateFits_S12x4x128_S1x4x128) ]
/-- Each touches TensorCore references only (`HostSeg.ofOps` over `StableHlo.tcRefs`, or a subset by `sub_ucRefs`). -/
theorem while2Ops0_2_sub : (while2Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 6 host operations of host loop 2's body region, in order. -/
abbrev while2Ops0_3 : List (HloOp τ sig (Elt F)) :=
  [ StableHlo.nullary main_while2b_c_45 (constantI S_ 32 1#32),
    StableHlo.binary main_v99_5 main_while2b_c_45 main_while2b_v150 (addi : (⟨S_, .i32⟩ : BufTy).Contents (Elt F) → (⟨S_, .i32⟩ : BufTy).Contents (Elt F) → (⟨S_, .i32⟩ : BufTy).Contents (Elt F)),
    StableHlo.unary main_while2b_v150 main_v99_5 id,
    StableHlo.unary main_while2b_v148 main_v99_6 id,
    StableHlo.unary main_while2b_v140 main_v99_7 id,
    StableHlo.unary main_while2b_v149 main_v99_8 id ]
/-- Each touches TensorCore references only (`HostSeg.ofOps` over `StableHlo.tcRefs`, or a subset by `sub_ucRefs`). -/
theorem while2Ops0_3_sub : (while2Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while2_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while2_body_chain : main_while2_body (F := F) = (Pipeline.chain
  [ StableHlo.seq while2Ops0,
    StableHlo.seq while2Ops0_1,
    StableHlo.seq while2Ops0_2,
    StableHlo.seq while2Ops0_3 ] : Prog (TpuEff nD τ sig (Elt F) (HostLoop.Sig (Pipeline.Sig Λ₀ (Fin 0) fun p => (pcfgs (F := F) p).Adm) 3) .tc) PUnit) := by
  rewrite [Pipeline.chain_cons, StableHlo.chain_seq_cons, Pipeline.chain_cons, StableHlo.chain_seq_cons]
  chain_rfl

end Cert.ReferenceIdeal.Gen

end
-- ==== Proof.RefStretches.lean ====
/- The stretches of the reference's host program: the arrays that each of them writes, in order, and what its three loops and its arguments do. -/
module

public import proofs.«01_k».proof.Proof.RefLists
public import proofs.«01_k».proof.Proof.Loops

@[expose] public section

set_option maxRecDepth 16384

noncomputable section

namespace Cert.ReferenceIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal.Gen Cert.Loops

variable {F : FTy → Type} [FloatOps F]

/-! ## What each stretch writes -/

abbrev main_part0_ops0_W : List (Ref sig .tc) :=
  [main_v0, main_v1, main_v2, main_v3, main_v4, main_v5,
   main_v6, main_v7, main_v8, main_v9, main_v10, main_v11,
   main_v12, main_cst, main_v13, main_v14, main_v15, main_cst_0,
   main_v16, main_c, main_v17, main_v18, main_c_1, main_v19,
   main_v20, main_v21, main_v22, main_v23, main_c_2, main_v24,
   main_v25, main_c_3, main_v26, main_v27, main_v28, main_v29,
   main_v30, main_v31, main_cst_4]
theorem main_part0_ops0_writes : (main_part0_ops0 : List (HloOp τ sig (Elt F))).Forall fun op => op.writes ⊆ (main_part0_ops0_W.map (Proc.devRef (τ := τ) .tc)).toFinset :=
  StableHlo.forall_writes_sub_of_map rfl
abbrev main_part0_ops1_W : List (Ref sig .tc) :=
  [main_call0_cst, main_call0_v0, main_call0_v1, main_call0_v2, main_call0_v3, main_call0_v4,
   main_v32]
theorem main_part0_ops1_writes : (main_part0_ops1 : List (HloOp τ sig (Elt F))).Forall fun op => op.writes ⊆ (main_part0_ops1_W.map (Proc.devRef (τ := τ) .tc)).toFinset :=
  StableHlo.forall_writes_sub_of_map rfl
abbrev main_part0_ops2_W : List (Ref sig .tc) :=
  [main_cst_5, main_v33, main_c_6, main_c_7, main_v34_0, main_v34_1,
   main_v34_2, main_v34_3, main_v34_4]
theorem main_part0_ops2_writes : (main_part0_ops2 : List (HloOp τ sig (Elt F))).Forall fun op => op.writes ⊆ (main_part0_ops2_W.map (Proc.devRef (τ := τ) .tc)).toFinset :=
  StableHlo.forall_writes_sub_of_map rfl
abbrev main_part0_ops3_W : List (Ref sig .tc) :=
  [main_v35, main_cst_8, main_v36, main_v37, main_cst_9]
theorem main_part0_ops3_writes : (main_part0_ops3 : List (HloOp τ sig (Elt F))).Forall fun op => op.writes ⊆ (main_part0_ops3_W.map (Proc.devRef (τ := τ) .tc)).toFinset :=
  StableHlo.forall_writes_sub_of_map rfl
abbrev main_part0_ops4_W : List (Ref sig .tc) :=
  [main_call1_v0, main_call1_v1, main_v38]
theorem main_part0_ops4_writes : (main_part0_ops4 : List (HloOp τ sig (Elt F))).Forall fun op => op.writes ⊆ (main_part0_ops4_W.map (Proc.devRef (τ := τ) .tc)).toFinset :=
  StableHlo.forall_writes_sub_of_map rfl
abbrev main_part0_ops5_W : List (Ref sig .tc) :=
  [main_c_10, main_v39, main_v40, main_c_11]
theorem main_part0_ops5_writes : (main_part0_ops5 : List (HloOp τ sig (Elt F))).Forall fun op => op.writes ⊆ (main_part0_ops5_W.map (Proc.devRef (τ := τ) .tc)).toFinset :=
  StableHlo.forall_writes_sub_of_map rfl
abbrev main_part1_ops0_W : List (Ref sig .tc) :=
  [main_v41, main_v42, main_v43, main_v44, main_v45, main_v46,
   main_v47, main_cst_12, main_v48, main_v49, main_v50, main_c_13,
   main_v51, main_v52, main_c_14, main_v53, main_v54, main_v55,
   main_v56, main_v57, main_c_15, main_v58, main_v59, main_c_16,
   main_v60, main_v61, main_v62, main_v63, main_v64, main_v65,
   main_v66, main_cst_17, main_v67, main_v68, main_v69, main_v70,
   main_c_18, main_v71, main_v72, main_c_19, main_v73, main_v74,
   main_v75, main_v76, main_v77, main_v78, main_v79, main_v80,
   main_cst_20, main_v81, main_v82, main_v83, main_cst_21, main_v84,
   main_cst_22, main_v85, main_v86, main_v87, main_v88, main_v89]
theorem main_part1_ops0_writes : (main_part1_ops0 : List (HloOp τ sig (Elt F))).Forall fun op => op.writes ⊆ (main_part1_ops0_W.map (Proc.devRef (τ := τ) .tc)).toFinset :=
  StableHlo.forall_writes_sub_of_map rfl
abbrev main_part2_ops0_W : List (Ref sig .tc) :=
  [main_v90, main_v91, main_cst_23, main_v92, main_cst_24, main_v93,
   main_cst_25, main_v94, main_c_26, main_v95_0, main_v95_1, main_v95_2,
   main_v95_3, main_v95_4, main_v95_5, main_v95_6, main_v95_7, main_v95_8]
theorem main_part2_ops0_writes : (main_part2_ops0 : List (HloOp τ sig (Elt F))).Forall fun op => op.writes ⊆ (main_part2_ops0_W.map (Proc.devRef (τ := τ) .tc)).toFinset :=
  StableHlo.forall_writes_sub_of_map rfl
abbrev main_part2_ops1_W : List (Ref sig .tc) :=
  [main_cst_27, main_v96, main_cst_28, main_v97, main_cst_29, main_v98,
   main_c_30, main_v99_0, main_v99_1, main_v99_2, main_v99_3, main_v99_4,
   main_v99_5, main_v99_6, main_v99_7, main_v99_8]
theorem main_part2_ops1_writes : (main_part2_ops1 : List (HloOp τ sig (Elt F))).Forall fun op => op.writes ⊆ (main_part2_ops1_W.map (Proc.devRef (τ := τ) .tc)).toFinset :=
  StableHlo.forall_writes_sub_of_map rfl
abbrev main_part2_ops2_W : List (Ref sig .tc) :=
  [main_v100, main_v101, main_v102, main_v103, main_v104, main_v105,
   main_v106, main_v107, main_v108]
theorem main_part2_ops2_writes : (main_part2_ops2 : List (HloOp τ sig (Elt F))).Forall fun op => op.writes ⊆ (main_part2_ops2_W.map (Proc.devRef (τ := τ) .tc)).toFinset :=
  StableHlo.forall_writes_sub_of_map rfl
abbrev while0Ops0_W : List (Ref sig .tc) :=
  [main_while0b_c_35, main_while0b_v109, main_while0b_c_36, main_while0b_v110, main_while0b_v111, main_while0b_c_37,
   main_while0b_v112, main_while0b_v113, main_while0b_v114, main_while0b_v115, main_while0b_c_38, main_while0b_v116,
   main_while0b_c_39, main_while0b_v117, main_while0b_v118, main_while0b_c_40, main_while0b_c_41, main_while0b_v119,
   main_while0b_c_42, main_while0b_c_43, main_while0b_v120, main_while0b_c_44, main_while0b_v121, main_while0b_v122,
   main_while0b_v123, main_while0b_v124, main_while0b_c_45, main_while0b_v125, main_while0b_c_46, main_while0b_v126,
   main_while0b_v127, main_while0b_c_47, main_while0b_c_48, main_while0b_v128, main_while0b_c_49, main_while0b_c_50,
   main_while0b_v129, main_while0b_c_51, main_while0b_v130, main_while0b_v131, main_while0b_v132, main_while0b_v133,
   main_while0b_c_52, main_while0b_v134, main_while0b_c_53, main_while0b_v135, main_while0b_v136, main_while0b_v137,
   main_while0b_v138, main_while0b_c_54, main_while0b_v139, main_v34_2, main_v34_3, main_v34_4]
theorem while0Ops0_writes : (while0Ops0 : List (HloOp τ sig (Elt F))).Forall fun op => op.writes ⊆ (while0Ops0_W.map (Proc.devRef (τ := τ) .tc)).toFinset :=
  StableHlo.forall_writes_sub_of_map rfl
abbrev while1Ops0_W : List (Ref sig .tc) :=
  [main_while1b_call2_c, main_while1b_call2_c_0, main_while1b_call2_v0, main_while1b_v109]
theorem while1Ops0_writes : (while1Ops0 : List (HloOp τ sig (Elt F))).Forall fun op => op.writes ⊆ (while1Ops0_W.map (Proc.devRef (τ := τ) .tc)).toFinset :=
  StableHlo.forall_writes_sub_of_map rfl
abbrev while1Ops0_1_W : List (Ref sig .tc) :=
  [main_while1b_v110, main_while1b_v111, main_while1b_v112, main_while1b_v113, main_while1b_v114, main_while1b_v115,
   main_while1b_v116, main_while1b_v117, main_while1b_v118, main_while1b_v119, main_while1b_v120, main_while1b_v121,
   main_while1b_v122, main_while1b_v123, main_while1b_v124, main_while1b_v125, main_while1b_v126, main_while1b_cst_39,
   main_while1b_v127, main_while1b_v128, main_while1b_cst_40, main_while1b_v129, main_while1b_v130, main_while1b_v131,
   main_while1b_v132, main_while1b_v133, main_while1b_cst_41, main_while1b_v134, main_while1b_v135, main_while1b_cst_42,
   main_while1b_v136, main_while1b_v137, main_while1b_v138, main_while1b_v139, main_while1b_v140, main_while1b_v141,
   main_while1b_v142, main_while1b_cst_43, main_while1b_v143, main_while1b_v144, main_while1b_cst_44, main_while1b_v145,
   main_while1b_v146, main_while1b_v147, main_while1b_v148]
theorem while1Ops0_1_writes : (while1Ops0_1 : List (HloOp τ sig (Elt F))).Forall fun op => op.writes ⊆ (while1Ops0_1_W.map (Proc.devRef (τ := τ) .tc)).toFinset :=
  StableHlo.forall_writes_sub_of_map rfl
abbrev while1Ops0_2_W : List (Ref sig .tc) :=
  [main_while1b_call3_v0, main_while1b_call3_c, main_while1b_call3_c_0, main_while1b_v149]
theorem while1Ops0_2_writes : (while1Ops0_2 : List (HloOp τ sig (Elt F))).Forall fun op => op.writes ⊆ (while1Ops0_2_W.map (Proc.devRef (τ := τ) .tc)).toFinset :=
  StableHlo.forall_writes_sub_of_map rfl
abbrev while1Ops0_3_W : List (Ref sig .tc) :=
  [main_while1b_c_45, main_while1b_v150, main_v95_5, main_v95_6, main_v95_7, main_v95_8]
theorem while1Ops0_3_writes : (while1Ops0_3 : List (HloOp τ sig (Elt F))).Forall fun op => op.writes ⊆ (while1Ops0_3_W.map (Proc.devRef (τ := τ) .tc)).toFinset :=
  StableHlo.forall_writes_sub_of_map rfl
abbrev while2Ops0_W : List (Ref sig .tc) :=
  [main_while2b_call4_c, main_while2b_call4_c_0, main_while2b_call4_v0, main_while2b_v109]
theorem while2Ops0_writes : (while2Ops0 : List (HloOp τ sig (Elt F))).Forall fun op => op.writes ⊆ (while2Ops0_W.map (Proc.devRef (τ := τ) .tc)).toFinset :=
  StableHlo.forall_writes_sub_of_map rfl
abbrev while2Ops0_1_W : List (Ref sig .tc) :=
  [main_while2b_v110, main_while2b_v111, main_while2b_v112, main_while2b_v113, main_while2b_v114, main_while2b_v115,
   main_while2b_v116, main_while2b_v117, main_while2b_v118, main_while2b_v119, main_while2b_v120, main_while2b_v121,
   main_while2b_v122, main_while2b_v123, main_while2b_v124, main_while2b_v125, main_while2b_v126, main_while2b_cst_39,
   main_while2b_v127, main_while2b_v128, main_while2b_cst_40, main_while2b_v129, main_while2b_v130, main_while2b_v131,
   main_while2b_v132, main_while2b_v133, main_while2b_cst_41, main_while2b_v134, main_while2b_v135, main_while2b_cst_42,
   main_while2b_v136, main_while2b_v137, main_while2b_v138, main_while2b_v139, main_while2b_v140, main_while2b_v141,
   main_while2b_v142, main_while2b_cst_43, main_while2b_v143, main_while2b_v144, main_while2b_cst_44, main_while2b_v145,
   main_while2b_v146, main_while2b_v147, main_while2b_v148]
theorem while2Ops0_1_writes : (while2Ops0_1 : List (HloOp τ sig (Elt F))).Forall fun op => op.writes ⊆ (while2Ops0_1_W.map (Proc.devRef (τ := τ) .tc)).toFinset :=
  StableHlo.forall_writes_sub_of_map rfl
abbrev while2Ops0_2_W : List (Ref sig .tc) :=
  [main_while2b_call5_v0, main_while2b_call5_c, main_while2b_call5_c_0, main_while2b_v149]
theorem while2Ops0_2_writes : (while2Ops0_2 : List (HloOp τ sig (Elt F))).Forall fun op => op.writes ⊆ (while2Ops0_2_W.map (Proc.devRef (τ := τ) .tc)).toFinset :=
  StableHlo.forall_writes_sub_of_map rfl
abbrev while2Ops0_3_W : List (Ref sig .tc) :=
  [main_while2b_c_45, main_while2b_v150, main_v99_5, main_v99_6, main_v99_7, main_v99_8]
theorem while2Ops0_3_writes : (while2Ops0_3 : List (HloOp τ sig (Elt F))).Forall fun op => op.writes ⊆ (while2Ops0_3_W.map (Proc.devRef (τ := τ) .tc)).toFinset :=
  StableHlo.forall_writes_sub_of_map rfl

/-- The sixteen arguments. -/
abbrev argRefs : List (Ref sig .tc) := [main_arg0, main_arg1, main_arg2, main_arg3, main_arg4, main_arg5, main_arg6, main_arg7, main_arg8, main_arg9,
  main_arg10, main_arg11, main_arg12, main_arg13, main_arg14, main_arg15]

/-! ## The conditions -/

/-- The operations of the three loops' condition regions. -/
abbrev cond0 : List (HloOp τ sig (Elt F)) :=
  [ StableHlo.nullary main_while0c_c_35 (constantI S_ 32 680000#32),
    StableHlo.binary main_v34_2 main_while0c_c_35 main_while0c_v109 (cmpi .slt) ]
abbrev cond1 : List (HloOp τ sig (Elt F)) :=
  [ StableHlo.nullary main_while1c_c_39 (constantI S_ 32 12#32),
    StableHlo.binary main_v95_5 main_while1c_c_39 main_while1c_v109 (cmpi .slt) ]
abbrev cond2 : List (HloOp τ sig (Elt F)) :=
  [ StableHlo.nullary main_while2c_c_39 (constantI S_ 32 12#32),
    StableHlo.binary main_v99_5 main_while2c_c_39 main_while2c_v109 (cmpi .slt) ]
abbrev cond0_W : List (Ref sig .tc) := [main_while0c_c_35, main_while0c_v109]
theorem cond0_writes : (cond0 : List (HloOp τ sig (Elt F))).Forall fun op => op.writes ⊆ (cond0_W.map (Proc.devRef (τ := τ) .tc)).toFinset :=
  StableHlo.forall_writes_sub_of_map rfl
abbrev cond1_W : List (Ref sig .tc) := [main_while1c_c_39, main_while1c_v109]
theorem cond1_writes : (cond1 : List (HloOp τ sig (Elt F))).Forall fun op => op.writes ⊆ (cond1_W.map (Proc.devRef (τ := τ) .tc)).toFinset :=
  StableHlo.forall_writes_sub_of_map rfl
abbrev cond2_W : List (Ref sig .tc) := [main_while2c_c_39, main_while2c_v109]
theorem cond2_writes : (cond2 : List (HloOp τ sig (Elt F))).Forall fun op => op.writes ⊆ (cond2_W.map (Proc.devRef (τ := τ) .tc)).toFinset :=
  StableHlo.forall_writes_sub_of_map rfl

/-! ## The stretches between the loops, and the loops' bodies -/

abbrev pre0 : List (List (HloOp τ sig (Elt F))) := [main_part0_ops0, main_part0_ops1, main_part0_ops2]
abbrev pre1 : List (List (HloOp τ sig (Elt F))) := [main_part0_ops3, main_part0_ops4, main_part0_ops5, main_part1_ops0, main_part2_ops0]
abbrev pre2 : List (List (HloOp τ sig (Elt F))) := [main_part2_ops1]
abbrev post : List (List (HloOp τ sig (Elt F))) := [main_part2_ops2]
abbrev body0 : List (List (HloOp τ sig (Elt F))) := [while0Ops0]
abbrev body1 : List (List (HloOp τ sig (Elt F))) := [while1Ops0, while1Ops0_1, while1Ops0_2, while1Ops0_3]
abbrev body2 : List (List (HloOp τ sig (Elt F))) := [while2Ops0, while2Ops0_1, while2Ops0_2, while2Ops0_3]

theorem pre0_plain : StableHlo.Plain (pre0 (F := F)) := .cons main_part0_ops0_sub (.cons main_part0_ops1_sub (.cons main_part0_ops2_sub .nil))
theorem pre1_plain : StableHlo.Plain (pre1 (F := F)) :=
  .cons main_part0_ops3_sub (.cons main_part0_ops4_sub (.cons main_part0_ops5_sub (.cons main_part1_ops0_sub (.cons main_part2_ops0_sub .nil))))
theorem pre2_plain : StableHlo.Plain (pre2 (F := F)) := .cons main_part2_ops1_sub .nil
theorem post_plain : StableHlo.Plain (post (F := F)) := .cons main_part2_ops2_sub .nil
theorem body0_plain : StableHlo.Plain (body0 (F := F)) := .cons while0Ops0_sub .nil
theorem body1_plain : StableHlo.Plain (body1 (F := F)) :=
  .cons while1Ops0_sub (.cons while1Ops0_1_sub (.cons while1Ops0_2_sub (.cons while1Ops0_3_sub .nil)))
theorem body2_plain : StableHlo.Plain (body2 (F := F)) :=
  .cons while2Ops0_sub (.cons while2Ops0_1_sub (.cons while2Ops0_2_sub (.cons while2Ops0_3_sub .nil)))

abbrev pre0_W : List (List (Ref sig .tc)) := [main_part0_ops0_W, main_part0_ops1_W, main_part0_ops2_W]
abbrev pre1_W : List (List (Ref sig .tc)) := [main_part0_ops3_W, main_part0_ops4_W, main_part0_ops5_W, main_part1_ops0_W, main_part2_ops0_W]
abbrev pre2_W : List (List (Ref sig .tc)) := [main_part2_ops1_W]
abbrev post_W : List (List (Ref sig .tc)) := [main_part2_ops2_W]
abbrev loop0_W : List (List (Ref sig .tc)) := [cond0_W, while0Ops0_W]
abbrev loop1_W : List (List (Ref sig .tc)) := [cond1_W, while1Ops0_W, while1Ops0_1_W, while1Ops0_2_W, while1Ops0_3_W]
abbrev loop2_W : List (List (Ref sig .tc)) := [cond2_W, while2Ops0_W, while2Ops0_1_W, while2Ops0_2_W, while2Ops0_3_W]

/-- A reference that no list of `Ws` has is not written by the stretches `Ws` describes. -/
theorem pre0_kept (V : Valuation τ sig (Elt F)) {r : Ref sig .tc} (hr : ∀ W ∈ pre0_W, r ∉ W) : StableHlo.afterL pre0 V (Proc.devRef .tc r) = V (Proc.devRef .tc r) :=
  afterL_of_writes_sub _ pre0_W (.cons main_part0_ops0_writes (.cons main_part0_ops1_writes (.cons main_part0_ops2_writes .nil))) hr V
theorem pre1_kept (V : Valuation τ sig (Elt F)) {r : Ref sig .tc} (hr : ∀ W ∈ pre1_W, r ∉ W) : StableHlo.afterL pre1 V (Proc.devRef .tc r) = V (Proc.devRef .tc r) :=
  afterL_of_writes_sub _ pre1_W (.cons main_part0_ops3_writes (.cons main_part0_ops4_writes (.cons main_part0_ops5_writes (.cons main_part1_ops0_writes
    (.cons main_part2_ops0_writes .nil))))) hr V
theorem pre2_kept (V : Valuation τ sig (Elt F)) {r : Ref sig .tc} (hr : ∀ W ∈ pre2_W, r ∉ W) : StableHlo.afterL pre2 V (Proc.devRef .tc r) = V (Proc.devRef .tc r) :=
  afterL_of_writes_sub _ pre2_W (.cons main_part2_ops1_writes .nil) hr V
theorem post_kept (V : Valuation τ sig (Elt F)) {r : Ref sig .tc} (hr : ∀ W ∈ post_W, r ∉ W) : StableHlo.afterL post V (Proc.devRef .tc r) = V (Proc.devRef .tc r) :=
  afterL_of_writes_sub _ post_W (.cons main_part2_ops2_writes .nil) hr V
theorem round0_kept (V : Valuation τ sig (Elt F)) {r : Ref sig .tc} (hr : ∀ W ∈ loop0_W, r ∉ W) :
    StableHlo.afterL body0 (StableHlo.after cond0 V) (Proc.devRef .tc r) = V (Proc.devRef .tc r) :=
  afterL_of_writes_sub (cond0 :: body0) loop0_W (.cons cond0_writes (.cons while0Ops0_writes .nil)) hr V
theorem round1_kept (V : Valuation τ sig (Elt F)) {r : Ref sig .tc} (hr : ∀ W ∈ loop1_W, r ∉ W) :
    StableHlo.afterL body1 (StableHlo.after cond1 V) (Proc.devRef .tc r) = V (Proc.devRef .tc r) :=
  afterL_of_writes_sub (cond1 :: body1) loop1_W (.cons cond1_writes (.cons while1Ops0_writes (.cons while1Ops0_1_writes (.cons while1Ops0_2_writes
    (.cons while1Ops0_3_writes .nil))))) hr V
theorem round2_kept (V : Valuation τ sig (Elt F)) {r : Ref sig .tc} (hr : ∀ W ∈ loop2_W, r ∉ W) :
    StableHlo.afterL body2 (StableHlo.after cond2 V) (Proc.devRef .tc r) = V (Proc.devRef .tc r) :=
  afterL_of_writes_sub (cond2 :: body2) loop2_W (.cons cond2_writes (.cons while2Ops0_writes (.cons while2Ops0_1_writes (.cons while2Ops0_2_writes
    (.cons while2Ops0_3_writes .nil))))) hr V

/-! ## The contents at each boundary -/

/-- The trip counts: of the loop over the edges, and of each of the two over the twelve time steps. -/
def nE : ℕ := Scf.trips 0#32 680000#32 1#32
def nT : ℕ := Scf.trips 0#32 12#32 1#32

variable (m : (ℓ : Loc nD τ sig) → Buf (Elt F) ℓ)

/-- The arrays at launch, and at each loop's entry and exit; `K0`, `K1`, `K2` before the `k`-th run of a loop's condition; `Vfin` at the end. -/
abbrev W0 : Dev nD → Valuation τ sig (Elt F) := fun c b => m ((c : Dev nD), b)
def E0 : Dev nD → Valuation τ sig (Elt F) := fun c => StableHlo.afterL pre0 (W0 m c)
abbrev K0 (k : ℕ) : Dev nD → Valuation τ sig (Elt F) := StableHlo.atTrip cond0 body0 (E0 m) k
def X0 : Dev nD → Valuation τ sig (Elt F) := fun c => StableHlo.after cond0 (K0 m nE c)
def E1 : Dev nD → Valuation τ sig (Elt F) := fun c => StableHlo.afterL pre1 (X0 m c)
abbrev K1 (k : ℕ) : Dev nD → Valuation τ sig (Elt F) := StableHlo.atTrip cond1 body1 (E1 m) k
def X1 : Dev nD → Valuation τ sig (Elt F) := fun c => StableHlo.after cond1 (K1 m nT c)
def E2 : Dev nD → Valuation τ sig (Elt F) := fun c => StableHlo.afterL pre2 (X1 m c)
abbrev K2 (k : ℕ) : Dev nD → Valuation τ sig (Elt F) := StableHlo.atTrip cond2 body2 (E2 m) k
def X2 : Dev nD → Valuation τ sig (Elt F) := fun c => StableHlo.after cond2 (K2 m nT c)
def Vfin : Dev nD → Valuation τ sig (Elt F) := fun c => StableHlo.afterL post (X2 m c)

/-- An array that a loop leaves alone holds at its exit what it held at its entry. -/
theorem X0_kept (c : Dev nD) {r : Ref sig .tc} (hr : ∀ W ∈ loop0_W, r ∉ W) : X0 m c (Proc.devRef .tc r) = E0 m c (Proc.devRef .tc r) :=
  (StableHlo.after_of_writes_sub cond0 _ cond0_writes (hr cond0_W List.mem_cons_self)).trans (atTrip_of_kept (fun V => round0_kept V hr) c _)
theorem X1_kept (c : Dev nD) {r : Ref sig .tc} (hr : ∀ W ∈ loop1_W, r ∉ W) : X1 m c (Proc.devRef .tc r) = E1 m c (Proc.devRef .tc r) :=
  (StableHlo.after_of_writes_sub cond1 _ cond1_writes (hr cond1_W List.mem_cons_self)).trans (atTrip_of_kept (fun V => round1_kept V hr) c _)
theorem X2_kept (c : Dev nD) {r : Ref sig .tc} (hr : ∀ W ∈ loop2_W, r ∉ W) : X2 m c (Proc.devRef .tc r) = E2 m c (Proc.devRef .tc r) :=
  (StableHlo.after_of_writes_sub cond2 _ cond2_writes (hr cond2_W List.mem_cons_self)).trans (atTrip_of_kept (fun V => round2_kept V hr) c _)

/-- Every argument holds at each boundary what it held at launch. -/
theorem E0_args (c : Dev nD) : ∀ a ∈ argRefs, E0 m c (Proc.devRef .tc a) = m ((c : Thread nD τ).loc a) := fun a ha =>
  pre0_kept _ ((show ∀ a ∈ argRefs, ∀ W ∈ pre0_W, a ∉ W by decide) a ha)
theorem E1_args (c : Dev nD) : ∀ a ∈ argRefs, E1 m c (Proc.devRef .tc a) = m ((c : Thread nD τ).loc a) := fun a ha =>
  ((pre1_kept _ ((show ∀ a ∈ argRefs, ∀ W ∈ pre1_W, a ∉ W by decide) a ha)).trans
    (X0_kept m c ((show ∀ a ∈ argRefs, ∀ W ∈ loop0_W, a ∉ W by decide) a ha))).trans (E0_args m c a ha)
theorem X1_args (c : Dev nD) : ∀ a ∈ argRefs, X1 m c (Proc.devRef .tc a) = m ((c : Thread nD τ).loc a) := fun a ha =>
  (X1_kept m c ((show ∀ a ∈ argRefs, ∀ W ∈ loop1_W, a ∉ W by decide) a ha)).trans (E1_args m c a ha)
theorem E2_args (c : Dev nD) : ∀ a ∈ argRefs, E2 m c (Proc.devRef .tc a) = m ((c : Thread nD τ).loc a) := fun a ha =>
  (pre2_kept _ ((show ∀ a ∈ argRefs, ∀ W ∈ pre2_W, a ∉ W by decide) a ha)).trans (X1_args m c a ha)
theorem X2_args (c : Dev nD) : ∀ a ∈ argRefs, X2 m c (Proc.devRef .tc a) = m ((c : Thread nD τ).loc a) := fun a ha =>
  (X2_kept m c ((show ∀ a ∈ argRefs, ∀ W ∈ loop2_W, a ∉ W by decide) a ha)).trans (E2_args m c a ha)
theorem Vfin_args (c : Dev nD) : ∀ a ∈ argRefs, Vfin m c (Proc.devRef .tc a) = m ((c : Thread nD τ).loc a) := fun a ha =>
  (post_kept _ ((show ∀ a ∈ argRefs, ∀ W ∈ post_W, a ∉ W by decide) a ha)).trans (X2_args m c a ha)

end Cert.ReferenceIdeal.Run

end
-- ==== Proof.RefRun.lean ====
/- The run of the reference's host program: it terminates, and every array ends at the fold of the stretches and the loops (`Vfin`). -/
module

public import proofs.«01_k».proof.Proof.RefStretches

@[expose] public section

set_option maxRecDepth 16384

noncomputable section

namespace Cert.ReferenceIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal.Gen Cert.Loops
open Idealize.ShloMosaic.StableHlo

variable {F : FTy → Type} [FloatOps F]
variable (m : (ℓ : Loc nD τ sig) → Buf (Elt F) ℓ)

/-! ## The trip counters -/

/-- A round of the loop over the edges leaves its counter one greater; likewise a round of each loop over the time steps. -/
theorem step0 (V : Valuation τ sig (Elt F)) (x : BitVec 32) (hV : V (Proc.devRef .tc main_v34_2) = fun _ => x) :
    afterL body0 (after cond0 V) (Proc.devRef .tc main_v34_2) = fun _ => x + 1#32 := by
  have h : ∀ X : Valuation τ sig (Elt F), after while0Ops0 X (Proc.devRef .tc main_v34_2) = addi (X (Proc.devRef .tc main_v34_2)) (constantI S_ 32 1#32) := fun X => by
    after_results
    rfl
  rw [afterL_cons, afterL_nil, h, after_of_writes_sub cond0 V cond0_writes (by decide), hV]
  rfl
theorem step1 (V : Valuation τ sig (Elt F)) (x : BitVec 32) (hV : V (Proc.devRef .tc main_v95_5) = fun _ => x) :
    afterL body1 (after cond1 V) (Proc.devRef .tc main_v95_5) = fun _ => x + 1#32 := by
  have h : ∀ X : Valuation τ sig (Elt F), after while1Ops0_3 X (Proc.devRef .tc main_v95_5) = addi (X (Proc.devRef .tc main_v95_5)) (constantI S_ 32 1#32) := fun X => by
    after_results
    rfl
  rw [afterL_cons, afterL_cons, afterL_cons, afterL_cons, afterL_nil, h, after_of_writes_sub while1Ops0_2 _ while1Ops0_2_writes (by decide),
    after_of_writes_sub while1Ops0_1 _ while1Ops0_1_writes (by decide), after_of_writes_sub while1Ops0 _ while1Ops0_writes (by decide),
    after_of_writes_sub cond1 V cond1_writes (by decide), hV]
  rfl
theorem step2 (V : Valuation τ sig (Elt F)) (x : BitVec 32) (hV : V (Proc.devRef .tc main_v99_5) = fun _ => x) :
    afterL body2 (after cond2 V) (Proc.devRef .tc main_v99_5) = fun _ => x + 1#32 := by
  have h : ∀ X : Valuation τ sig (Elt F), after while2Ops0_3 X (Proc.devRef .tc main_v99_5) = addi (X (Proc.devRef .tc main_v99_5)) (constantI S_ 32 1#32) := fun X => by
    after_results
    rfl
  rw [afterL_cons, afterL_cons, afterL_cons, afterL_cons, afterL_nil, h, after_of_writes_sub while2Ops0_2 _ while2Ops0_2_writes (by decide),
    after_of_writes_sub while2Ops0_1 _ while2Ops0_1_writes (by decide), after_of_writes_sub while2Ops0 _ while2Ops0_writes (by decide),
    after_of_writes_sub cond2 V cond2_writes (by decide), hV]
  rfl

/-- Each counter is 0 at its loop's entry. -/
theorem entry0 (c : Dev nD) : E0 m c (Proc.devRef .tc main_v34_2) = fun _ => 0#32 := by
  have h : ∀ X : Valuation τ sig (Elt F), after main_part0_ops2 X (Proc.devRef .tc main_v34_2) = fun _ => 0#32 := fun X => by
    after_results
    rfl
  exact h _
theorem entry1 (c : Dev nD) : E1 m c (Proc.devRef .tc main_v95_5) = fun _ => 0#32 := by
  have h : ∀ X : Valuation τ sig (Elt F), after main_part2_ops0 X (Proc.devRef .tc main_v95_5) = fun _ => 0#32 := fun X => by
    after_results
    rfl
  exact h _
theorem entry2 (c : Dev nD) : E2 m c (Proc.devRef .tc main_v99_5) = fun _ => 0#32 := by
  have h : ∀ X : Valuation τ sig (Elt F), after main_part2_ops1 X (Proc.devRef .tc main_v99_5) = fun _ => 0#32 := fun X => by
    after_results
    rfl
  exact h _

/-- So before the `k`-th run of the condition each counter is the loop's induction variable. -/
theorem ctr0 (c : Dev nD) (k : ℕ) : K0 m k c (Proc.devRef .tc main_v34_2) = fun _ => Scf.iv 0#32 1#32 k :=
  atTrip_counter (fun V => V (Proc.devRef .tc main_v34_2)) (fun x _ => x) c (entry0 m c) step0 k
theorem ctr1 (c : Dev nD) (k : ℕ) : K1 m k c (Proc.devRef .tc main_v95_5) = fun _ => Scf.iv 0#32 1#32 k :=
  atTrip_counter (fun V => V (Proc.devRef .tc main_v95_5)) (fun x _ => x) c (entry1 m c) step1 k
theorem ctr2 (c : Dev nD) (k : ℕ) : K2 m k c (Proc.devRef .tc main_v99_5) = fun _ => Scf.iv 0#32 1#32 k :=
  atTrip_counter (fun V => V (Proc.devRef .tc main_v99_5)) (fun x _ => x) c (entry2 m c) step2 k

/-! ## The segments -/

/-- The ghost state of a program with no kernel: nothing in it is used. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev 𝒱₀ : Variants := Variants.none
abbrev L : GSem nD τ sig → Finset Unit := fun _ => ∅
abbrev lv : GSem nD τ sig → Unit → ℕ := fun _ _ => 0

/-- What is carried beside the arrays: the device owes nothing. -/
abbrev Rc (c : Dev nD) : sProp (MT nD τ sig Unit (Elt F) ℕ (Option PUnit) ℕ) := iprop(∃ W, owes (c : Thread nD τ) (0 : CellTallies nD τ sig Unit) W)

/-- The conditions' specifications. -/
theorem cond0_spec : LoopCond (pcfgs (F := F)) defs₀ 𝒱₀ loops Rc (main_while0_cond (F := F)) cond0 body0 (E0 m) nE :=
  loopCond_of (pcfgs (F := F)) defs₀ 𝒱₀ loops Rc _ _ _ _ _ _ _ _ _ _ rfl body0 (E0 m) nE fun k hk c => by
    rw [nullary_result, nullary_result_ne _ _ _ (h := by decide), show atTrip _ body0 (E0 m) k c (Proc.devRef .tc main_v34_2) = _ from ctr0 m c k]
    exact Scf.cmpi_slt_iv_ub_iff (lb := 0#32) (ub := 680000#32) (st := 1#32) (by decide) hk
theorem cond1_spec : LoopCond (pcfgs (F := F)) defs₀ 𝒱₀ loops Rc (main_while1_cond (F := F)) cond1 body1 (E1 m) nT :=
  loopCond_of (pcfgs (F := F)) defs₀ 𝒱₀ loops Rc _ _ _ _ _ _ _ _ _ _ rfl body1 (E1 m) nT fun k hk c => by
    rw [nullary_result, nullary_result_ne _ _ _ (h := by decide), show atTrip _ body1 (E1 m) k c (Proc.devRef .tc main_v95_5) = _ from ctr1 m c k]
    exact Scf.cmpi_slt_iv_ub_iff (lb := 0#32) (ub := 12#32) (st := 1#32) (by decide) hk
theorem cond2_spec : LoopCond (pcfgs (F := F)) defs₀ 𝒱₀ loops Rc (main_while2_cond (F := F)) cond2 body2 (E2 m) nT :=
  loopCond_of (pcfgs (F := F)) defs₀ 𝒱₀ loops Rc _ _ _ _ _ _ _ _ _ _ rfl body2 (E2 m) nT fun k hk c => by
    rw [nullary_result, nullary_result_ne _ _ _ (h := by decide), show atTrip _ body2 (E2 m) k c (Proc.devRef .tc main_v99_5) = _ from ctr2 m c k]
    exact Scf.cmpi_slt_iv_ub_iff (lb := 0#32) (ub := 12#32) (st := 1#32) (by decide) hk

abbrev KitSeg : Type 1 := Pipeline.CSeg (pcfgs (F := F)) adm defs₀ 𝒱₀ L lv loops tk

abbrev loop0 : KitSeg (F := F) :=
  loopSeg _ _ _ _ _ _ _ _ 0 (main_while0_cond (F := F)) (main_while0_body (F := F)) rfl cond0 body0 body0_plain (by rw [while0_body_chain]; rfl) nE (E0 m) Rc (cond0_spec m)
abbrev loop1 : KitSeg (F := F) :=
  loopSeg _ _ _ _ _ _ _ _ 1 (main_while1_cond (F := F)) (main_while1_body (F := F)) rfl cond1 body1 body1_plain (by rw [while1_body_chain]; rfl) nT (E1 m) Rc (cond1_spec m)
abbrev loop2 : KitSeg (F := F) :=
  loopSeg _ _ _ _ _ _ _ _ 2 (main_while2_cond (F := F)) (main_while2_body (F := F)) rfl cond2 body2 body2_plain (by rw [while2_body_chain]; rfl) nT (E2 m) Rc (cond2_spec m)

/-- The program's segments: stretches and loops in turn. -/
def segs : List (KitSeg (F := F)) :=
  segsOf _ _ _ _ _ _ _ _ Rc pre0 pre0_plain (W0 m) ++ loop0 m :: (segsOf _ _ _ _ _ _ _ _ Rc pre1 pre1_plain (X0 m)
    ++ loop1 m :: (segsOf _ _ _ _ _ _ _ _ Rc pre2 pre2_plain (X1 m) ++ loop2 m :: segsOf _ _ _ _ _ _ _ _ Rc post post_plain (X2 m)))

theorem segs_prog : (segs m).map Pipeline.CSeg.prog
    = (pre0.map fun ops => (seq ops : Prog _ PUnit)) ++ HostLoop.enter 0 :: ((pre1.map fun ops => (seq ops : Prog _ PUnit))
      ++ HostLoop.enter 1 :: ((pre2.map fun ops => (seq ops : Prog _ PUnit)) ++ HostLoop.enter 2 :: post.map fun ops => (seq ops : Prog _ PUnit))) := by
  unfold segs
  rw [List.map_append, List.map_cons, List.map_append, List.map_cons, List.map_append, List.map_cons, segsOf_prog, segsOf_prog, segsOf_prog, segsOf_prog]
  rfl

/-- The program is the run of its segments. -/
theorem main_run (c : Dev nD) : main (F := F) c = Pipeline.CSeg.runL (segs m) := (main_chain_windows c).trans (by
  unfold Pipeline.CSeg.runL
  rw [segs_prog]
  chain_rfl)

abbrev T₀ (c : Dev nD) : sProp (MT nD τ sig Unit (Elt F) ℕ (Option PUnit) ℕ) := iprop(held (c : Thread nD τ) (Pipeline.ucRefs τ sig) (W0 m c) ∗ Rc c)
abbrev Tₙ (c : Dev nD) : sProp (MT nD τ sig Unit (Elt F) ℕ (Option PUnit) ℕ) := iprop(held (c : Thread nD τ) (Pipeline.ucRefs τ sig) (Vfin m c))

/-- The state runs on from each segment to the next. -/
theorem segs_chains : Pipeline.CSeg.Chains (T₀ m) (segs m) (fun c => iprop(Tₙ m c ∗ Rc c)) := by
  unfold segs
  exact Pipeline.CSeg.Chains.append (segsOf_chains _ _ _ _ _ _ _ _ Rc pre0 pre0_plain _) ⟨fun _ => .rfl,
    Pipeline.CSeg.Chains.append (segsOf_chains _ _ _ _ _ _ _ _ Rc pre1 pre1_plain _) ⟨fun _ => .rfl,
      Pipeline.CSeg.Chains.append (segsOf_chains _ _ _ _ _ _ _ _ Rc pre2 pre2_plain _) ⟨fun _ => .rfl, segsOf_chains _ _ _ _ _ _ _ _ Rc post post_plain _⟩⟩⟩

theorem hinj : Function.Injective (Pipeline.cellOf (nD := nD) (τ := τ) (Pipeline.pin (pcfgs (F := F)) adm)) := fun p _ _ => p.1.elim0

/-- The device has no counter that outlives a kernel. -/
theorem all_scoped : ∀ sm : SemLoc sig, sm.isScoped .tc = true := by decide

set_option backward.isDefEq.respectTransparency.types false in
/-- The run: from any memory with the counters at zero the program terminates, every array at `Vfin` and every counter at zero. -/
theorem run_main (g : Dev nD → PrngReg) : θ_run defs (onTc (τ := τ) (main (F := F))) ⟨m, fun _ => 0, g⟩
    (fun r => (∀ (c : Dev nD), ∀ b ∈ Pipeline.ucRefs τ sig, r.2.mem (c, b) = Vfin m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm hinj defs₀ 𝒱₀ L lv loops tk m g main (segs m)
    (fun c Q => by rw [main_run m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := T₀ m) (Tₙ := Tₙ m)
    (hch := segs_chains m)
    (hinit := by
      refine Pipeline.initEach L lv fun c => ?_
      rw [show unscopedBufs c (fun b => m ((c : Thread nD τ).loc b)) = held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Vfin m c b)
    (hfin := fun c s' => by
      unfold Tₙ held
      iintro ⟨Hh, HSI⟩
      ihave Hr := (pointsTo_read_all (Pipeline.ucRefs τ sig) (fun b => ((c : Dev nD), b)) (fun b => Vfin m c b) s') $$ [Hh HSI]
      · isplitl [Hh] <;> iassumption
      icases Hr with ⟨%h, HSI⟩
      imodintro
      isplitr; · ipureintro; exact h
      iexact HSI)
    (hQ := fun s h hs => ⟨h, funext fun g' => hs g' (Or.inr (all_scoped g'.2))⟩)

/-- The program runs, leaves its arguments as they were, and ends with the result array at `Vfin`. -/
theorem run_result (g : Dev nD → PrngReg) : θ_run defs (onTc (τ := τ) (main (F := F))) ⟨m, fun _ => 0, g⟩
    (fun r => (∀ c : Dev nD, r.2.mem ((c : Thread nD τ).loc main_v108) = Vfin m c (Proc.devRef .tc main_v108)
      ∧ ∀ a ∈ argRefs, r.2.mem ((c : Thread nD τ).loc a) = m ((c : Thread nD τ).loc a)) ∧ r.2.sem = fun _ => 0) :=
  (θ_run defs _ _).mono (fun _ h => ⟨fun c => ⟨h.1 c _ (devRef_mem_ucRefs main_v108 rfl), fun a ha =>
    (h.1 c _ (devRef_mem_ucRefs a ((show ∀ a ∈ argRefs, (Proc.devRef .tc a : DevRef τ sig).isScoped = false by decide) a ha))).trans (Vfin_args m c a ha)⟩, h.2⟩)
    (run_main m g)

end Cert.ReferenceIdeal.Run

end
-- ==== Proof.Frames.lean ====
/- The three frame claims: each program runs, leaves its arguments as they were, and ends with every counter at zero. -/
module

public import proofs.«01_k».proof.Defs
public import proofs.«01_k».proof.Proof.Twin
public import proofs.«01_k».proof.Proof.RefRun
public import proofs.«01_k».proof.Proof.Gen.KernelIdeal
public import proofs.«01_k».proof.Proof.Gen.ReferenceIdeal

@[expose] public section

set_option maxRecDepth 16384

noncomputable section

namespace Cert.Frames

open Idealize.ShloMosaic Idealize.ShloMosaic.TcCoe Idealize.SL.Sem

/-- A fact of all sixteen arguments is the fact of each in turn. -/
theorem sixteen {α : Type} {P : α → Prop} {a0 a1 a2 a3 a4 a5 a6 a7 a8 a9 a10 a11 a12 a13 a14 a15 : α}
    (h : ∀ a ∈ [a0, a1, a2, a3, a4, a5, a6, a7, a8, a9, a10, a11, a12, a13, a14, a15], P a) :
    P a0 ∧ P a1 ∧ P a2 ∧ P a3 ∧ P a4 ∧ P a5 ∧ P a6 ∧ P a7 ∧ P a8 ∧ P a9 ∧ P a10 ∧ P a11 ∧ P a12 ∧ P a13 ∧ P a14 ∧ P a15 := by
  simpa only [List.forall_mem_cons, List.not_mem_nil, false_implies, implies_true, and_true] using h

/-- The kernel at machine words. -/
theorem kernel : Cert.quiescent_Kernel (hKernel := Cert.Kernel.Gen.facts) := fun m g _ =>
  (θ_run _ _ _).mono (fun _ h => ⟨fun c => sixteen (h.1 c), h.2⟩) (Cert.Twin.run_args m g)

/-- The kernel over the reals. -/
theorem kernelIdeal : Cert.quiescent_KernelIdeal (hKernelIdeal := Cert.KernelIdeal.Gen.facts) := fun m g _ =>
  (θ_run _ _ _).mono (fun _ h => ⟨fun c => sixteen (h.1 c).2, h.2⟩) (Cert.KernelIdeal.Run.run_result m g)

/-- The reference over the reals. -/
theorem referenceIdeal : Cert.quiescent_ReferenceIdeal (hReferenceIdeal := Cert.ReferenceIdeal.Gen.facts) := fun m g _ =>
  (θ_run _ _ _).mono (fun _ h => ⟨fun c => sixteen (h.1 c).2, h.2⟩) (Cert.ReferenceIdeal.Run.run_result m g)

end Cert.Frames

end
-- ==== Proof.SameLstm.lean ====
/- The recurrent layers. One round of a layer's loop, and so the whole loop, is the same function of the carried arrays in the kernel's host
   program and in the reference's: the rows read and written, the gates and the new states are computed from the same inputs by the same operations. -/
module

public import proofs.«01_k».proof.Proof.RefStretches
public import proofs.«01_k».proof.Proof.KStretches
public import Idealize.ShloMosaic.Lib.StableHlo.RunRead

@[expose] public section

set_option maxRecDepth 16384

noncomputable section

namespace Cert.Same

open Idealize.ShloMosaic Idealize.ShloMosaic.TcCoe
open Cert.Loops
open Idealize.ShloMosaic.StableHlo

variable {F : FTy → Type} [FloatOps F]
variable (V : Valuation KernelIdeal.τ KernelIdeal.sig (Elt F)) (U : Valuation ReferenceIdeal.τ ReferenceIdeal.sig (Elt F))

/-- Where the rows of time step `n` start. -/
def starts (n : (⟨KernelIdeal.S_, .i32⟩ : BufTy).Contents (Elt F)) : Fin 3 → ℤ := fun k =>
  ((![n, constantI KernelIdeal.S_ 32 0#32, constantI KernelIdeal.S_ 32 0#32] : Fin 3 → (⟨KernelIdeal.S_, .i32⟩ : BufTy).Contents (Elt F)) k
    (Shape.Idx.first KernelIdeal.Gen.h_S_)).toInt

/-! ## The first layer -/

/-- The rows of the first layer's input that time step `n` reads. -/
def stepIn1 (x : (⟨KernelIdeal.S12x4x10000, .f32⟩ : BufTy).Contents (Elt F)) (n : (⟨KernelIdeal.S_, .i32⟩ : BufTy).Contents (Elt F)) :
    (⟨KernelIdeal.S4x10000, .f32⟩ : BufTy).Contents (Elt F) :=
  shapeCast KernelIdeal.S4x10000 (Host.dynamicSlice KernelIdeal.S1x4x10000 x (starts n) KernelIdeal.Gen.sliceFits_S12x4x10000_S1x4x10000)
    KernelIdeal.Gen.shapeCasts_S1x4x10000_S4x10000

/-- The first layer's outputs with the rows starting at `st` replaced by `h`. -/
def putAt1 (x : (⟨KernelIdeal.S12x4x32, .f32⟩ : BufTy).Contents (Elt F)) (h : (⟨KernelIdeal.S4x32, .f32⟩ : BufTy).Contents (Elt F))
    (st : Fin 3 → ℤ) : (⟨KernelIdeal.S12x4x32, .f32⟩ : BufTy).Contents (Elt F) :=
  Host.dynamicUpdateSlice x (broadcastInDim KernelIdeal.S1x4x32 ![1, 2] KernelIdeal.Gen.bcast_S4x32_S1x4x32_1_2 h) st
    KernelIdeal.Gen.updateFits_S12x4x32_S1x4x32

/-- The first layer's outputs with the rows of time step `n` replaced by `h`. -/
def putRow1 (x : (⟨KernelIdeal.S12x4x32, .f32⟩ : BufTy).Contents (Elt F)) (h : (⟨KernelIdeal.S4x32, .f32⟩ : BufTy).Contents (Elt F))
    (n : (⟨KernelIdeal.S_, .i32⟩ : BufTy).Contents (Elt F)) : (⟨KernelIdeal.S12x4x32, .f32⟩ : BufTy).Contents (Elt F) :=
  putAt1 x h (starts n)

/-- The kernel's stretch that reads a time step's rows. -/
theorem stepK1 : after KernelIdeal.Gen.while0Ops0 V (Proc.devRef .tc KernelIdeal.main_while0b_v82)
    = stepIn1 (V (Proc.devRef .tc KernelIdeal.main_v71_0)) (V (Proc.devRef .tc KernelIdeal.main_v71_5)) :=
  congrArg (fun st : Fin 3 → ℤ => shapeCast KernelIdeal.S4x10000 (Host.dynamicSlice KernelIdeal.S1x4x10000 (V (Proc.devRef .tc KernelIdeal.main_v71_0)) st
    KernelIdeal.Gen.sliceFits_S12x4x10000_S1x4x10000) KernelIdeal.Gen.shapeCasts_S1x4x10000_S4x10000) (funext fun k => by fin_cases k <;> rfl)

/-- The reference's stretch that reads a time step's rows. -/
theorem stepR1 : after ReferenceIdeal.Gen.while1Ops0 U (Proc.devRef .tc ReferenceIdeal.main_while1b_v109)
    = stepIn1 (U (Proc.devRef .tc ReferenceIdeal.main_v95_0)) (U (Proc.devRef .tc ReferenceIdeal.main_v95_5)) :=
  congrArg (fun st : Fin 3 → ℤ => shapeCast KernelIdeal.S4x10000 (Host.dynamicSlice KernelIdeal.S1x4x10000 (U (Proc.devRef .tc ReferenceIdeal.main_v95_0)) st
    KernelIdeal.Gen.sliceFits_S12x4x10000_S1x4x10000) KernelIdeal.Gen.shapeCasts_S1x4x10000_S4x10000) (funext fun k => by fin_cases k <;> rfl)

/-- The kernel's stretch that writes a time step's rows. -/
theorem putK1 : after KernelIdeal.Gen.while0Ops0_2 V (Proc.devRef .tc KernelIdeal.main_while0b_v122)
    = putRow1 (V (Proc.devRef .tc KernelIdeal.main_v71_8)) (V (Proc.devRef .tc KernelIdeal.main_while0b_v121)) (V (Proc.devRef .tc KernelIdeal.main_v71_5)) :=
  congrArg (putAt1 (V (Proc.devRef .tc KernelIdeal.main_v71_8)) (V (Proc.devRef .tc KernelIdeal.main_while0b_v121))) (funext fun k => by fin_cases k <;> rfl)

/-- The reference's stretch that writes a time step's rows. -/
theorem putR1 : after ReferenceIdeal.Gen.while1Ops0_2 U (Proc.devRef .tc ReferenceIdeal.main_while1b_v149)
    = putRow1 (U (Proc.devRef .tc ReferenceIdeal.main_v95_8)) (U (Proc.devRef .tc ReferenceIdeal.main_while1b_v148)) (U (Proc.devRef .tc ReferenceIdeal.main_v95_5)) :=
  congrArg (putAt1 (U (Proc.devRef .tc ReferenceIdeal.main_v95_8)) (U (Proc.devRef .tc ReferenceIdeal.main_while1b_v148))) (funext fun k => by fin_cases k <;> rfl)

/-- The new states `h` and `c` of the first layer agree when the step's input, the weights and the old states do. -/
theorem cell1 (hx : V (Proc.devRef .tc KernelIdeal.main_while0b_v82) = U (Proc.devRef .tc ReferenceIdeal.main_while1b_v109))
    (h1 : V (Proc.devRef .tc KernelIdeal.main_v71_1) = U (Proc.devRef .tc ReferenceIdeal.main_v95_1))
    (h2 : V (Proc.devRef .tc KernelIdeal.main_v71_2) = U (Proc.devRef .tc ReferenceIdeal.main_v95_2))
    (h3 : V (Proc.devRef .tc KernelIdeal.main_v71_3) = U (Proc.devRef .tc ReferenceIdeal.main_v95_3))
    (h4 : V (Proc.devRef .tc KernelIdeal.main_v71_4) = U (Proc.devRef .tc ReferenceIdeal.main_v95_4))
    (h6 : V (Proc.devRef .tc KernelIdeal.main_v71_6) = U (Proc.devRef .tc ReferenceIdeal.main_v95_6))
    (h7 : V (Proc.devRef .tc KernelIdeal.main_v71_7) = U (Proc.devRef .tc ReferenceIdeal.main_v95_7)) :
    after KernelIdeal.Gen.while0Ops0_1 V (Proc.devRef .tc KernelIdeal.main_while0b_v121)
        = after ReferenceIdeal.Gen.while1Ops0_1 U (Proc.devRef .tc ReferenceIdeal.main_while1b_v148)
      ∧ after KernelIdeal.Gen.while0Ops0_1 V (Proc.devRef .tc KernelIdeal.main_while0b_v113)
        = after ReferenceIdeal.Gen.while1Ops0_1 U (Proc.devRef .tc ReferenceIdeal.main_while1b_v140) := by
  constructor <;> after_reads_simp <;> rw [hx, h1, h2, h3, h4, h6, h7] <;> rfl

/-- The arrays carried by the first layer's loop are the same in the kernel and in the reference. -/
structure Carry1 : Prop where
  h0 : V (Proc.devRef .tc KernelIdeal.main_v71_0) = U (Proc.devRef .tc ReferenceIdeal.main_v95_0)
  h1 : V (Proc.devRef .tc KernelIdeal.main_v71_1) = U (Proc.devRef .tc ReferenceIdeal.main_v95_1)
  h2 : V (Proc.devRef .tc KernelIdeal.main_v71_2) = U (Proc.devRef .tc ReferenceIdeal.main_v95_2)
  h3 : V (Proc.devRef .tc KernelIdeal.main_v71_3) = U (Proc.devRef .tc ReferenceIdeal.main_v95_3)
  h4 : V (Proc.devRef .tc KernelIdeal.main_v71_4) = U (Proc.devRef .tc ReferenceIdeal.main_v95_4)
  h5 : V (Proc.devRef .tc KernelIdeal.main_v71_5) = U (Proc.devRef .tc ReferenceIdeal.main_v95_5)
  h6 : V (Proc.devRef .tc KernelIdeal.main_v71_6) = U (Proc.devRef .tc ReferenceIdeal.main_v95_6)
  h7 : V (Proc.devRef .tc KernelIdeal.main_v71_7) = U (Proc.devRef .tc ReferenceIdeal.main_v95_7)
  h8 : V (Proc.devRef .tc KernelIdeal.main_v71_8) = U (Proc.devRef .tc ReferenceIdeal.main_v95_8)

/-- The last stretch of the kernel's round carries the rewritten outputs. -/
theorem moveK1 : after KernelIdeal.Gen.while0Ops0_3 V (Proc.devRef .tc KernelIdeal.main_v71_8) = V (Proc.devRef .tc KernelIdeal.main_while0b_v122) := by
  after_reads_simp
  rfl

/-- The last stretch of the reference's round carries the rewritten outputs. -/
theorem moveR1 : after ReferenceIdeal.Gen.while1Ops0_3 U (Proc.devRef .tc ReferenceIdeal.main_v95_8) = U (Proc.devRef .tc ReferenceIdeal.main_while1b_v149) := by
  after_reads_simp
  rfl

variable {V U} in
/-- A round of the first layer's loop keeps the carried arrays equal. -/
theorem round1 (h : Carry1 V U) :
    Carry1 (afterL KernelIdeal.Run.body0 (after KernelIdeal.Run.cond0 V)) (afterL ReferenceIdeal.Run.body1 (after ReferenceIdeal.Run.cond1 U)) := by
  have hx : after KernelIdeal.Gen.while0Ops0 (after KernelIdeal.Run.cond0 V) (Proc.devRef .tc KernelIdeal.main_while0b_v82)
      = after ReferenceIdeal.Gen.while1Ops0 (after ReferenceIdeal.Run.cond1 U) (Proc.devRef .tc ReferenceIdeal.main_while1b_v109) := by
    rw [stepK1, stepR1]
    exact congr (congrArg stepIn1 h.h0) h.h5
  have hc := cell1 (after KernelIdeal.Gen.while0Ops0 (after KernelIdeal.Run.cond0 V)) (after ReferenceIdeal.Gen.while1Ops0 (after ReferenceIdeal.Run.cond1 U))
    hx h.h1 h.h2 h.h3 h.h4 h.h6 h.h7
  have e5 : after KernelIdeal.Gen.while0Ops0_1 (after KernelIdeal.Gen.while0Ops0 (after KernelIdeal.Run.cond0 V)) (Proc.devRef .tc KernelIdeal.main_v71_5)
      = after ReferenceIdeal.Gen.while1Ops0_1 (after ReferenceIdeal.Gen.while1Ops0 (after ReferenceIdeal.Run.cond1 U)) (Proc.devRef .tc ReferenceIdeal.main_v95_5) := h.h5
  have e8 : after KernelIdeal.Gen.while0Ops0_1 (after KernelIdeal.Gen.while0Ops0 (after KernelIdeal.Run.cond0 V)) (Proc.devRef .tc KernelIdeal.main_v71_8)
      = after ReferenceIdeal.Gen.while1Ops0_1 (after ReferenceIdeal.Gen.while1Ops0 (after ReferenceIdeal.Run.cond1 U)) (Proc.devRef .tc ReferenceIdeal.main_v95_8) := h.h8
  have hp : after KernelIdeal.Gen.while0Ops0_2 (after KernelIdeal.Gen.while0Ops0_1 (after KernelIdeal.Gen.while0Ops0 (after KernelIdeal.Run.cond0 V)))
        (Proc.devRef .tc KernelIdeal.main_while0b_v122)
      = after ReferenceIdeal.Gen.while1Ops0_2 (after ReferenceIdeal.Gen.while1Ops0_1 (after ReferenceIdeal.Gen.while1Ops0 (after ReferenceIdeal.Run.cond1 U)))
        (Proc.devRef .tc ReferenceIdeal.main_while1b_v149) := by
    rw [putK1, putR1, e5, e8, hc.1]
  simp only [afterL_cons, afterL_nil]
  exact
    { h0 := h.h0, h1 := h.h1, h2 := h.h2, h3 := h.h3, h4 := h.h4
      h5 := congrArg (fun n => addi n (constantI KernelIdeal.S_ 32 1#32)) h.h5
      h6 := hc.1
      h7 := hc.2
      h8 := by rw [moveK1, moveR1]; exact hp }

/-- Before every round of the first layer's loop the carried arrays are equal, if they are at the loop's entry. -/
theorem trip1 {W : Dev KernelIdeal.nD → Valuation KernelIdeal.τ KernelIdeal.sig (Elt F)} {X : Dev ReferenceIdeal.nD → Valuation ReferenceIdeal.τ ReferenceIdeal.sig (Elt F)}
    (c : Dev KernelIdeal.nD) (c' : Dev ReferenceIdeal.nD) (h : Carry1 (W c) (X c')) : ∀ k,
    Carry1 (atTrip KernelIdeal.Run.cond0 KernelIdeal.Run.body0 W k c) (atTrip ReferenceIdeal.Run.cond1 ReferenceIdeal.Run.body1 X k c')
  | 0 => h
  | k + 1 => by
    rw [atTrip_succ, atTrip_succ]
    exact round1 (trip1 c c' h k)

/-! ## The second layer -/

/-- The rows of the second layer's input that time step `n` reads. -/
def stepIn2 (x : (⟨KernelIdeal.S12x4x32, .f32⟩ : BufTy).Contents (Elt F)) (n : (⟨KernelIdeal.S_, .i32⟩ : BufTy).Contents (Elt F)) :
    (⟨KernelIdeal.S4x32, .f32⟩ : BufTy).Contents (Elt F) :=
  shapeCast KernelIdeal.S4x32 (Host.dynamicSlice KernelIdeal.S1x4x32 x (starts n) KernelIdeal.Gen.sliceFits_S12x4x32_S1x4x32)
    KernelIdeal.Gen.shapeCasts_S1x4x32_S4x32

/-- The second layer's outputs with the rows starting at `st` replaced by `h`. -/
def putAt2 (x : (⟨KernelIdeal.S12x4x128, .f32⟩ : BufTy).Contents (Elt F)) (h : (⟨KernelIdeal.S4x128, .f32⟩ : BufTy).Contents (Elt F))
    (st : Fin 3 → ℤ) : (⟨KernelIdeal.S12x4x128, .f32⟩ : BufTy).Contents (Elt F) :=
  Host.dynamicUpdateSlice x (broadcastInDim KernelIdeal.S1x4x128 ![1, 2] KernelIdeal.Gen.bcast_S4x128_S1x4x128_1_2 h) st
    KernelIdeal.Gen.updateFits_S12x4x128_S1x4x128

/-- The second layer's outputs with the rows of time step `n` replaced by `h`. -/
def putRow2 (x : (⟨KernelIdeal.S12x4x128, .f32⟩ : BufTy).Contents (Elt F)) (h : (⟨KernelIdeal.S4x128, .f32⟩ : BufTy).Contents (Elt F))
    (n : (⟨KernelIdeal.S_, .i32⟩ : BufTy).Contents (Elt F)) : (⟨KernelIdeal.S12x4x128, .f32⟩ : BufTy).Contents (Elt F) :=
  putAt2 x h (starts n)

/-- The kernel's stretch that reads a time step's rows. -/
theorem stepK2 : after KernelIdeal.Gen.while1Ops0 V (Proc.devRef .tc KernelIdeal.main_while1b_v82)
    = stepIn2 (V (Proc.devRef .tc KernelIdeal.main_v75_0)) (V (Proc.devRef .tc KernelIdeal.main_v75_5)) :=
  congrArg (fun st : Fin 3 → ℤ => shapeCast KernelIdeal.S4x32 (Host.dynamicSlice KernelIdeal.S1x4x32 (V (Proc.devRef .tc KernelIdeal.main_v75_0)) st
    KernelIdeal.Gen.sliceFits_S12x4x32_S1x4x32) KernelIdeal.Gen.shapeCasts_S1x4x32_S4x32) (funext fun k => by fin_cases k <;> rfl)

/-- The reference's stretch that reads a time step's rows. -/
theorem stepR2 : after ReferenceIdeal.Gen.while2Ops0 U (Proc.devRef .tc ReferenceIdeal.main_while2b_v109)
    = stepIn2 (U (Proc.devRef .tc ReferenceIdeal.main_v99_0)) (U (Proc.devRef .tc ReferenceIdeal.main_v99_5)) :=
  congrArg (fun st : Fin 3 → ℤ => shapeCast KernelIdeal.S4x32 (Host.dynamicSlice KernelIdeal.S1x4x32 (U (Proc.devRef .tc ReferenceIdeal.main_v99_0)) st
    KernelIdeal.Gen.sliceFits_S12x4x32_S1x4x32) KernelIdeal.Gen.shapeCasts_S1x4x32_S4x32) (funext fun k => by fin_cases k <;> rfl)

/-- The kernel's stretch that writes a time step's rows. -/
theorem putK2 : after KernelIdeal.Gen.while1Ops0_2 V (Proc.devRef .tc KernelIdeal.main_while1b_v122)
    = putRow2 (V (Proc.devRef .tc KernelIdeal.main_v75_8)) (V (Proc.devRef .tc KernelIdeal.main_while1b_v121)) (V (Proc.devRef .tc KernelIdeal.main_v75_5)) :=
  congrArg (putAt2 (V (Proc.devRef .tc KernelIdeal.main_v75_8)) (V (Proc.devRef .tc KernelIdeal.main_while1b_v121))) (funext fun k => by fin_cases k <;> rfl)

/-- The reference's stretch that writes a time step's rows. -/
theorem putR2 : after ReferenceIdeal.Gen.while2Ops0_2 U (Proc.devRef .tc ReferenceIdeal.main_while2b_v149)
    = putRow2 (U (Proc.devRef .tc ReferenceIdeal.main_v99_8)) (U (Proc.devRef .tc ReferenceIdeal.main_while2b_v148)) (U (Proc.devRef .tc ReferenceIdeal.main_v99_5)) :=
  congrArg (putAt2 (U (Proc.devRef .tc ReferenceIdeal.main_v99_8)) (U (Proc.devRef .tc ReferenceIdeal.main_while2b_v148))) (funext fun k => by fin_cases k <;> rfl)

/-- The new states `h` and `c` of the second layer agree when the step's input, the weights and the old states do. -/
theorem cell2 (hx : V (Proc.devRef .tc KernelIdeal.main_while1b_v82) = U (Proc.devRef .tc ReferenceIdeal.main_while2b_v109))
    (h1 : V (Proc.devRef .tc KernelIdeal.main_v75_1) = U (Proc.devRef .tc ReferenceIdeal.main_v99_1))
    (h2 : V (Proc.devRef .tc KernelIdeal.main_v75_2) = U (Proc.devRef .tc ReferenceIdeal.main_v99_2))
    (h3 : V (Proc.devRef .tc KernelIdeal.main_v75_3) = U (Proc.devRef .tc ReferenceIdeal.main_v99_3))
    (h4 : V (Proc.devRef .tc KernelIdeal.main_v75_4) = U (Proc.devRef .tc ReferenceIdeal.main_v99_4))
    (h6 : V (Proc.devRef .tc KernelIdeal.main_v75_6) = U (Proc.devRef .tc ReferenceIdeal.main_v99_6))
    (h7 : V (Proc.devRef .tc KernelIdeal.main_v75_7) = U (Proc.devRef .tc ReferenceIdeal.main_v99_7)) :
    after KernelIdeal.Gen.while1Ops0_1 V (Proc.devRef .tc KernelIdeal.main_while1b_v121)
        = after ReferenceIdeal.Gen.while2Ops0_1 U (Proc.devRef .tc ReferenceIdeal.main_while2b_v148)
      ∧ after KernelIdeal.Gen.while1Ops0_1 V (Proc.devRef .tc KernelIdeal.main_while1b_v113)
        = after ReferenceIdeal.Gen.while2Ops0_1 U (Proc.devRef .tc ReferenceIdeal.main_while2b_v140) := by
  constructor <;> after_reads_simp <;> rw [hx, h1, h2, h3, h4, h6, h7] <;> rfl

/-- The arrays carried by the second layer's loop are the same in the kernel and in the reference. -/
structure Carry2 : Prop where
  h0 : V (Proc.devRef .tc KernelIdeal.main_v75_0) = U (Proc.devRef .tc ReferenceIdeal.main_v99_0)
  h1 : V (Proc.devRef .tc KernelIdeal.main_v75_1) = U (Proc.devRef .tc ReferenceIdeal.main_v99_1)
  h2 : V (Proc.devRef .tc KernelIdeal.main_v75_2) = U (Proc.devRef .tc ReferenceIdeal.main_v99_2)
  h3 : V (Proc.devRef .tc KernelIdeal.main_v75_3) = U (Proc.devRef .tc ReferenceIdeal.main_v99_3)
  h4 : V (Proc.devRef .tc KernelIdeal.main_v75_4) = U (Proc.devRef .tc ReferenceIdeal.main_v99_4)
  h5 : V (Proc.devRef .tc KernelIdeal.main_v75_5) = U (Proc.devRef .tc ReferenceIdeal.main_v99_5)
  h6 : V (Proc.devRef .tc KernelIdeal.main_v75_6) = U (Proc.devRef .tc ReferenceIdeal.main_v99_6)
  h7 : V (Proc.devRef .tc KernelIdeal.main_v75_7) = U (Proc.devRef .tc ReferenceIdeal.main_v99_7)
  h8 : V (Proc.devRef .tc KernelIdeal.main_v75_8) = U (Proc.devRef .tc ReferenceIdeal.main_v99_8)

/-- The last stretch of the kernel's round carries the rewritten outputs. -/
theorem moveK2 : after KernelIdeal.Gen.while1Ops0_3 V (Proc.devRef .tc KernelIdeal.main_v75_8) = V (Proc.devRef .tc KernelIdeal.main_while1b_v122) := by
  after_reads_simp
  rfl

/-- The last stretch of the reference's round carries the rewritten outputs. -/
theorem moveR2 : after ReferenceIdeal.Gen.while2Ops0_3 U (Proc.devRef .tc ReferenceIdeal.main_v99_8) = U (Proc.devRef .tc ReferenceIdeal.main_while2b_v149) := by
  after_reads_simp
  rfl

variable {V U} in
/-- A round of the second layer's loop keeps the carried arrays equal. -/
theorem round2 (h : Carry2 V U) :
    Carry2 (afterL KernelIdeal.Run.body1 (after KernelIdeal.Run.cond1 V)) (afterL ReferenceIdeal.Run.body2 (after ReferenceIdeal.Run.cond2 U)) := by
  have hx : after KernelIdeal.Gen.while1Ops0 (after KernelIdeal.Run.cond1 V) (Proc.devRef .tc KernelIdeal.main_while1b_v82)
      = after ReferenceIdeal.Gen.while2Ops0 (after ReferenceIdeal.Run.cond2 U) (Proc.devRef .tc ReferenceIdeal.main_while2b_v109) := by
    rw [stepK2, stepR2]
    exact congr (congrArg stepIn2 h.h0) h.h5
  have hc := cell2 (after KernelIdeal.Gen.while1Ops0 (after KernelIdeal.Run.cond1 V)) (after ReferenceIdeal.Gen.while2Ops0 (after ReferenceIdeal.Run.cond2 U))
    hx h.h1 h.h2 h.h3 h.h4 h.h6 h.h7
  have e5 : after KernelIdeal.Gen.while1Ops0_1 (after KernelIdeal.Gen.while1Ops0 (after KernelIdeal.Run.cond1 V)) (Proc.devRef .tc KernelIdeal.main_v75_5)
      = after ReferenceIdeal.Gen.while2Ops0_1 (after ReferenceIdeal.Gen.while2Ops0 (after ReferenceIdeal.Run.cond2 U)) (Proc.devRef .tc ReferenceIdeal.main_v99_5) := h.h5
  have e8 : after KernelIdeal.Gen.while1Ops0_1 (after KernelIdeal.Gen.while1Ops0 (after KernelIdeal.Run.cond1 V)) (Proc.devRef .tc KernelIdeal.main_v75_8)
      = after ReferenceIdeal.Gen.while2Ops0_1 (after ReferenceIdeal.Gen.while2Ops0 (after ReferenceIdeal.Run.cond2 U)) (Proc.devRef .tc ReferenceIdeal.main_v99_8) := h.h8
  have hp : after KernelIdeal.Gen.while1Ops0_2 (after KernelIdeal.Gen.while1Ops0_1 (after KernelIdeal.Gen.while1Ops0 (after KernelIdeal.Run.cond1 V)))
        (Proc.devRef .tc KernelIdeal.main_while1b_v122)
      = after ReferenceIdeal.Gen.while2Ops0_2 (after ReferenceIdeal.Gen.while2Ops0_1 (after ReferenceIdeal.Gen.while2Ops0 (after ReferenceIdeal.Run.cond2 U)))
        (Proc.devRef .tc ReferenceIdeal.main_while2b_v149) := by
    rw [putK2, putR2, e5, e8, hc.1]
  simp only [afterL_cons, afterL_nil]
  exact
    { h0 := h.h0, h1 := h.h1, h2 := h.h2, h3 := h.h3, h4 := h.h4
      h5 := congrArg (fun n => addi n (constantI KernelIdeal.S_ 32 1#32)) h.h5
      h6 := hc.1
      h7 := hc.2
      h8 := by rw [moveK2, moveR2]; exact hp }

/-- Before every round of the second layer's loop the carried arrays are equal, if they are at the loop's entry. -/
theorem trip2 {W : Dev KernelIdeal.nD → Valuation KernelIdeal.τ KernelIdeal.sig (Elt F)} {X : Dev ReferenceIdeal.nD → Valuation ReferenceIdeal.τ ReferenceIdeal.sig (Elt F)}
    (c : Dev KernelIdeal.nD) (c' : Dev ReferenceIdeal.nD) (h : Carry2 (W c) (X c')) : ∀ k,
    Carry2 (atTrip KernelIdeal.Run.cond1 KernelIdeal.Run.body1 W k c) (atTrip ReferenceIdeal.Run.cond2 ReferenceIdeal.Run.body2 X k c')
  | 0 => h
  | k + 1 => by
    rw [atTrip_succ, atTrip_succ]
    exact round2 (trip2 c c' h k)

end Cert.Same
-- ==== Proof.Gat.lean ====
/- The graph-attention layer after its logits, as functions: the softmax weights as the kernel computes them and as the reference does, and what
   both make of the weights. -/
module

public import proofs.«01_k».proof.Proof.Gen.KernelIdeal

@[expose] public section

set_option maxRecDepth 16384

noncomputable section

namespace Cert.Gat

open Idealize.ShloMosaic
open Cert.KernelIdeal Cert.KernelIdeal.Gen

variable {F : FTy → Type} [FloatOps F]

/-- A node number for each edge. -/
abbrev Nodes (F : FTy → Type) : Type := (⟨S680000, .i32⟩ : BufTy).Contents (Elt F)
/-- A number for each edge and head. -/
abbrev Edges (F : FTy → Type) : Type := (⟨S680000x8, .f32⟩ : BufTy).Contents (Elt F)
/-- A number for each node and head. -/
abbrev Heads (F : FTy → Type) : Type := (⟨S40000x8, .f32⟩ : BufTy).Contents (Elt F)

/-- The node numbers as a column. -/
def column (d : Nodes F) : (⟨S680000x1, .i32⟩ : BufTy).Contents (Elt F) := broadcastInDim S680000x1 ![0] bcast_S680000_S680000x1_0 d

/-- The node numbers with a negative one counted from the end. -/
def wrapped (d : Nodes F) : Nodes F :=
  select (cmpi .slt d (broadcastInDim S680000 ![] bcast_S_S680000 (constantI S_ 32 0#32)))
    (addi d (broadcastInDim S680000 ![] bcast_S_S680000 (constantI S_ 32 40000#32))) d

/-- Each edge's row of `x`. -/
def take (x : Heads F) (d : Nodes F) : Edges F := Host.gather gather_S40000x8_S680000x1_S680000x8_1_0_n_n_0_1_18 x (column (wrapped d))

/-- The sum over each node's edges. -/
def segSum (d : Nodes F) (e : Edges F) : Heads F :=
  Host.scatterAdd scatter_S40000x8_S680000x1_S680000x8_1_0_0_1
    (broadcastInDim S40000x8 ![] bcast_S_S40000x8 (constant S_ .f32 0x00000000#32)) (column d) e

/-- The small number added to the softmax's denominator, at every edge. -/
def eps : Edges F := broadcastInDim S680000x8 ![] bcast_S_S680000x8 (constant S_ .f32 0x24E69595#32)

/-- The exponentials of the logits. -/
def expAll (a : Edges F) : Edges F := Host.exp a

/-- The softmax weights as the kernel computes them, from the logits `a`. -/
def attK (a : Edges F) (d : Nodes F) : Edges F := Host.divf (expAll a) (addf (take (segSum d (expAll a)) d) eps)

/-- A node's maximum, 0 where it is not finite. -/
def safeMax (x : Heads F) : Heads F :=
  select (cmpf .olt (Host.absf x) (broadcastInDim S40000x8 ![] bcast_S_S40000x8 (constant S_ .f32 0x7F800000#32))) x
    (broadcastInDim S40000x8 ![] bcast_S_S40000x8 (constant S_ .f32 0x00000000#32))

/-- The exponentials of the logits less their node's shift `s`. -/
def expShift (a : Edges F) (d : Nodes F) (s : Heads F) : Edges F := Host.exp (subf a (take s d))

/-- The softmax weights as the reference computes them, from the logits `a` and the shifts `s`. -/
def attR (a : Edges F) (d : Nodes F) (s : Heads F) : Edges F :=
  Host.divf (expShift a d s) (addf (take (segSum d (expShift a d s)) d) (mulf eps (Host.exp (Host.negf (take s d)))))

/-- The layer's output, laid out by time step, from the source and destination nodes, the nodes' features, the weights and the bias. -/
def layer (s d : Nodes F) (x : (⟨S40000x8x12, .f32⟩ : BufTy).Contents (Elt F)) (att : Edges F) (b : (⟨S12, .f32⟩ : BufTy).Contents (Elt F)) :
    (⟨S12x4x10000, .f32⟩ : BufTy).Contents (Elt F) :=
  transpose S12x4x10000 [2, 0, 1]
    (shapeCast S4x10000x12
      (addf
        (Host.divf
          (Host.reduceAdd
            (Host.scatterAdd scatter_S40000x8x12_S680000x1_S680000x8x12_12_0_0_1
              (broadcastInDim S40000x8x12 ![] bcast_S_S40000x8x12 (constant S_ .f32 0x00000000#32)) (column d)
              (mulf (Host.gather gather_S40000x8x12_S680000x1_S680000x8x12_12_0_n_n_0_1_1812 x (column (wrapped s)))
                (broadcastInDim S680000x8x12 ![0, 1, 2] bcast_S680000x8x1_S680000x8x12_0_1_2
                  (broadcastInDim S680000x8x1 ![0, 1] bcast_S680000x8_S680000x8x1_0_1 att))))
            (constant S_ .f32 0x00000000#32) reducesTo_S40000x8x12_S40000x12_d1 h_S_)
          (broadcastInDim S40000x12 ![] bcast_S_S40000x12 (constant S_ .f32 0x41000000#32)))
        (broadcastInDim S40000x12 ![0, 1] bcast_S1x12_S40000x12_0_1 (broadcastInDim S1x12 ![1] bcast_S12_S1x12_1 b)))
      shapeCasts_S40000x12_S4x10000x12)
    transposes_S4x10000x12_S12x4x10000_2_0_1

end Cert.Gat
-- ==== Proof.SameGat.lean ====
/- The graph-attention layer in the two host programs: the edges, the features and the logits agree, and the rest of the layer is the functions of `Gat`. -/
module

public import proofs.«01_k».proof.Proof.RefStretches
public import proofs.«01_k».proof.Proof.KStretches
public import proofs.«01_k».proof.Proof.Gat
public import Idealize.ShloMosaic.Lib.StableHlo.RunRead

@[expose] public section

set_option maxRecDepth 16384

noncomputable section

namespace Cert.Same

open Idealize.ShloMosaic Idealize.ShloMosaic.TcCoe
open Cert.Loops
open Idealize.ShloMosaic.StableHlo

variable {F : FTy → Type} [FloatOps F]
variable (V : Valuation KernelIdeal.τ KernelIdeal.sig (Elt F)) (U : Valuation ReferenceIdeal.τ ReferenceIdeal.sig (Elt F))

/-- The nodes' features agree. -/
theorem xw (h0 : V (Proc.devRef .tc KernelIdeal.main_arg0) = U (Proc.devRef .tc ReferenceIdeal.main_arg0))
    (h2 : V (Proc.devRef .tc KernelIdeal.main_arg2) = U (Proc.devRef .tc ReferenceIdeal.main_arg2)) :
    after KernelIdeal.Gen.hostOps0 V (Proc.devRef .tc KernelIdeal.main_v10) = after ReferenceIdeal.Gen.main_part0_ops0 U (Proc.devRef .tc ReferenceIdeal.main_v10) := by
  after_reads_simp
  rw [h0, h2]
  rfl

/-- The self loops, as the kernel lists them. -/
theorem loopsK : upto KernelIdeal.Gen.hostOps0 V 4 (Proc.devRef .tc KernelIdeal.main_v3) = concatenate (α := BitVec 32) KernelIdeal.S2x40000 0
    [⟨KernelIdeal.S1x40000, broadcastInDim KernelIdeal.S1x40000 ![1] KernelIdeal.Gen.bcast_S40000_S1x40000_1 (iotaInDim KernelIdeal.S40000 32 0)⟩,
     ⟨KernelIdeal.S1x40000, broadcastInDim KernelIdeal.S1x40000 ![1] KernelIdeal.Gen.bcast_S40000_S1x40000_1 (iotaInDim KernelIdeal.S40000 32 0)⟩]
    KernelIdeal.Gen.concatenates_S1x40000_S1x40000_S2x40000_d0 := by
  rfl
/-- The self loops, as the reference lists them. -/
theorem loopsR : upto ReferenceIdeal.Gen.main_part0_ops0 U 4 (Proc.devRef .tc ReferenceIdeal.main_v3) = upto KernelIdeal.Gen.hostOps0 V 4 (Proc.devRef .tc KernelIdeal.main_v3) := by
  rw [loopsK]
  rfl

/-- The edges' source nodes agree. -/
theorem sources (h1 : V (Proc.devRef .tc KernelIdeal.main_arg1) = U (Proc.devRef .tc ReferenceIdeal.main_arg1)) :
    after KernelIdeal.Gen.hostOps0 V (Proc.devRef .tc KernelIdeal.main_v6) = after ReferenceIdeal.Gen.main_part0_ops0 U (Proc.devRef .tc ReferenceIdeal.main_v6) := by
  have e1 : upto KernelIdeal.Gen.hostOps0 V 4 (Proc.devRef .tc KernelIdeal.main_arg1) = U (Proc.devRef .tc ReferenceIdeal.main_arg1) := h1
  have e1' : upto ReferenceIdeal.Gen.main_part0_ops0 U 4 (Proc.devRef .tc ReferenceIdeal.main_arg1) = U (Proc.devRef .tc ReferenceIdeal.main_arg1) := rfl
  after_reads_simp
  rw [loopsR V U, e1, e1']
  rfl

/-- The edges' destination nodes agree. -/
theorem targets (h1 : V (Proc.devRef .tc KernelIdeal.main_arg1) = U (Proc.devRef .tc ReferenceIdeal.main_arg1)) :
    after KernelIdeal.Gen.hostOps0 V (Proc.devRef .tc KernelIdeal.main_v8) = after ReferenceIdeal.Gen.main_part0_ops0 U (Proc.devRef .tc ReferenceIdeal.main_v8) := by
  have e1 : upto KernelIdeal.Gen.hostOps0 V 4 (Proc.devRef .tc KernelIdeal.main_arg1) = U (Proc.devRef .tc ReferenceIdeal.main_arg1) := h1
  have e1' : upto ReferenceIdeal.Gen.main_part0_ops0 U 4 (Proc.devRef .tc ReferenceIdeal.main_arg1) = U (Proc.devRef .tc ReferenceIdeal.main_arg1) := rfl
  after_reads_simp
  rw [loopsR V U, e1, e1']
  rfl

/-- The logits before the rectifier agree. -/
theorem logits (h0 : V (Proc.devRef .tc KernelIdeal.main_arg0) = U (Proc.devRef .tc ReferenceIdeal.main_arg0))
    (h1 : V (Proc.devRef .tc KernelIdeal.main_arg1) = U (Proc.devRef .tc ReferenceIdeal.main_arg1))
    (h2 : V (Proc.devRef .tc KernelIdeal.main_arg2) = U (Proc.devRef .tc ReferenceIdeal.main_arg2))
    (h3 : V (Proc.devRef .tc KernelIdeal.main_arg3) = U (Proc.devRef .tc ReferenceIdeal.main_arg3))
    (h4 : V (Proc.devRef .tc KernelIdeal.main_arg4) = U (Proc.devRef .tc ReferenceIdeal.main_arg4)) :
    after KernelIdeal.Gen.hostOps0 V (Proc.devRef .tc KernelIdeal.main_v31) = after ReferenceIdeal.Gen.main_part0_ops0 U (Proc.devRef .tc ReferenceIdeal.main_v31) := by
  have e1 : upto KernelIdeal.Gen.hostOps0 V 4 (Proc.devRef .tc KernelIdeal.main_arg1) = U (Proc.devRef .tc ReferenceIdeal.main_arg1) := h1
  have e1' : upto ReferenceIdeal.Gen.main_part0_ops0 U 4 (Proc.devRef .tc ReferenceIdeal.main_arg1) = U (Proc.devRef .tc ReferenceIdeal.main_arg1) := rfl
  after_reads_simp
  rw [h0, h2, h3, h4, loopsR V U, e1, e1']
  rfl

/-- The logits agree after the rectifier if they do before it. -/
theorem leaky (h : V (Proc.devRef .tc KernelIdeal.main_v31) = U (Proc.devRef .tc ReferenceIdeal.main_v31))
    (hs : V (Proc.devRef .tc KernelIdeal.main_cst_4) = U (Proc.devRef .tc ReferenceIdeal.main_cst_4)) :
    after KernelIdeal.Gen.hostOps0_1 V (Proc.devRef .tc KernelIdeal.main_v32) = after ReferenceIdeal.Gen.main_part0_ops1 U (Proc.devRef .tc ReferenceIdeal.main_v32) := by
  after_reads_simp
  rw [h, hs]

/-- The kernel's softmax weights. -/
theorem attK_of : after KernelIdeal.Gen.hostOps0_2 V (Proc.devRef .tc KernelIdeal.main_v46)
    = Gat.attK (V (Proc.devRef .tc KernelIdeal.main_v32)) (V (Proc.devRef .tc KernelIdeal.main_v8)) := by
  after_reads_simp
  rfl

/-- The kernel's layer output. -/
theorem layerK_of : after KernelIdeal.Gen.hostOps0_2 V (Proc.devRef .tc KernelIdeal.main_v67)
    = Gat.layer (V (Proc.devRef .tc KernelIdeal.main_v6)) (V (Proc.devRef .tc KernelIdeal.main_v8)) (V (Proc.devRef .tc KernelIdeal.main_v10))
        (after KernelIdeal.Gen.hostOps0_2 V (Proc.devRef .tc KernelIdeal.main_v46)) (V (Proc.devRef .tc KernelIdeal.main_arg5)) := by
  after_reads_simp
  rfl

/-- The reference's arrays once its softmax weights and its layer's output are computed, from those at the exit of its loop over the edges. -/
abbrev softmaxR : Valuation ReferenceIdeal.τ ReferenceIdeal.sig (Elt F) :=
  after ReferenceIdeal.Gen.main_part1_ops0 (after ReferenceIdeal.Gen.main_part0_ops5 (after ReferenceIdeal.Gen.main_part0_ops4 (after ReferenceIdeal.Gen.main_part0_ops3 U)))

/-- The reference's shifts. -/
theorem shift_of : after ReferenceIdeal.Gen.main_part0_ops4 (after ReferenceIdeal.Gen.main_part0_ops3 U) (Proc.devRef .tc ReferenceIdeal.main_v38)
    = Gat.safeMax (U (Proc.devRef .tc ReferenceIdeal.main_v34_4)) := by
  after_reads_simp
  rfl

/-- The reference's softmax weights. -/
theorem attR_of : softmaxR U (Proc.devRef .tc ReferenceIdeal.main_v70)
    = Gat.attR (U (Proc.devRef .tc ReferenceIdeal.main_v32)) (U (Proc.devRef .tc ReferenceIdeal.main_v8))
        (after ReferenceIdeal.Gen.main_part0_ops4 (after ReferenceIdeal.Gen.main_part0_ops3 U) (Proc.devRef .tc ReferenceIdeal.main_v38)) := by
  after_reads_simp
  rfl

/-- The reference's layer output. -/
theorem layerR_of : after ReferenceIdeal.Gen.main_part2_ops0 (softmaxR U) (Proc.devRef .tc ReferenceIdeal.main_v91)
    = Gat.layer (U (Proc.devRef .tc ReferenceIdeal.main_v6)) (U (Proc.devRef .tc ReferenceIdeal.main_v8)) (U (Proc.devRef .tc ReferenceIdeal.main_v10))
        (softmaxR U (Proc.devRef .tc ReferenceIdeal.main_v70)) (U (Proc.devRef .tc ReferenceIdeal.main_arg5)) := by
  after_reads_simp
  rfl

end Cert.Same
-- ==== Proof.GatEq.lean ====
/- Over the reals the kernel's softmax weights are the reference's: shifting every logit of a node by the same real number multiplies the
   exponentials, their sum and the small number by the same positive factor. -/
module

public import proofs.«01_k».proof.Proof.Gat
public import Idealize.ShloMosaic.PureOps.Ideal.Laws

@[expose] public section

set_option maxRecDepth 16384

noncomputable section

namespace Cert.Gat

open Idealize.ShloMosaic
open Cert.KernelIdeal Cert.KernelIdeal.Gen
open scoped BigOperators

/-! ## Arithmetic -/

/-- A common positive real factor of a quotient's two sides cancels. -/
theorem div_scale (c : ℝ) (hc : 0 < c) (x y : EReal) : Ideal.div (c * x) (c * y) = Ideal.div x y := by
  have hc0 : (c : EReal) ≠ 0 := by exact_mod_cast hc.ne'
  have hcp : (0 : EReal) < c := by exact_mod_cast hc
  have h1 : (c : EReal) * (c : EReal)⁻¹ = 1 := by
    rw [← EReal.coe_inv, ← EReal.coe_mul, mul_inv_cancel₀ hc.ne', EReal.coe_one]
  unfold Ideal.div
  by_cases hy : y = 0
  · subst hy
    have hx : 0 < (c : EReal) * x ↔ 0 < x := by
      constructor
      · intro h
        by_contra hn
        exact absurd h (not_lt.2 (mul_nonpos_of_nonneg_of_nonpos hcp.le (not_lt.1 hn)))
      · intro h
        exact EReal.mul_pos hcp h
    rw [mul_zero, if_pos rfl, if_pos rfl]
    exact if_congr hx rfl rfl
  · rw [if_neg hy, if_neg (mul_ne_zero hc0 hy), EReal.mul_inv, mul_mul_mul_comm, h1, one_mul]

/-- A positive real factor distributes over a sum of extended reals. -/
theorem scale_add (c : ℝ) (hc : 0 < c) (x y : EReal) : (c : EReal) * (x + y) = c * x + c * y :=
  EReal.left_distrib_of_nonneg_of_ne_top (by exact_mod_cast hc.le) (EReal.coe_ne_top c) x y

/-- A positive real factor distributes over a finite sum of extended reals. -/
theorem scale_sum {ι : Type} (c : ℝ) (hc : 0 < c) (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, scale_add c hc, ih]

/-- Subtracting a real number from an exponent multiplies the exponential by a factor. -/
theorem exp_sub (a : EReal) (r : ℝ) : Ideal.exp (a - (r : EReal)) = ((Real.exp (-r) : ℝ) : EReal) * Ideal.exp a := by
  induction a with
  | bot => rw [EReal.bot_sub]; exact (mul_zero _).symm
  | top => rw [EReal.top_sub_coe]; exact (EReal.coe_mul_top_of_pos (Real.exp_pos _)).symm
  | coe a =>
    rw [← EReal.coe_sub]
    show ((Real.exp (a - r) : ℝ) : EReal) = ((Real.exp (-r) : ℝ) : EReal) * ((Real.exp a : ℝ) : EReal)
    rw [← EReal.coe_mul, ← Real.exp_add]
    congr 2; ring

/-! ## The shifts are real numbers -/

theorem inf_bits : Ideal.ofBits .f32 0x7F800000#32 = ⊤ := by simp [Ideal.ofBits, Ideal.ieee]

/-- Every shift is a real number. -/
theorem safeMax_real (x : Heads Ideal) (n : S40000x8.Idx) : ∃ r : ℝ, safeMax (F := Ideal) x n = (r : EReal) := by
  have e : safeMax (F := Ideal) x n = Scalar.select (Ideal.cmp .olt (max (x n) (-(x n))) (Ideal.ofBits .f32 0x7F800000#32)) (x n) (Ideal.ofBits .f32 0x00000000#32) := rfl
  rw [e, inf_bits, Ideal.ofBits_zero_f32]
  by_cases h : max (x n) (-(x n)) < ⊤
  · have e1 : Ideal.cmp .olt (max (x n) (-(x n))) ⊤ = 1#1 := by simp only [Ideal.cmp, h, decide_true]; rfl
    rw [e1]
    have ht : x n ≠ ⊤ := (lt_of_le_of_lt (le_max_left _ _) h).ne
    have hb : x n ≠ ⊥ := fun hb => (lt_of_le_of_lt (le_max_right _ _) h).ne (by rw [hb]; rfl)
    exact ⟨(x n).toReal, (EReal.coe_toReal ht hb).symm⟩
  · have e1 : Ideal.cmp .olt (max (x n) (-(x n))) ⊤ = 0#1 := by simp only [Ideal.cmp, h, decide_false]; rfl
    rw [e1]
    exact ⟨0, rfl⟩

/-! ## Where an edge reads and where it adds -/

/-- The node whose row the edge's entry `j` reads. -/
def row (d : Nodes Ideal) (j : S680000x8.Idx) : S40000x8.Idx :=
  gather_S40000x8_S680000x1_S680000x8_1_0_n_n_0_1_18.operandIdx j (column (F := Ideal) (wrapped d))

/-- A node number that is not negative is left as it is. -/
theorem wrapped_of_nonneg (d : Nodes Ideal) (k : S680000.Idx) (h : 0 ≤ (d k).toInt) : wrapped (F := Ideal) d k = d k := by
  have e : wrapped (F := Ideal) d k = Scalar.select (IntOp.cmpi .slt (d k) 0#32) (d k + 40000#32) (d k) := rfl
  have hc : IntOp.cmpi .slt (d k) 0#32 = 0#1 := by
    have hb : BitVec.slt (d k) 0#32 = false := by
      rw [BitVec.slt_eq_decide]
      exact decide_eq_false (not_lt.2 h)
    show BitVec.ofBool (BitVec.slt (d k) 0#32) = 0#1
    rw [hb]; rfl
  rw [e, hc]; rfl

/-- An edge's entry that adds to node `n` reads node `n`. -/
theorem row_of_lands (d : Nodes Ideal) (j : S680000x8.Idx) (n : S40000x8.Idx)
    (h : scatter_S40000x8_S680000x1_S680000x8_1_0_0_1.resultIdx? j (column (F := Ideal) d) = some n) : row d j = n := by
  obtain ⟨k, hs0, hg0⟩ : ∃ k : S680000.Idx,
      scatter_S40000x8_S680000x1_S680000x8_1_0_0_1.start j (column (F := Ideal) d) 0 = (d k).toInt
      ∧ gather_S40000x8_S680000x1_S680000x8_1_0_n_n_0_1_18.start j (column (F := Ideal) (wrapped d)) 0 = min (wrapped (F := Ideal) d k).toInt.toNat (40000 - 1) :=
    ⟨_, rfl, rfl⟩
  have hs1 : scatter_S40000x8_S680000x1_S680000x8_1_0_0_1.start j (column (F := Ideal) d) 1 = 0 := rfl
  have hw0 : scatter_S40000x8_S680000x1_S680000x8_1_0_0_1.window j 0 = 0 := rfl
  have hw1 : scatter_S40000x8_S680000x1_S680000x8_1_0_0_1.window j 1 = (j 1).val := rfl
  have r0 : (row d j 0).val = gather_S40000x8_S680000x1_S680000x8_1_0_n_n_0_1_18.start j (column (F := Ideal) (wrapped d)) 0 := rfl
  have r1 : (row d j 1).val = 0 + 0 + (j 1).val := rfl
  unfold ScatterDims.resultIdx? at h
  split at h
  · next hin =>
    have h0 := hin 0
    rw [hs0, hw0] at h0
    have hd : 0 ≤ (d k).toInt := by have := h0.1; omega
    have hn := Option.some.inj h
    have n0 : (n 0).val = ((d k).toInt + (0 : ℕ)).toNat := by
      rw [← hn]
      show (scatter_S40000x8_S680000x1_S680000x8_1_0_0_1.start j (column (F := Ideal) d) 0 + (scatter_S40000x8_S680000x1_S680000x8_1_0_0_1.window j 0 : ℤ)).toNat = _
      rw [hs0, hw0]
    have n1 : (n 1).val = ((0 : ℤ) + ((j 1).val : ℤ)).toNat := by
      rw [← hn]
      show (scatter_S40000x8_S680000x1_S680000x8_1_0_0_1.start j (column (F := Ideal) d) 1 + (scatter_S40000x8_S680000x1_S680000x8_1_0_0_1.window j 1 : ℤ)).toNat = _
      rw [hs1, hw1]
    have hlt : (d k).toInt + ((0 : ℕ) : ℤ) < ((40000 : ℕ) : ℤ) := h0.2
    refine funext fun a => Fin.ext ?_
    match a with
    | ⟨0, _⟩ =>
      show (row d j 0).val = (n 0).val
      rw [r0, hg0, n0, wrapped_of_nonneg d k hd]
      omega
    | ⟨1, _⟩ =>
      show (row d j 1).val = (n 1).val
      rw [r1, n1]
      omega
  · cases h

/-! ## The weights -/

/-- Every edge's row of `x`, entry by entry. -/
theorem take_apply (x : Heads Ideal) (d : Nodes Ideal) (j : S680000x8.Idx) : take (F := Ideal) x d j = x (row d j) := rfl

/-- A node's sum over its edges, as a finite sum. -/
theorem segSum_apply (d : Nodes Ideal) (e : Edges Ideal) (n : S40000x8.Idx) : segSum (F := Ideal) d e n
    = ∑ j ∈ Finset.univ.filter (fun j => scatter_S40000x8_S680000x1_S680000x8_1_0_0_1.resultIdx? j (column (F := Ideal) d) = some n), (e j : EReal) := by
  have h : segSum (F := Ideal) d e n = Ideal.ofBits .f32 0x00000000#32
    + ∑ j ∈ Finset.univ.filter (fun j => scatter_S40000x8_S680000x1_S680000x8_1_0_0_1.resultIdx? j (column (F := Ideal) d) = some n), (e j : EReal) := rfl
  rw [h, Ideal.ofBits_zero_f32, zero_add]

/-- With a real shift for each node, the sum of the shifted exponentials over a node's edges is a factor times the sum of the exponentials. -/
theorem segSum_shift (a : Edges Ideal) (d : Nodes Ideal) (s : Heads Ideal) (n : S40000x8.Idx) (r : ℝ) (hr : s n = (r : EReal)) :
    segSum (F := Ideal) d (expShift a d s) n = ((Real.exp (-r) : ℝ) : EReal) * segSum (F := Ideal) d (expAll a) n := by
  rw [segSum_apply, segSum_apply, scale_sum _ (Real.exp_pos _)]
  refine Finset.sum_congr rfl fun j hj => ?_
  have e : expShift (F := Ideal) a d s j = Ideal.exp (a j - s (row d j)) := rfl
  have e' : expAll (F := Ideal) a j = Ideal.exp (a j) := rfl
  rw [e, e', row_of_lands d j n (Finset.mem_filter.1 hj).2, hr, exp_sub]

/-- The kernel's quotient, entry by entry. -/
theorem quotK (x y z : Edges Ideal) (j : S680000x8.Idx) : (Host.divf (F := Ideal) (φ := .f32) x (addf y z) : Edges Ideal) j = Ideal.div (x j) (y j + z j) := rfl

/-- The reference's quotient, entry by entry. -/
theorem quotR (x y z w : Edges Ideal) (j : S680000x8.Idx) :
    (Host.divf (F := Ideal) (φ := .f32) x (addf y (mulf z (Host.exp (Host.negf w)))) : Edges Ideal) j = Ideal.div (x j) (y j + z j * Ideal.exp (-(w j))) := rfl

/-- A shifted exponential, entry by entry. -/
theorem expShift_apply (a : Edges Ideal) (d : Nodes Ideal) (s : Heads Ideal) (j : S680000x8.Idx) :
    expShift (F := Ideal) a d s j = Ideal.exp (a j - s (row d j)) := rfl

/-- An exponential, entry by entry. -/
theorem expAll_apply (a : Edges Ideal) (j : S680000x8.Idx) : expAll (F := Ideal) a j = Ideal.exp (a j) := rfl

/-- The reference's weights are the kernel's, if every shift is a real number. -/
theorem att_eq (a : Edges Ideal) (d : Nodes Ideal) (s : Heads Ideal) (hs : ∀ n, ∃ r : ℝ, s n = (r : EReal)) :
    attR (F := Ideal) a d s = attK (F := Ideal) a d := by
  funext j
  obtain ⟨r, hr⟩ := hs (row d j)
  have em : Ideal.exp (-(r : EReal)) = ((Real.exp (-r) : ℝ) : EReal) := by rw [← EReal.coe_neg]; rfl
  unfold attR attK
  rw [quotR, quotK, take_apply, take_apply, take_apply, segSum_shift a d s _ r hr, expShift_apply, expAll_apply, hr, exp_sub, em,
    mul_comm (eps (F := Ideal) j), ← scale_add _ (Real.exp_pos _), div_scale _ (Real.exp_pos _)]

end Cert.Gat
-- ==== Proof.Hidden.lean ====
/- The hidden state that enters the head: the same in the kernel and in the reference, from equal arguments. -/
module

public import proofs.«01_k».proof.Proof.SameLstm
public import proofs.«01_k».proof.Proof.SameGat
public import proofs.«01_k».proof.Proof.GatEq
public import Idealize.ShloMosaic.Lib.StableHlo.RunRead

@[expose] public section

set_option maxRecDepth 16384

noncomputable section

namespace Cert.Same

open Idealize.ShloMosaic Idealize.ShloMosaic.TcCoe
open Cert.Loops
open Idealize.ShloMosaic.StableHlo

section Entries

variable (V : Valuation KernelIdeal.τ KernelIdeal.sig (Elt Ideal)) (U : Valuation ReferenceIdeal.τ ReferenceIdeal.sig (Elt Ideal))

/-- The arguments of the graph-attention layer agree. -/
structure ArgsLayer : Prop where
  a0 : V (Proc.devRef .tc KernelIdeal.main_arg0) = U (Proc.devRef .tc ReferenceIdeal.main_arg0)
  a1 : V (Proc.devRef .tc KernelIdeal.main_arg1) = U (Proc.devRef .tc ReferenceIdeal.main_arg1)
  a2 : V (Proc.devRef .tc KernelIdeal.main_arg2) = U (Proc.devRef .tc ReferenceIdeal.main_arg2)
  a3 : V (Proc.devRef .tc KernelIdeal.main_arg3) = U (Proc.devRef .tc ReferenceIdeal.main_arg3)
  a4 : V (Proc.devRef .tc KernelIdeal.main_arg4) = U (Proc.devRef .tc ReferenceIdeal.main_arg4)
  a5 : V (Proc.devRef .tc KernelIdeal.main_arg5) = U (Proc.devRef .tc ReferenceIdeal.main_arg5)

/-- The arguments of the recurrent layers agree. -/
structure ArgsRec : Prop where
  a6 : V (Proc.devRef .tc KernelIdeal.main_arg6) = U (Proc.devRef .tc ReferenceIdeal.main_arg6)
  a7 : V (Proc.devRef .tc KernelIdeal.main_arg7) = U (Proc.devRef .tc ReferenceIdeal.main_arg7)
  a8 : V (Proc.devRef .tc KernelIdeal.main_arg8) = U (Proc.devRef .tc ReferenceIdeal.main_arg8)
  a9 : V (Proc.devRef .tc KernelIdeal.main_arg9) = U (Proc.devRef .tc ReferenceIdeal.main_arg9)
  a10 : V (Proc.devRef .tc KernelIdeal.main_arg10) = U (Proc.devRef .tc ReferenceIdeal.main_arg10)
  a11 : V (Proc.devRef .tc KernelIdeal.main_arg11) = U (Proc.devRef .tc ReferenceIdeal.main_arg11)
  a12 : V (Proc.devRef .tc KernelIdeal.main_arg12) = U (Proc.devRef .tc ReferenceIdeal.main_arg12)
  a13 : V (Proc.devRef .tc KernelIdeal.main_arg13) = U (Proc.devRef .tc ReferenceIdeal.main_arg13)

/-- The arguments of the head agree. -/
structure ArgsHead : Prop where
  a14 : V (Proc.devRef .tc KernelIdeal.main_arg14) = U (Proc.devRef .tc ReferenceIdeal.main_arg14)
  a15 : V (Proc.devRef .tc KernelIdeal.main_arg15) = U (Proc.devRef .tc ReferenceIdeal.main_arg15)

/-- The arguments agree. -/
structure Args : Prop where
  layer : ArgsLayer V U
  recur : ArgsRec V U
  head : ArgsHead V U

/-- The layer's inputs agree: the edges' source and destination nodes, the nodes' features and the logits. -/
structure LayerIn : Prop where
  src : V (Proc.devRef .tc KernelIdeal.main_v6) = U (Proc.devRef .tc ReferenceIdeal.main_v6)
  dst : V (Proc.devRef .tc KernelIdeal.main_v8) = U (Proc.devRef .tc ReferenceIdeal.main_v8)
  feat : V (Proc.devRef .tc KernelIdeal.main_v10) = U (Proc.devRef .tc ReferenceIdeal.main_v10)
  logit : V (Proc.devRef .tc KernelIdeal.main_v32) = U (Proc.devRef .tc ReferenceIdeal.main_v32)

variable {V U}

/-- The layer's inputs agree once both programs have computed them from equal arguments. -/
theorem layerIn (h : Args V U) :
    LayerIn (after KernelIdeal.Gen.hostOps0_1 (after KernelIdeal.Gen.hostOps0 V)) (after ReferenceIdeal.Gen.main_part0_ops1 (after ReferenceIdeal.Gen.main_part0_ops0 U)) where
  src := (after_of_writes_sub _ _ KernelIdeal.Run.hostOps0_1_writes (by decide)).trans
    ((sources V U h.layer.a1).trans (after_of_writes_sub _ _ ReferenceIdeal.Run.main_part0_ops1_writes (by decide)).symm)
  dst := (after_of_writes_sub _ _ KernelIdeal.Run.hostOps0_1_writes (by decide)).trans
    ((targets V U h.layer.a1).trans (after_of_writes_sub _ _ ReferenceIdeal.Run.main_part0_ops1_writes (by decide)).symm)
  feat := (after_of_writes_sub _ _ KernelIdeal.Run.hostOps0_1_writes (by decide)).trans
    ((xw V U h.layer.a0 h.layer.a2).trans (after_of_writes_sub _ _ ReferenceIdeal.Run.main_part0_ops1_writes (by decide)).symm)
  logit := leaky _ _ (logits V U h.layer.a0 h.layer.a1 h.layer.a2 h.layer.a3 h.layer.a4) rfl

/-- The kernel's layer output enters its first recurrent layer. -/
theorem enterK : after KernelIdeal.Gen.hostOps0_2 V (Proc.devRef .tc KernelIdeal.main_v71_0) = after KernelIdeal.Gen.hostOps0_2 V (Proc.devRef .tc KernelIdeal.main_v67) := by
  after_reads_simp
  rfl
/-- The reference's layer output enters its first recurrent layer. -/
theorem enterR : after ReferenceIdeal.Gen.main_part2_ops0 U (Proc.devRef .tc ReferenceIdeal.main_v95_0)
    = after ReferenceIdeal.Gen.main_part2_ops0 U (Proc.devRef .tc ReferenceIdeal.main_v91) := by
  after_reads_simp
  rfl

/-- The layer's outputs agree. -/
theorem layerOut (h : LayerIn V U) (h5 : V (Proc.devRef .tc KernelIdeal.main_arg5) = U (Proc.devRef .tc ReferenceIdeal.main_arg5)) :
    after KernelIdeal.Gen.hostOps0_2 V (Proc.devRef .tc KernelIdeal.main_v71_0)
      = after ReferenceIdeal.Gen.main_part2_ops0 (softmaxR U) (Proc.devRef .tc ReferenceIdeal.main_v95_0) := by
  rw [enterK, enterR, layerK_of, layerR_of, attK_of, attR_of, shift_of, Gat.att_eq _ _ _ (Gat.safeMax_real _), h.src, h.dst, h.feat, h.logit, h5]

/-- The first recurrent layer is entered with equal arrays, if the attention layer's inputs and the arguments agree. -/
theorem entry1 (h : LayerIn V U) (ha : Args V U) :
    Carry1 (after KernelIdeal.Gen.hostOps0_2 V) (after ReferenceIdeal.Gen.main_part2_ops0 (softmaxR U)) where
  h0 := layerOut h ha.layer.a5
  h1 := ha.recur.a6
  h2 := ha.recur.a7
  h3 := ha.recur.a8
  h4 := ha.recur.a9
  h5 := rfl
  h6 := rfl
  h7 := rfl
  h8 := rfl

/-- The second recurrent layer is entered with the first one's outputs. -/
theorem entry2 (h : V (Proc.devRef .tc KernelIdeal.main_v71_8) = U (Proc.devRef .tc ReferenceIdeal.main_v95_8)) (ha : Args V U) :
    Carry2 (after KernelIdeal.Gen.hostOps0_3 V) (after ReferenceIdeal.Gen.main_part2_ops1 U) where
  h0 := h
  h1 := ha.recur.a10
  h2 := ha.recur.a11
  h3 := ha.recur.a12
  h4 := ha.recur.a13
  h5 := rfl
  h6 := rfl
  h7 := rfl
  h8 := rfl

/-- The last time step of the second layer's outputs is the head's input. -/
theorem lastStep (h : V (Proc.devRef .tc KernelIdeal.main_v75_8) = U (Proc.devRef .tc ReferenceIdeal.main_v99_8)) :
    after KernelIdeal.Gen.hostOps0_4 V (Proc.devRef .tc KernelIdeal.main_v77) = after ReferenceIdeal.Gen.main_part2_ops2 U (Proc.devRef .tc ReferenceIdeal.main_v101) := by
  after_reads_simp
  rw [h]
  rfl

end Entries

/-! ## The chain -/

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD) (c' : Dev ReferenceIdeal.nD)

/-- Arguments that agree at launch agree where each program has kept them. -/
theorem Args.at {V U} (h : Args (KernelIdeal.Run.W0 m c) (ReferenceIdeal.Run.W0 m' c'))
    (hV : ∀ a ∈ KernelIdeal.Run.argRefs, V (Proc.devRef .tc a) = m ((c : Thread KernelIdeal.nD KernelIdeal.τ).loc a))
    (hU : ∀ a ∈ ReferenceIdeal.Run.argRefs, U (Proc.devRef .tc a) = m' ((c' : Thread ReferenceIdeal.nD ReferenceIdeal.τ).loc a)) : Args V U := by
  simp only [KernelIdeal.Run.argRefs, ReferenceIdeal.Run.argRefs, List.forall_mem_cons] at hV hU
  obtain ⟨v0, v1, v2, v3, v4, v5, v6, v7, v8, v9, v10, v11, v12, v13, v14, v15, -⟩ := hV
  obtain ⟨u0, u1, u2, u3, u4, u5, u6, u7, u8, u9, u10, u11, u12, u13, u14, u15, -⟩ := hU
  exact
    { layer := { a0 := v0.trans (h.layer.a0.trans u0.symm), a1 := v1.trans (h.layer.a1.trans u1.symm), a2 := v2.trans (h.layer.a2.trans u2.symm), a3 := v3.trans (h.layer.a3.trans u3.symm), a4 := v4.trans (h.layer.a4.trans u4.symm), a5 := v5.trans (h.layer.a5.trans u5.symm) }
      recur := { a6 := v6.trans (h.recur.a6.trans u6.symm), a7 := v7.trans (h.recur.a7.trans u7.symm), a8 := v8.trans (h.recur.a8.trans u8.symm), a9 := v9.trans (h.recur.a9.trans u9.symm), a10 := v10.trans (h.recur.a10.trans u10.symm), a11 := v11.trans (h.recur.a11.trans u11.symm), a12 := v12.trans (h.recur.a12.trans u12.symm), a13 := v13.trans (h.recur.a13.trans u13.symm) }
      head := { a14 := v14.trans (h.head.a14.trans u14.symm), a15 := v15.trans (h.head.a15.trans u15.symm) } }

/-- What the reference's first loop leaves of the layer's inputs. -/
theorem loopKept (r : Ref ReferenceIdeal.sig .tc) (h1 : ∀ W ∈ ReferenceIdeal.Run.loop0_W, r ∉ W) (h2 : r ∉ ReferenceIdeal.Run.main_part0_ops2_W) :
    ReferenceIdeal.Run.X0 m' c' (Proc.devRef .tc r)
      = after ReferenceIdeal.Gen.main_part0_ops1 (after ReferenceIdeal.Gen.main_part0_ops0 (ReferenceIdeal.Run.W0 m' c')) (Proc.devRef .tc r) :=
  (ReferenceIdeal.Run.X0_kept m' c' h1).trans (after_of_writes_sub ReferenceIdeal.Gen.main_part0_ops2 _ ReferenceIdeal.Run.main_part0_ops2_writes h2)

/-- The kernel's arrays once its layer's inputs are computed. -/
abbrev midK : Valuation KernelIdeal.τ KernelIdeal.sig (Elt Ideal) :=
  after KernelIdeal.Gen.hostOps0_1 (after KernelIdeal.Gen.hostOps0 (KernelIdeal.Run.W0 m c))

/-- There every argument still holds what it held at launch. -/
theorem midK_args : ∀ a ∈ KernelIdeal.Run.argRefs, midK m c (Proc.devRef .tc a) = m ((c : Thread KernelIdeal.nD KernelIdeal.τ).loc a) := fun a ha =>
  (after_of_writes_sub _ _ KernelIdeal.Run.hostOps0_1_writes ((show ∀ a ∈ KernelIdeal.Run.argRefs, a ∉ KernelIdeal.Run.hostOps0_1_W by decide) a ha)).trans
    (after_of_writes_sub _ _ KernelIdeal.Run.hostOps0_writes ((show ∀ a ∈ KernelIdeal.Run.argRefs, a ∉ KernelIdeal.Run.hostOps0_W by decide) a ha))

/-- At the exit of the reference's first loop every argument still holds what it held at launch. -/
theorem X0_args : ∀ a ∈ ReferenceIdeal.Run.argRefs, ReferenceIdeal.Run.X0 m' c' (Proc.devRef .tc a) = m' ((c' : Thread ReferenceIdeal.nD ReferenceIdeal.τ).loc a) := fun a ha =>
  (ReferenceIdeal.Run.X0_kept m' c' ((show ∀ a ∈ ReferenceIdeal.Run.argRefs, ∀ W ∈ ReferenceIdeal.Run.loop0_W, a ∉ W by decide) a ha)).trans
    (ReferenceIdeal.Run.E0_args m' c' a ha)

variable {m m' c c'} (h : Args (KernelIdeal.Run.W0 m c) (ReferenceIdeal.Run.W0 m' c'))

include h

/-- The first recurrent layer is entered with equal arrays. -/
theorem carry1 : Carry1 (KernelIdeal.Run.E0 m c) (ReferenceIdeal.Run.E1 m' c') := by
  have hl := layerIn h
  have hi : LayerIn (midK m c) (ReferenceIdeal.Run.X0 m' c') :=
    { src := hl.src.trans (loopKept m' c' ReferenceIdeal.main_v6 (by decide) (by decide)).symm
      dst := hl.dst.trans (loopKept m' c' ReferenceIdeal.main_v8 (by decide) (by decide)).symm
      feat := hl.feat.trans (loopKept m' c' ReferenceIdeal.main_v10 (by decide) (by decide)).symm
      logit := hl.logit.trans (loopKept m' c' ReferenceIdeal.main_v32 (by decide) (by decide)).symm }
  exact entry1 hi (h.at m m' c c' (midK_args m c) (X0_args m' c'))

omit h in
/-- The kernel leaves its first loop with the outputs carried into the loop's last test. -/
theorem exitK1 : KernelIdeal.Run.X0 m c (Proc.devRef .tc KernelIdeal.main_v71_8) = KernelIdeal.Run.K0 m KernelIdeal.Run.nT c (Proc.devRef .tc KernelIdeal.main_v71_8) :=
  after_of_writes_sub KernelIdeal.Run.cond0 _ KernelIdeal.Run.cond0_writes (by decide)
omit h in
/-- The kernel leaves its second loop with the outputs carried into the loop's last test. -/
theorem exitK2 : KernelIdeal.Run.X1 m c (Proc.devRef .tc KernelIdeal.main_v75_8) = KernelIdeal.Run.K1 m KernelIdeal.Run.nT c (Proc.devRef .tc KernelIdeal.main_v75_8) :=
  after_of_writes_sub KernelIdeal.Run.cond1 _ KernelIdeal.Run.cond1_writes (by decide)
omit h in
/-- The reference leaves its first recurrent loop with the outputs carried into the loop's last test. -/
theorem exitR1 : ReferenceIdeal.Run.X1 m' c' (Proc.devRef .tc ReferenceIdeal.main_v95_8) = ReferenceIdeal.Run.K1 m' ReferenceIdeal.Run.nT c' (Proc.devRef .tc ReferenceIdeal.main_v95_8) :=
  after_of_writes_sub ReferenceIdeal.Run.cond1 _ ReferenceIdeal.Run.cond1_writes (by decide)
omit h in
/-- The reference leaves its second recurrent loop with the outputs carried into the loop's last test. -/
theorem exitR2 : ReferenceIdeal.Run.X2 m' c' (Proc.devRef .tc ReferenceIdeal.main_v99_8) = ReferenceIdeal.Run.K2 m' ReferenceIdeal.Run.nT c' (Proc.devRef .tc ReferenceIdeal.main_v99_8) :=
  after_of_writes_sub ReferenceIdeal.Run.cond2 _ ReferenceIdeal.Run.cond2_writes (by decide)
omit h in
/-- The recurrent loops run equally often. -/
theorem trips_eq : ReferenceIdeal.Run.nT = KernelIdeal.Run.nT := by
  unfold ReferenceIdeal.Run.nT KernelIdeal.Run.nT
  rfl

/-- The second recurrent layer is entered with equal arrays. -/
theorem carry2 : Carry2 (KernelIdeal.Run.E1 m c) (ReferenceIdeal.Run.E2 m' c') := by
  have h8 : KernelIdeal.Run.X0 m c (Proc.devRef .tc KernelIdeal.main_v71_8) = ReferenceIdeal.Run.X1 m' c' (Proc.devRef .tc ReferenceIdeal.main_v95_8) := by
    rw [exitK1, exitR1, trips_eq]
    exact (trip1 c c' (carry1 h) _).h8
  exact entry2 h8 (h.at m m' c c' (KernelIdeal.Run.X0_args m c) (ReferenceIdeal.Run.X1_args m' c'))

/-- The hidden state that enters the head is the same in both. -/
theorem hidden : KernelIdeal.Run.E2 m c (Proc.devRef .tc KernelIdeal.main_v77) = ReferenceIdeal.Run.Vfin m' c' (Proc.devRef .tc ReferenceIdeal.main_v101) := by
  have h8 : KernelIdeal.Run.X1 m c (Proc.devRef .tc KernelIdeal.main_v75_8) = ReferenceIdeal.Run.X2 m' c' (Proc.devRef .tc ReferenceIdeal.main_v99_8) := by
    rw [exitK2, exitR2, trips_eq]
    exact (trip2 c c' (carry2 h) _).h8
  exact lastStep h8

end Cert.Same

end
-- ==== Proof.Head.lean ====
/- The head at one entry: as the kernel's body computes it on a block, and as the reference computes it on the whole arrays. -/
module

public import proofs.«01_k».proof.Proof.KRegion
public import proofs.«01_k».proof.Proof.RefStretches
public import Idealize.ShloMosaic.Lib.Pointwise
public import Idealize.ShloMosaic.Lib.Pipeline.ValueKit
public import Idealize.ShloMosaic.Lib.StableHlo.RunRead

@[expose] public section

set_option maxRecDepth 16384

noncomputable section

namespace Cert.Head

open Idealize.ShloMosaic Idealize.ShloMosaic.TcCoe
open Idealize.ShloMosaic.StableHlo
open Cert.KernelIdeal Cert.KernelIdeal.Gen
open scoped BigOperators

/-- One entry of the head: a row of the hidden state times a row of the weights, plus that row's bias. -/
def entry (h w : Fin 128 → EReal) (b : EReal) : EReal := (∑ k : Fin 128, h k * w k) + b

/-- What the kernel's body computes at one entry of its block. -/
theorem pay_apply (H : Vec Ideal KernelIdeal.S4x128 .f32) (W : Vec Ideal KernelIdeal.S1024x128 .f32) (B : Vec Ideal KernelIdeal.S1024 .f32) (r : Fin 4) (j : Fin 1024) :
    KernelIdeal.Gen.k0_pay1 (F := Ideal) H W B (ix2 r j) = entry (fun k => H (ix2 r k)) (fun k => W (ix2 j k)) (B (ix1 j)) := by
  unfold KernelIdeal.Gen.k0_pay1 entry
  pointwise

/-- What the reference computes at one entry of the head, from the hidden state, the weights and the biases. -/
theorem ref_apply (H : (⟨ReferenceIdeal.S4x128, .f32⟩ : BufTy).Contents (Elt Ideal)) (W : (⟨ReferenceIdeal.S90000x128, .f32⟩ : BufTy).Contents (Elt Ideal))
    (B : (⟨ReferenceIdeal.S90000, .f32⟩ : BufTy).Contents (Elt Ideal)) (r : Fin 4) (j : Fin 90000) :
    addf (F := Ideal) (φ := .f32) (Host.dotGeneral (F := Ideal) (φ₁ := .f32) (φ₂ := .f32) ReferenceIdeal.dot_S4x128_S128x90000_S4x90000_1_0_0_1_n_n none H
          (transpose ReferenceIdeal.S128x90000 [1, 0] W ReferenceIdeal.Gen.transposes_S90000x128_S128x90000_1_0))
        (broadcastInDim ReferenceIdeal.S4x90000 ![0, 1] ReferenceIdeal.Gen.bcast_S1x90000_S4x90000_0_1
          (broadcastInDim ReferenceIdeal.S1x90000 ![1] ReferenceIdeal.Gen.bcast_S90000_S1x90000_1 B)) (ix2 r j)
      = entry (fun k => H (ix2 r k)) (fun k => W (ix2 j k)) (B (ix1 j)) := by
  unfold entry
  pointwise

/-! ## The blocks' entries -/

/-- Where the weights' blocks start. -/
theorem at_1 : ∀ t : Fin cfg0.N, win0_1.index t = ![t.val, 0] := (by decide +kernel : ∀ t : Fin grid0.N, _)
/-- Where the biases' blocks start. -/
theorem at_2 : ∀ t : Fin cfg0.N, win0_2.index t = ![t.val] := (by decide +kernel : ∀ t : Fin grid0.N, _)
/-- Where the output's blocks start. -/
theorem at_3 : ∀ t : Fin cfg0.N, win0_3.index t = ![0, t.val] := (by decide +kernel : ∀ t : Fin grid0.N, _)
/-- The hidden state is one block. -/
theorem at_0 : ∀ t : Fin cfg0.N, win0_0.index t = ![0, 0] := (by decide +kernel : ∀ t : Fin grid0.N, _)
/-- How much of each of the weights' blocks is inside the array. -/
theorem in_1 : ∀ t : Fin cfg0.N, win0_1.xsize (grid0.coords t) 0 = min 1024 (90000 - t.val * 1024) ∧ win0_1.xsize (grid0.coords t) 1 = 128 :=
  (by decide +kernel : ∀ t : Fin grid0.N, _)
/-- How much of each of the biases' blocks is inside the array. -/
theorem in_2 : ∀ t : Fin cfg0.N, win0_2.xsize (grid0.coords t) 0 = min 1024 (90000 - t.val * 1024) :=
  (by decide +kernel : ∀ t : Fin grid0.N, _)

variable (V : (c : Dev nD) → (b : Ref sig .tc) → Buf (Elt Ideal) ((c : Thread nD τ).loc b))

/-- The weights' block at an entry whose row is inside the array. -/
theorem weights_at (c : Dev nD) (t : Fin cfg0.N) (d : S1024x128.Idx → EReal) (j : Fin 1024) (k : Fin 128) (h : t.val * 1024 + j.val < 90000) :
    win0_1.fill (grid0.coords t) d (Run.wblk V c t) (ix2 j k) = V c main_arg14 (ix2 ⟨t.val * 1024 + j.val, h⟩ k) := by
  have hm : win0_1.moved (grid0.coords t) (ix2 j k) = true := (win0_1.moved_iff _ _).mpr fun a => by
    match a with
    | ⟨0, _⟩ => exact lt_of_lt_of_eq (show j.val < min 1024 (90000 - t.val * 1024) by omega) (in_1 t).1.symm
    | ⟨1, _⟩ => exact lt_of_lt_of_eq k.isLt (in_1 t).2.symm
  unfold Pipeline.Window.fill
  rw [dif_pos hm]
  unfold Run.wblk
  blk_simp
  refine congrArg (V c main_arg14) (funext fun a => Fin.ext ?_)
  match a with
  | ⟨0, _⟩ => blk_simp [at_1]
  | ⟨1, _⟩ => blk_simp [at_1]

/-- The biases' block at an entry inside the array. -/
theorem biases_at (c : Dev nD) (t : Fin cfg0.N) (d : S1024.Idx → EReal) (j : Fin 1024) (h : t.val * 1024 + j.val < 90000) :
    win0_2.fill (grid0.coords t) d (Run.bblk V c t) (ix1 j) = V c main_arg15 (ix1 ⟨t.val * 1024 + j.val, h⟩) := by
  have hm : win0_2.moved (grid0.coords t) (ix1 j) = true := (win0_2.moved_iff _ _).mpr fun a => by
    match a with
    | ⟨0, _⟩ => exact lt_of_lt_of_eq (show j.val < min 1024 (90000 - t.val * 1024) by omega) (in_2 t).symm
  unfold Pipeline.Window.fill
  rw [dif_pos hm]
  unfold Run.bblk
  blk_simp
  refine congrArg (V c main_arg15) (funext fun a => Fin.ext ?_)
  match a with
  | ⟨0, _⟩ => blk_simp [at_2]

/-- The hidden state's block is the hidden state. -/
theorem hidden_at (c : Dev nD) (t : Fin cfg0.N) (i : S4x128.Idx) : Run.hblk V c t i = V c main_v77 i := by
  unfold Run.hblk
  blk_simp
  refine congrArg (V c main_v77) (funext fun a => Fin.ext ?_)
  match a with
  | ⟨0, _⟩ => blk_simp [at_0]
  | ⟨1, _⟩ => blk_simp [at_0]

/-! ## The output array -/

/-- What a block that the body may leave holds at an entry inside the output. -/
theorem block_at (c : Dev nD) (t : Fin cfg0.N) {X : S4x1024.Idx → EReal} (h : Run.HeadBlock V c t X) (r : Fin 4) (j : Fin 1024) (hj : t.val * 1024 + j.val < 90000) :
    X (ix2 r j) = entry (fun k => V c main_v77 (ix2 r k)) (fun k => V c main_arg14 (ix2 ⟨t.val * 1024 + j.val, hj⟩ k)) (V c main_arg15 (ix1 ⟨t.val * 1024 + j.val, hj⟩)) := by
  obtain ⟨d1, d2, rfl⟩ := h
  rw [pay_apply]
  refine congr (congr (congrArg entry (funext fun k => hidden_at V c t _)) (funext fun k => weights_at V c t d1 j k hj)) (biases_at V c t d2 j hj)

/-- What every entry of the output inside the uncut 90000 columns holds, as a property of the entry's place and contents. -/
def Holds (c : Dev nD) (i : S4x90112.Idx) (v : EReal) : Prop :=
  ∀ h : (i 1).val < 90000, v = entry (fun k => V c main_v77 (ix2 (i 0) k)) (fun k => V c main_arg14 (ix2 ⟨(i 1).val, h⟩ k)) (V c main_arg15 (ix1 ⟨(i 1).val, h⟩))

/-- The written-back blocks cover the output. -/
theorem covers : (cfg0.win 3).Covers := (by decide +kernel : win0_3.Covers)

/-- Every entry that a write-back may put in the output's 90000 columns is the head's. -/
theorem arr_holds (c : Dev nD) (A : Buf (Elt Ideal) ((c : Thread nD τ).loc main_v78)) (h : (Run.rdat V c).ArrAt (3 : Fin 4) cfg0.N A) (i : S4x90112.Idx) : Holds V c i (A i) := by
  obtain ⟨X, hX, hA⟩ := h.exists_exact
  rw [hA (Function.update (fun _ _ _ => Classical.arbitrary _) (3 : Fin 4) X) fun u _ _ => by rw [Function.update_self]]
  refine ((Run.rdat V c).withAfter (Function.update (fun _ _ _ => Classical.arbitrary _) (3 : Fin 4) X)).arrAt_forall_of_covers (3 : Fin 4) (Holds V c) covers
    (fun t hf y => ?_) i
  have hL : Run.HeadBlock V c t (X t) := (Run.dat V c).toRRel_leaves (w := (3 : Fin 4)) rfl (hX t t.isLt hf)
  have e0 : ((((cfg0.win 3).blk t).view.emb y) 0).val = (y 0).val := by blk_simp [at_3]
  have e1 : ((((cfg0.win 3).blk t).view.emb y) 1).val = t.val * 1024 + (y 1).val := by blk_simp [at_3]
  have ey : (y : S4x1024.Idx) = ix2 (y 0) (y 1) := funext fun a => by
    match a with
    | ⟨0, _⟩ => rfl
    | ⟨1, _⟩ => rfl
  have key : ∀ (a : Fin 4) (n : Fin 90000), a = y 0 → n.val = t.val * 1024 + (y 1).val →
      X t y = entry (fun k => V c main_v77 (ix2 a k)) (fun k => V c main_arg14 (ix2 n k)) (V c main_arg15 (ix1 n)) := by
    intro a n ha hn
    have hj : t.val * 1024 + (y 1).val < 90000 := hn ▸ n.isLt
    obtain rfl : n = ⟨t.val * 1024 + (y 1).val, hj⟩ := Fin.ext hn
    subst ha
    exact (congrArg (X t) ey).trans (block_at V c t hL (y 0) (y 1) hj)
  intro hn
  have hk := key _ ⟨_, hn⟩ (Fin.ext e0) e1
  refine Eq.trans ?_ hk
  blk_simp
  rw [Pipeline.RDat.withAfter_after, Function.update_self]

/-- The output after the head kernel, at an entry of its 90000 columns. -/
theorem out_at (W : Dev nD → Valuation τ sig (Elt Ideal)) (c : Dev nD) {o : Valuation τ sig (Elt Ideal)} (h : Run.After W c o) (r : Fin 4) (n : Fin 90000) (hn : n.val < 90112) :
    o (Proc.devRef .tc main_v78) (ix2 r ⟨n.val, hn⟩ : S4x90112.Idx)
      = entry (fun k => W c (Proc.devRef .tc main_v77) (ix2 r k)) (fun k => W c (Proc.devRef .tc main_arg14) (ix2 n k)) (W c (Proc.devRef .tc main_arg15) (ix1 n)) :=
  arr_holds (Run.ofW W) c _ h.out (ix2 r ⟨n.val, hn⟩) n.isLt

/-! ## The result -/

/-- The kernel's result from its output array. -/
theorem resultK (o : Valuation τ sig (Elt Ideal)) (G : (⟨S4x90000, .f32⟩ : BufTy).Contents (Elt Ideal))
    (h : ∀ (r : Fin 4) (n : Fin 90000) (hn : n.val < 90112), o (Proc.devRef .tc main_v78) (ix2 r ⟨n.val, hn⟩ : S4x90112.Idx) = G (ix2 r n)) :
    after hostOps1 o (Proc.devRef .tc main_v81) = shapeCast S40000x9 (shapeCast S4x10000x9 G shapeCasts_S4x90000_S4x10000x9) shapeCasts_S4x10000x9_S40000x9 := by
  have e : extractStridedSlice S4x90000 ![0, 0] (o (Proc.devRef .tc main_v78)) slices_S4x90112_S4x90000_0_0 = G := funext fun i => by
    have hi : i = ix2 (i 0) (i 1) := funext fun a => by
      match a with
      | ⟨0, _⟩ => rfl
      | ⟨1, _⟩ => rfl
    have hn : (i 1).val < 90112 := lt_trans (show (i 1).val < 90000 from (i 1).isLt) (by decide)
    refine Eq.trans (congrArg (o (Proc.devRef .tc main_v78)) (funext fun a => Fin.ext ?_)) ((h (i 0) (i 1) hn).trans (congrArg G hi.symm))
    match a with
    | ⟨0, _⟩ => exact (Nat.zero_add _)
    | ⟨1, _⟩ => exact (Nat.zero_add _)
  after_reads_simp
  rw [e]
  rfl

/-- The reference's result from its head. -/
theorem resultR (U : Valuation ReferenceIdeal.τ ReferenceIdeal.sig (Elt Ideal)) (G : (⟨S4x90000, .f32⟩ : BufTy).Contents (Elt Ideal))
    (h : ∀ (r : Fin 4) (n : Fin 90000), G (ix2 r n) = entry (fun k => after ReferenceIdeal.Gen.main_part2_ops2 U (Proc.devRef .tc ReferenceIdeal.main_v101) (ix2 r k))
      (fun k => U (Proc.devRef .tc ReferenceIdeal.main_arg14) (ix2 n k)) (U (Proc.devRef .tc ReferenceIdeal.main_arg15) (ix1 n))) :
    after ReferenceIdeal.Gen.main_part2_ops2 U (Proc.devRef .tc ReferenceIdeal.main_v108)
      = shapeCast S40000x9 (shapeCast S4x10000x9 G shapeCasts_S4x90000_S4x10000x9) shapeCasts_S4x10000x9_S40000x9 := by
  have e : G = addf (F := Ideal) (φ := .f32) (Host.dotGeneral (F := Ideal) (φ₁ := .f32) (φ₂ := .f32) ReferenceIdeal.dot_S4x128_S128x90000_S4x90000_1_0_0_1_n_n none
          (after ReferenceIdeal.Gen.main_part2_ops2 U (Proc.devRef .tc ReferenceIdeal.main_v101))
          (transpose ReferenceIdeal.S128x90000 [1, 0] (U (Proc.devRef .tc ReferenceIdeal.main_arg14)) ReferenceIdeal.Gen.transposes_S90000x128_S128x90000_1_0))
        (broadcastInDim ReferenceIdeal.S4x90000 ![0, 1] ReferenceIdeal.Gen.bcast_S1x90000_S4x90000_0_1
          (broadcastInDim ReferenceIdeal.S1x90000 ![1] ReferenceIdeal.Gen.bcast_S90000_S1x90000_1 (U (Proc.devRef .tc ReferenceIdeal.main_arg15)))) := funext fun i => by
    have hi : i = ix2 (i 0) (i 1) := funext fun a => by
      match a with
      | ⟨0, _⟩ => rfl
      | ⟨1, _⟩ => rfl
    rw [hi]
    exact (h (i 0) (i 1)).trans (ref_apply _ _ _ (i 0) (i 1)).symm
  rw [e]
  after_reads_simp
  rfl

end Cert.Head

end
-- ==== Proof.Algebraic.lean ====
/- The value claim: over the reals the kernel's result is the reference's. -/
module

public import proofs.«01_k».proof.Proof.Hidden
public import proofs.«01_k».proof.Proof.Head
public import proofs.«01_k».proof.Proof.Frames

@[expose] public section

set_option maxRecDepth 16384

noncomputable section

namespace Cert.Value

open Idealize.ShloMosaic Idealize.ShloMosaic.TcCoe Idealize.SL.Sem
open Idealize.ShloMosaic.StableHlo

/-- From equal arguments, whatever the head kernel leaves in its output array, the two results are equal. -/
theorem result_eq {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ} {c : Dev KernelIdeal.nD} {c' : Dev ReferenceIdeal.nD}
    (h : Same.Args (KernelIdeal.Run.W0 m c) (ReferenceIdeal.Run.W0 m' c')) {o : Valuation KernelIdeal.τ KernelIdeal.sig (Elt Ideal)}
    (ho : KernelIdeal.Run.After (KernelIdeal.Run.E2 m) c o) :
    after KernelIdeal.Gen.hostOps1 o (Proc.devRef .tc KernelIdeal.main_v81) = ReferenceIdeal.Run.Vfin m' c' (Proc.devRef .tc ReferenceIdeal.main_v108) := by
  have hh := Same.hidden h
  have ha := h.at m m' c c' (KernelIdeal.Run.E2_args m c) (ReferenceIdeal.Run.X2_args m' c')
  refine (Head.resultK o (fun i => Head.entry (fun k => KernelIdeal.Run.E2 m c (Proc.devRef .tc KernelIdeal.main_v77) (ix2 (i 0) k))
    (fun k => KernelIdeal.Run.E2 m c (Proc.devRef .tc KernelIdeal.main_arg14) (ix2 (i 1) k)) (KernelIdeal.Run.E2 m c (Proc.devRef .tc KernelIdeal.main_arg15) (ix1 (i 1))))
    fun r n hn => Head.out_at (KernelIdeal.Run.E2 m) c ho r n hn).trans
    (Head.resultR (ReferenceIdeal.Run.X2 m' c') _ fun r n => ?_).symm
  exact congr (congr (congrArg Head.entry (funext fun k => congrFun hh (ix2 r k))) (funext fun k => congrFun ha.head.a14 (ix2 n k))) (congrFun ha.head.a15 (ix1 n))

/-- The value claim. -/
theorem algebraic : Cert.algebraic_KernelIdeal_ReferenceIdeal (hKernelIdeal := Cert.KernelIdeal.Gen.facts) (hReferenceIdeal := Cert.ReferenceIdeal.Gen.facts) := by
  intro m g m' g' _ hargs
  have h : ∀ c : Dev KernelIdeal.nD, Same.Args (KernelIdeal.Run.W0 m c) (ReferenceIdeal.Run.W0 m' c) := fun c => by
    obtain ⟨a0, a1, a2, a3, a4, a5, a6, a7, a8, a9, a10, a11, a12, a13, a14, a15⟩ := hargs c
    exact
      { layer := { a0 := a0.symm, a1 := a1.symm, a2 := a2.symm, a3 := a3.symm, a4 := a4.symm, a5 := a5.symm }
        recur := { a6 := a6.symm, a7 := a7.symm, a8 := a8.symm, a9 := a9.symm, a10 := a10.symm, a11 := a11.symm, a12 := a12.symm, a13 := a13.symm }
        head := { a14 := a14.symm, a15 := a15.symm } }
  refine ⟨fun c => ReferenceIdeal.Run.Vfin m' c (Proc.devRef .tc ReferenceIdeal.main_v108), ?_, ?_⟩
  · refine (θ_run _ _ _).mono (fun r hr c => ?_) (KernelIdeal.Run.run_result m g)
    obtain ⟨⟨o, ho, he⟩, hk⟩ := hr.1 c
    exact ⟨he.trans (result_eq (h c) ho), Frames.sixteen hk⟩
  · exact (θ_run _ _ _).mono (fun r hr c => ⟨(hr.1 c).1, Frames.sixteen (hr.1 c).2⟩) (ReferenceIdeal.Run.run_result m' g')

end Cert.Value

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim: the programs' stated facts, and each of its conjuncts. -/
theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Value.algebraic⟩

end Cert.Proof

end
